-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v10) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S8x8192x96 : Shape := ⟨3, ![8, 8192, 96]⟩
abbrev S8x8192x64 : Shape := ⟨3, ![8, 8192, 64]⟩
abbrev S_ : Shape := ⟨0, ![]⟩

class Facts : Prop where
  bitsLt_bf16_f32 : FTy.bits .bf16 < FTy.bits .f32
  bcast_S_S8x8192x96 : S_.BroadcastsInDim S8x8192x96 (![] : Fin 0 → Fin S8x8192x96.rank)
  reducesTo_S8x8192x96_S_d0_1_2 : S8x8192x96.ReducesTo [0, 1, 2] S_
  h_S_ : 0 < S_.numel
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn_part1 {F : FTy → Type} [FloatOps F] (main_v16 : IVec S_ 1) (main_v17 : FVec F S8x8192x64 .f32) : IVec S_ 1 :=
  let main_v18 : FVec F S8x8192x64 .f32 := Host.absf main_v17
  let main_cst_4 : FVec F S_ .f32 := constant S_ .f32 0x7F800000#32
  let main_v19 : FVec F S8x8192x64 .f32 := broadcastInDim S8x8192x64 ![] bcast_S_S8x8192x64 main_cst_4
  let main_v20 : IVec S8x8192x64 1 := cmpf .olt main_v18 main_v19
  let main_c_5 : IVec S_ 1 := constantI S_ 1 1#1
  let main_v21 : IVec S_ 1 := (fun x v => Host.reduce IntOp.andi x v reducesTo_S8x8192x64_S_d0_1_2 h_S_) main_v20 main_c_5
  let main_v22 : IVec S_ 1 := andi main_v16 main_v21
  main_v22

def fn {F : FTy → Type} [FloatOps F] (main_arg0 : FVec F S8x8192x96 .bf16) (main_arg1 : FVec F S8x8192x96 .bf16) (main_arg2 : FVec F S8x8192x64 .bf16) (main_arg3 : FVec F S8x8192x64 .bf16) : IVec S_ 1 :=
  let main_v0 : FVec F S8x8192x96 .f32 := (extf .f32 · bitsLt_bf16_f32) main_arg0
  let main_v1 : FVec F S8x8192x96 .f32 := Host.absf main_v0
  let main_cst : FVec F S_ .f32 := constant S_ .f32 0x7F800000#32
  let main_v2 : FVec F S8x8192x96 .f32 := broadcastInDim S8x8192x96 ![] bcast_S_S8x8192x96 main_cst
  let main_v3 : IVec S8x8192x96 1 := cmpf .olt main_v1 main_v2
  let main_c : IVec S_ 1 := constantI S_ 1 1#1
  let main_v4 : IVec S_ 1 := (fun x v => Host.reduce IntOp.andi x v reducesTo_S8x8192x96_S_d0_1_2 h_S_) main_v3 main_c
  let main_v5 : FVec F S8x8192x96 .f32 := (extf .f32 · bitsLt_bf16_f32) main_arg1
  let main_v6 : FVec F S8x8192x96 .f32 := Host.absf main_v5
  let main_cst_0 : FVec F S_ .f32 := constant S_ .f32 0x7F800000#32
  let main_v7 : FVec F S8x8192x96 .f32 := broadcastInDim S8x8192x96 ![] bcast_S_S8x8192x96 main_cst_0
  let main_v8 : IVec S8x8192x96 1 := cmpf .olt main_v6 main_v7
  let main_c_1 : IVec S_ 1 := constantI S_ 1 1#1
  let main_v9 : IVec S_ 1 := (fun x v => Host.reduce IntOp.andi x v reducesTo_S8x8192x96_S_d0_1_2 h_S_) main_v8 main_c_1
  let main_v10 : IVec S_ 1 := andi main_v4 main_v9
  let main_v11 : FVec F S8x8192x64 .f32 := (extf .f32 · bitsLt_bf16_f32) main_arg2
  let main_v12 : FVec F S8x8192x64 .f32 := Host.absf main_v11
  let main_cst_2 : FVec F S_ .f32 := constant S_ .f32 0x7F800000#32
  let main_v13 : FVec F S8x8192x64 .f32 := broadcastInDim S8x8192x64 ![] bcast_S_S8x8192x64 main_cst_2
  let main_v14 : IVec S8x8192x64 1 := cmpf .olt main_v12 main_v13
  let main_c_3 : IVec S_ 1 := constantI S_ 1 1#1
  let main_v15 : IVec S_ 1 := (fun x v => Host.reduce IntOp.andi x v reducesTo_S8x8192x64_S_d0_1_2 h_S_) main_v14 main_c_3
  let main_v16 : IVec S_ 1 := andi main_v10 main_v15
  let main_v17 : FVec F S8x8192x64 .f32 := (extf .f32 · bitsLt_bf16_f32) main_arg3
  fn_part1 (F := F) main_v16 main_v17
-- ==== Kernel.lean ====
abbrev S8x8192x96 : Shape := ⟨3, ![8, 8192, 96]⟩
abbrev S8x8192x64 : Shape := ⟨3, ![8, 8192, 64]⟩
abbrev S40 : Shape := ⟨1, ![40]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S1x2048x96 : Shape := ⟨3, ![1, 2048, 96]⟩
abbrev S1 : Shape := ⟨1, ![1]⟩
abbrev S1x512x96 : Shape := ⟨3, ![1, 512, 96]⟩
abbrev S1x512x64 : Shape := ⟨3, ![1, 512, 64]⟩
abbrev S1x2048x64 : Shape := ⟨3, ![1, 2048, 64]⟩
abbrev S1x2048x1 : Shape := ⟨3, ![1, 2048, 1]⟩
abbrev S1x8192x96 : Shape := ⟨3, ![1, 8192, 96]⟩
abbrev S8192x96 : Shape := ⟨2, ![8192, 96]⟩
abbrev S512x96 : Shape := ⟨2, ![512, 96]⟩
abbrev S512x64 : Shape := ⟨2, ![512, 64]⟩
abbrev S2048x96 : Shape := ⟨2, ![2048, 96]⟩
abbrev S2048x64 : Shape := ⟨2, ![2048, 64]⟩
abbrev S2048x512 : Shape := ⟨2, ![2048, 512]⟩
abbrev S2048x1 : Shape := ⟨2, ![2048, 1]⟩
abbrev S2048 : Shape := ⟨1, ![2048]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x1024x96 : Shape := ⟨3, ![1, 1024, 96]⟩
abbrev S1024x96 : Shape := ⟨2, ![1024, 96]⟩
abbrev S1x1024x64 : Shape := ⟨3, ![1, 1024, 64]⟩
abbrev S1024x64 : Shape := ⟨2, ![1024, 64]⟩
abbrev S1024x512 : Shape := ⟨2, ![1024, 512]⟩
abbrev S1x1024x1 : Shape := ⟨3, ![1, 1024, 1]⟩
abbrev S1024x1 : Shape := ⟨2, ![1024, 1]⟩
abbrev S1024 : Shape := ⟨1, ![1024]⟩
abbrev S1x1536x96 : Shape := ⟨3, ![1, 1536, 96]⟩
abbrev S1536x96 : Shape := ⟨2, ![1536, 96]⟩
abbrev S1x1536x64 : Shape := ⟨3, ![1, 1536, 64]⟩
abbrev S1536x64 : Shape := ⟨2, ![1536, 64]⟩
abbrev S1536x512 : Shape := ⟨2, ![1536, 512]⟩
abbrev S1x1536x1 : Shape := ⟨3, ![1, 1536, 1]⟩
abbrev S1536x1 : Shape := ⟨2, ![1536, 1]⟩
abbrev S1536 : Shape := ⟨1, ![1536]⟩

abbrev nBuf : Space → Nat
  | .hbm => 34
  | .vmem => 21
  | .smem => 4
  | _ => 0

abbrev bufTy : (tb : Table) → Fin (tcTables nBuf tb) → BufTy
  | .hbm, ⟨0, _⟩ => ⟨S8x8192x96, .bf16⟩
  | .hbm, ⟨1, _⟩ => ⟨S8x8192x96, .bf16⟩
  | .hbm, ⟨2, _⟩ => ⟨S8x8192x64, .bf16⟩
  | .hbm, ⟨3, _⟩ => ⟨S8x8192x64, .bf16⟩
  | .hbm, ⟨4, _⟩ => ⟨S8x8192x8192, .f32⟩
  | .hbm, ⟨5, _⟩ => ⟨S8192, .i32⟩
  | .hbm, ⟨6, _⟩ => ⟨S1x1x8192, .i32⟩
  | .hbm, ⟨7, _⟩ => ⟨S1x8192x1, .i32⟩
  | .hbm, ⟨8, _⟩ => ⟨S1x8192x8192, .i32⟩
  | .hbm, ⟨9, _⟩ => ⟨S1x8192x8192, .i32⟩
  | .hbm, ⟨10, _⟩ => ⟨S1x8192x8192, .i1⟩
  | .hbm, ⟨11, _⟩ => ⟨S8x8192x8192, .i1⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S_, .f32⟩
  | .hbm, ⟨16, _⟩ => ⟨S8x8192, .f32⟩
  | .hbm, ⟨17, _⟩ => ⟨S8x8192x1, .f32⟩
  | .hbm, ⟨18, _⟩ => ⟨S8x8192x8192, .f32⟩
  | .hbm, ⟨19, _⟩ => ⟨S8x8192x8192, .f32⟩
  | .hbm, ⟨20, _⟩ => ⟨S8x8192x8192, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8192, .f32⟩
  | .hbm, ⟨25, _⟩ => ⟨S8x8192x8192, .f32⟩
  | .hbm, ⟨26, _⟩ => ⟨S8x8192x64, .f32⟩
  | .hbm, ⟨27, _⟩ => ⟨S8x8192x64, .f32⟩
  | .hbm, ⟨28, _⟩ => ⟨S8x8192x64, .bf16⟩
  | .hbm, ⟨29, _⟩ => ⟨S8x8192x1, .f32⟩
  | .hbm, ⟨30, _⟩ => ⟨S8x8192x1, .f32⟩
  | .hbm, ⟨31, _⟩ => ⟨S8x8192x96, .bf16⟩
  | .hbm, ⟨32, _⟩ => ⟨S8x8192x96, .bf16⟩
  | .hbm, ⟨33, _⟩ => ⟨S8x8192x64, .bf16⟩
  | .local _ .vmem, ⟨0, _⟩ => ⟨S1x2048x96, .bf16⟩
  | .local _ .vmem, ⟨1, _⟩ => ⟨S1x2048x96, .bf16⟩
  | .local _ .vmem, ⟨2, _⟩ => ⟨S1x512x96, .bf16⟩
  | .local _ .vmem, ⟨3, _⟩ => ⟨S1x512x96, .bf16⟩
  | .local _ .vmem, ⟨4, _⟩ => ⟨S1x512x64, .bf16⟩
  | .local _ .vmem, ⟨5, _⟩ => ⟨S1x512x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x1, .f32⟩
  | .local _ .vmem, ⟨11, _⟩ => ⟨S1x2048x1, .f32⟩
  | .local _ .vmem, ⟨12, _⟩ => ⟨S1x8192x96, .bf16⟩
  | .local _ .vmem, ⟨13, _⟩ => ⟨S1x8192x96, .bf16⟩
  | .local _ .vmem, ⟨14, _⟩ => ⟨S1x512x96, .bf16⟩
  | .local _ .vmem, ⟨15, _⟩ => ⟨S1x512x96, .bf16⟩
  | .local _ .vmem, ⟨16, _⟩ => ⟨S1x512x64, .bf16⟩
  | .local _ .vmem, ⟨17, _⟩ => ⟨S1x512x64, .bf16⟩
  | .local _ .vmem, ⟨18, _⟩ => ⟨S8192x96, .f32⟩
  | .local _ .vmem, ⟨19, _⟩ => ⟨S512x96, .f32⟩
  | .local _ .vmem, ⟨20, _⟩ => ⟨S512x64, .f32⟩
  | .local _ .smem, ⟨0, _⟩ => ⟨S40, .i32⟩
  | .local _ .smem, ⟨1, _⟩ => ⟨S40, .i32⟩
  | .local _ .smem, ⟨2, _⟩ => ⟨S40, .i32⟩
  | .local _ .smem, ⟨3, _⟩ => ⟨S40, .i32⟩
  | _, _ => ⟨S8x8192x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev main_v24_2 : Ref sig .tc := ⟨.hbm, 33, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 40], ![false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v12 : Index := Scalar.indexCast arg1
  ![v12.toNat]
def k0_mult1 (v3 : BitVec 32) : BitVec 32 :=
  let c2048_i32 : BitVec 32 := 2048#32
  let v84 : BitVec 32 := Scalar.muli v3 c2048_i32
  let c0_i32_41 : BitVec 32 := 0#32
  let v85 : BitVec 32 := Scalar.addi v84 c0_i32_41
  v85
def k0_cond3 (v13 : BitVec 32) : BitVec 1 :=
  let c0_i32_3 : BitVec 32 := 0#32
  let v14 : BitVec 1 := Scalar.cmpi .eq v13 c0_i32_3
  let v15 : BitVec 32 := Scalar.extui v14
  let c0_i32_4 : BitVec 32 := 0#32
  let v16 : BitVec 1 := Scalar.cmpi .ne v15 c0_i32_4
  v16

def k0_off3 (v3 : BitVec 32) : Fin 2 → Nat :=
  let c2048_i32 : BitVec 32 := 2048#32
  let v84 : BitVec 32 := Scalar.muli v3 c2048_i32
  let c0_i32_41 : BitVec 32 := 0#32
  let v85 : BitVec 32 := Scalar.addi v84 c0_i32_41
  let v86 : BitVec 32 := v85
  let v87 : Index := Scalar.indexCast v86
  let c0_42 : Index := 0#32
  ![v87.toNat, 0]

def k0_chk1 (v3 : BitVec 32) (v13 : BitVec 32) : Prop :=
  (∀ (k0_h3 : k0_cond3 v13 = 1#1), 512 ∣ (k0_mult1 v3).toNat) ∧
  (∀ (k0_h3 : k0_cond3 v13 = 1#1), ∀ a, (k0_off3 v3) a + S2048x96.size a ≤ S8192x96.size a)
theorem k0_mult1_dvd : ∀ (v3 : BitVec 32) (v13 : BitVec 32) (k0_hw1 : k0_chk1 v3 v13), ∀ (k0_h3 : k0_cond3 v13 = 1#1), 512 ∣ (k0_mult1 v3).toNat := fun v3 v13 k0_hw1 k0_h3 => k0_hw1.1 k0_h3
theorem k0_off3_inb : ∀ (v3 : BitVec 32) (v13 : BitVec 32) (k0_hw1 : k0_chk1 v3 v13), ∀ (k0_h3 : k0_cond3 v13 = 1#1), ∀ a, (k0_off3 v3) a + S2048x96.size a ≤ S8192x96.size a := fun v3 v13 k0_hw1 k0_h3 => k0_hw1.2 k0_h3

def k0_off4 (i : grid0.Coords) : Fin 1 → Nat :=
  let arg1 : BitVec 32 := BitVec.ofNat 32 (i 1).val
  let v17 : Index := Scalar.indexCast arg1
  ![v17.toNat]
def k0_mult2 (v3 : BitVec 32) : BitVec 32 :=
  let c2048_i32_41 : BitVec 32 := 2048#32
  let v96 : BitVec 32 := Scalar.muli v3 c2048_i32_41
  let c1536_i32_42 : BitVec 32 := 1536#32
  let v97 : BitVec 32 := Scalar.addi v96 c1536_i32_42
  v97
def k0_cond4 (v18 : BitVec 32) : BitVec 1 :=
  let c1_i32 : BitVec 32 := 1#32
  let v19 : BitVec 1 := Scalar.cmpi .eq v18 c1_i32
  let v20 : BitVec 32 := Scalar.extui v19
  let c0_i32_5 : BitVec 32 := 0#32
  let v21 : BitVec 1 := Scalar.cmpi .ne v20 c0_i32_5
  v21

def k0_off5 (v3 : BitVec 32) : Fin 2 → Nat :=
  let c2048_i32_41 : BitVec 32 := 2048#32
  let v96 : BitVec 32 := Scalar.muli v3 c2048_i32_41
  let c1536_i32_42 : BitVec 32 := 1536#32
  let v97 : BitVec 32 := Scalar.addi v96 c1536_i32_42
  let v98 : BitVec 32 := v97
  let v99 : Index := Scalar.indexCast v98
  let c0_43 : Index := 0#32
  ![v99.toNat, 0]

def k0_chk2 (v3 : BitVec 32) (v18 : BitVec 32) : Prop :=
  (∀ (k0_h4 : k0_cond4 v18 = 1#1), 512 ∣ (k0_mult2 v3).toNat) ∧
  (∀ (k0_h4 : k0_cond4 v18 = 1#1), ∀ a, (k0_off5 v3) a + S512x96.size a ≤ S8192x96.size a)
theorem k0_mult2_dvd : ∀ (v3 : BitVec 32) (v18 : BitVec 32) (k0_hw2 : k0_chk2 v3 v18), ∀ (k0_h4 : k0_cond4 v18 = 1#1), 512 ∣ (k0_mult2 v3).toNat := fun v3 v18 k0_hw2 k0_h4 => k0_hw2.1 k0_h4
theorem k0_off5_inb : ∀ (v3 : BitVec 32) (v18 : BitVec 32) (k0_hw2 : k0_chk2 v3 v18), ∀ (k0_h4 : k0_cond4 v18 = 1#1), ∀ a, (k0_off5 v3) a + S512x96.size a ≤ S8192x96.size a := fun v3 v18 k0_hw2 k0_h4 => k0_hw2.2 k0_h4

def k0_off6 (i : grid0.Coords) : Fin 1 → Nat :=
  let arg1 : BitVec 32 := BitVec.ofNat 32 (i 1).val
  let v22 : Index := Scalar.indexCast arg1
  ![v22.toNat]
def k0_mult3 (v3 : BitVec 32) : BitVec 32 :=
  let c2048_i32_41 : BitVec 32 := 2048#32
  let v96 : BitVec 32 := Scalar.muli v3 c2048_i32_41
  let c1024_i32_42 : BitVec 32 := 1024#32
  let v97 : BitVec 32 := Scalar.addi v96 c1024_i32_42
  v97
def k0_cond5 (v23 : BitVec 32) : BitVec 1 :=
  let c2_i32 : BitVec 32 := 2#32
  let v24 : BitVec 1 := Scalar.cmpi .eq v23 c2_i32
  let v25 : BitVec 32 := Scalar.extui v24
  let c0_i32_6 : BitVec 32 := 0#32
  let v26 : BitVec 1 := Scalar.cmpi .ne v25 c0_i32_6
  v26

def k0_off7 (v3 : BitVec 32) : Fin 2 → Nat :=
  let c2048_i32_41 : BitVec 32 := 2048#32
  let v96 : BitVec 32 := Scalar.muli v3 c2048_i32_41
  let c1024_i32_42 : BitVec 32 := 1024#32
  let v97 : BitVec 32 := Scalar.addi v96 c1024_i32_42
  let v98 : BitVec 32 := v97
  let v99 : Index := Scalar.indexCast v98
  let c0_43 : Index := 0#32
  ![v99.toNat, 0]

def k0_chk3 (v3 : BitVec 32) (v23 : BitVec 32) : Prop :=
  (∀ (k0_h5 : k0_cond5 v23 = 1#1), 512 ∣ (k0_mult3 v3).toNat) ∧
  (∀ (k0_h5 : k0_cond5 v23 = 1#1), ∀ a, (k0_off7 v3) a + S1024x96.size a ≤ S8192x96.size a)
theorem k0_mult3_dvd : ∀ (v3 : BitVec 32) (v23 : BitVec 32) (k0_hw3 : k0_chk3 v3 v23), ∀ (k0_h5 : k0_cond5 v23 = 1#1), 512 ∣ (k0_mult3 v3).toNat := fun v3 v23 k0_hw3 k0_h5 => k0_hw3.1 k0_h5
theorem k0_off7_inb : ∀ (v3 : BitVec 32) (v23 : BitVec 32) (k0_hw3 : k0_chk3 v3 v23), ∀ (k0_h5 : k0_cond5 v23 = 1#1), ∀ a, (k0_off7 v3) a + S1024x96.size a ≤ S8192x96.size a := fun v3 v23 k0_hw3 k0_h5 => k0_hw3.2 k0_h5

def k0_off8 (i : grid0.Coords) : Fin 1 → Nat :=
  let arg1 : BitVec 32 := BitVec.ofNat 32 (i 1).val
  let v27 : Index := Scalar.indexCast arg1
  ![v27.toNat]
def k0_mult4 (v3 : BitVec 32) : BitVec 32 :=
  let c2048_i32_42 : BitVec 32 := 2048#32
  let v96 : BitVec 32 := Scalar.muli v3 c2048_i32_42
  let c512_i32_43 : BitVec 32 := 512#32
  let v97 : BitVec 32 := Scalar.addi v96 c512_i32_43
  v97
def k0_cond6 (v28 : BitVec 32) : BitVec 1 :=
  let c3_i32 : BitVec 32 := 3#32
  let v29 : BitVec 1 := Scalar.cmpi .eq v28 c3_i32
  let v30 : BitVec 32 := Scalar.extui v29
  let c0_i32_7 : BitVec 32 := 0#32
  let v31 : BitVec 1 := Scalar.cmpi .ne v30 c0_i32_7
  v31

def k0_off9 (v3 : BitVec 32) : Fin 2 → Nat :=
  let c2048_i32_42 : BitVec 32 := 2048#32
  let v96 : BitVec 32 := Scalar.muli v3 c2048_i32_42
  let c512_i32_43 : BitVec 32 := 512#32
  let v97 : BitVec 32 := Scalar.addi v96 c512_i32_43
  let v98 : BitVec 32 := v97
  let v99 : Index := Scalar.indexCast v98
  let c0_44 : Index := 0#32
  ![v99.toNat, 0]

def k0_chk4 (v3 : BitVec 32) (v28 : BitVec 32) : Prop :=
  (∀ (k0_h6 : k0_cond6 v28 = 1#1), 512 ∣ (k0_mult4 v3).toNat) ∧
  (∀ (k0_h6 : k0_cond6 v28 = 1#1), ∀ a, (k0_off9 v3) a + S1536x96.size a ≤ S8192x96.size a)
theorem k0_mult4_dvd : ∀ (v3 : BitVec 32) (v28 : BitVec 32) (k0_hw4 : k0_chk4 v3 v28), ∀ (k0_h6 : k0_cond6 v28 = 1#1), 512 ∣ (k0_mult4 v3).toNat := fun v3 v28 k0_hw4 k0_h6 => k0_hw4.1 k0_h6
theorem k0_off9_inb : ∀ (v3 : BitVec 32) (v28 : BitVec 32) (k0_hw4 : k0_chk4 v3 v28), ∀ (k0_h6 : k0_cond6 v28 = 1#1), ∀ a, (k0_off9 v3) a + S1536x96.size a ≤ S8192x96.size a := fun v3 v28 k0_hw4 k0_h6 => k0_hw4.2 k0_h6

def k0_off10 (i : grid0.Coords) : Fin 1 → Nat :=
  let arg1 : BitVec 32 := BitVec.ofNat 32 (i 1).val
  let v32 : Index := Scalar.indexCast arg1
  ![v32.toNat]
def k0_mult5 (v3 : BitVec 32) : BitVec 32 :=
  let c2048_i32_43 : BitVec 32 := 2048#32
  let v96 : BitVec 32 := Scalar.muli v3 c2048_i32_43
  let c0_i32_44 : BitVec 32 := 0#32
  let v97 : BitVec 32 := Scalar.addi v96 c0_i32_44
  v97
def k0_cond7 (v33 : BitVec 32) : BitVec 1 :=
  let c4_i32 : BitVec 32 := 4#32
  let v34 : BitVec 1 := Scalar.cmpi .eq v33 c4_i32
  let v35 : BitVec 32 := Scalar.extui v34
  let c0_i32_8 : BitVec 32 := 0#32
  let v36 : BitVec 1 := Scalar.cmpi .ne v35 c0_i32_8
  v36

def k0_off11 (v3 : BitVec 32) : Fin 2 → Nat :=
  let c2048_i32_43 : BitVec 32 := 2048#32
  let v96 : BitVec 32 := Scalar.muli v3 c2048_i32_43
  let c0_i32_44 : BitVec 32 := 0#32
  let v97 : BitVec 32 := Scalar.addi v96 c0_i32_44
  let v98 : BitVec 32 := v97
  let v99 : Index := Scalar.indexCast v98
  let c0_45 : Index := 0#32
  ![v99.toNat, 0]

def k0_chk5 (v3 : BitVec 32) (v33 : BitVec 32) : Prop :=
  (∀ (k0_h7 : k0_cond7 v33 = 1#1), 512 ∣ (k0_mult5 v3).toNat) ∧
  (∀ (k0_h7 : k0_cond7 v33 = 1#1), ∀ a, (k0_off11 v3) a + S2048x96.size a ≤ S8192x96.size a)
theorem k0_mult5_dvd : ∀ (v3 : BitVec 32) (v33 : BitVec 32) (k0_hw5 : k0_chk5 v3 v33), ∀ (k0_h7 : k0_cond7 v33 = 1#1), 512 ∣ (k0_mult5 v3).toNat := fun v3 v33 k0_hw5 k0_h7 => k0_hw5.1 k0_h7
theorem k0_off11_inb : ∀ (v3 : BitVec 32) (v33 : BitVec 32) (k0_hw5 : k0_chk5 v3 v33), ∀ (k0_h7 : k0_cond7 v33 = 1#1), ∀ a, (k0_off11 v3) a + S2048x96.size a ≤ S8192x96.size a := fun v3 v33 k0_hw5 k0_h7 => k0_hw5.2 k0_h7

def k0_off12 (i : grid0.Coords) : Fin 1 → Nat :=
  let arg1 : BitVec 32 := BitVec.ofNat 32 (i 1).val
  let v37 : Index := Scalar.indexCast arg1
  ![v37.toNat]
def k0_cond9 (i : grid0.Coords) : BitVec 1 :=
  let arg1 : BitVec 32 := BitVec.ofNat 32 (i 1).val
  let c39_i32 : BitVec 32 := 39#32
  let v42 : BitVec 1 := Scalar.cmpi .eq arg1 c39_i32
  let v43 : BitVec 32 := Scalar.extui v42
  let c0_i32_11 : BitVec 32 := 0#32
  let v44 : BitVec 1 := Scalar.cmpi .ne v43 c0_i32_11
  v44

def k0_cond8 (v38 : BitVec 32) : BitVec 1 :=
  let c1_i32_9 : BitVec 32 := 1#32
  let v39 : BitVec 1 := Scalar.cmpi .eq v38 c1_i32_9
  let v40 : BitVec 32 := Scalar.extui v39
  let c0_i32_10 : BitVec 32 := 0#32
  let v41 : BitVec 1 := Scalar.cmpi .ne v40 c0_i32_10
  v41

def cc0_transform_0 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x96 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x96 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8192x96 : Shape := ⟨3, ![8, 8192, 96]⟩
abbrev S8x8192x64 : Shape := ⟨3, ![8, 8192, 64]⟩
abbrev S8x8192x8192 : Shape := ⟨3, ![8, 8192, 8192]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩

abbrev nBuf : Space → Nat
  | .hbm => 86
  | .vmem => 0
  | .smem => 0
  | _ => 0

abbrev bufTy : (tb : Table) → Fin (tcTables nBuf tb) → BufTy
  | .hbm, ⟨0, _⟩ => ⟨S8x8192x96, .bf16⟩
  | .hbm, ⟨1, _⟩ => ⟨S8x8192x96, .bf16⟩
  | .hbm, ⟨2, _⟩ => ⟨S8x8192x64, .bf16⟩
  | .hbm, ⟨3, _⟩ => ⟨S8x8192x64, .bf16⟩
  | .hbm, ⟨4, _⟩ => ⟨S8x8192x96, .f32⟩
  | .hbm, ⟨5, _⟩ => ⟨S8x8192x96, .f32⟩
  | .hbm, ⟨6, _⟩ => ⟨S8x8192x64, .f32⟩
  | .hbm, ⟨7, _⟩ => ⟨S8x8192x64, .f32⟩
  | .hbm, ⟨8, _⟩ => ⟨S8x8192x8192, .f32⟩
  | .hbm, ⟨9, _⟩ => ⟨S8192, .i32⟩
  | .hbm, ⟨10, _⟩ => ⟨S1x1x8192, .i32⟩
  | .hbm, ⟨11, _⟩ => ⟨S1x8192x1, .i32⟩
  | .hbm, ⟨12, _⟩ => ⟨S1x8192x8192, .i32⟩
  | .hbm, ⟨13, _⟩ => ⟨S1x8192x8192, .i32⟩
  | .hbm, ⟨14, _⟩ => ⟨S1x8192x8192, .i1⟩
  | .hbm, ⟨15, _⟩ => ⟨S_, .f32⟩
  | .hbm, ⟨16, _⟩ => ⟨S_, .f32⟩
  | .hbm, ⟨17, _⟩ => ⟨S8x8192x8192, .i1⟩
  | .hbm, ⟨18, _⟩ => ⟨S8x8192x8192, .f32⟩
  | .hbm, ⟨19, _⟩ => ⟨S8x8192x8192, .f32⟩
  | .hbm, ⟨20, _⟩ => ⟨S_, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .i1⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .i1⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192x1, .f32⟩
  | .hbm, ⟨54, _⟩ => ⟨S8x8192x8192, .f32⟩
  | .hbm, ⟨55, _⟩ => ⟨S8x8192x8192, .f32⟩
  | .hbm, ⟨56, _⟩ => ⟨S8x8192x1, .f32⟩
  | .hbm, ⟨57, _⟩ => ⟨S_, .f32⟩
  | .hbm, ⟨58, _⟩ => ⟨S8x8192x1, .f32⟩
  | .hbm, ⟨59, _⟩ => ⟨S8x8192x1, .f32⟩
  | .hbm, ⟨60, _⟩ => ⟨S8x8192x64, .f32⟩
  | .hbm, ⟨61, _⟩ => ⟨S8x64x8192, .f32⟩
  | .hbm, ⟨62, _⟩ => ⟨S8x8192x64, .f32⟩
  | .hbm, ⟨63, _⟩ => ⟨S8x8192x8192, .f32⟩
  | .hbm, ⟨64, _⟩ => ⟨S8x8192x8192, .f32⟩
  | .hbm, ⟨65, _⟩ => ⟨S8x8192x8192, .f32⟩
  | .hbm, ⟨66, _⟩ => ⟨S8x8192x8192, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S8x8192x1, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x8192, .f32⟩
  | .hbm, ⟨76, _⟩ => ⟨S8x8192x8192, .f32⟩
  | .hbm, ⟨77, _⟩ => ⟨S8x8192x8192, .f32⟩
  | .hbm, ⟨78, _⟩ => ⟨S_, .f32⟩
  | .hbm, ⟨79, _⟩ => ⟨S8x8192x8192, .f32⟩
  | .hbm, ⟨80, _⟩ => ⟨S8x8192x8192, .f32⟩
  | .hbm, ⟨81, _⟩ => ⟨S8x8192x96, .f32⟩
  | .hbm, ⟨82, _⟩ => ⟨S8x8192x96, .f32⟩
  | .hbm, ⟨83, _⟩ => ⟨S8x8192x96, .bf16⟩
  | .hbm, ⟨84, _⟩ => ⟨S8x8192x96, .bf16⟩
  | .hbm, ⟨85, _⟩ => ⟨S8x8192x64, .bf16⟩
  | _, _ => ⟨S8x8192x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_v11_1 : Ref sig .tc := ⟨.hbm, 17, rfl⟩
abbrev main_call0_v2 : Ref sig .tc := ⟨.hbm, 18, rfl⟩
abbrev main_v11_0 : Ref sig .tc := ⟨.hbm, 19, rfl⟩
abbrev main_call0_cst : Ref sig .tc := ⟨.hbm, 20, rfl⟩
abbrev main_v11_2 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call1_cst : Ref sig .tc := ⟨.hbm, 78, rfl⟩
abbrev main_call1_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== Kernel2.lean ====
abbrev S8192x1024 : Shape := ⟨2, ![8192, 1024]⟩
abbrev S8192x5632 : Shape := ⟨2, ![8192, 5632]⟩
abbrev S1024x5632 : Shape := ⟨2, ![1024, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x1024, .f32⟩
  | .hbm, ⟨3, _⟩ => ⟨S8192x5632, .f32⟩
  | .hbm, ⟨4, _⟩ => ⟨S_, .f32⟩
  | .hbm, ⟨5, _⟩ => ⟨S1024x5632, .f32⟩
  | .hbm, ⟨6, _⟩ => ⟨S8192x5632, .f32⟩
  | .hbm, ⟨7, _⟩ => ⟨S5632x1024, .f32⟩
  | .hbm, ⟨8, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S1024x5632 : Shape := ⟨2, ![1024, 5632]⟩
abbrev S8192x1024 : Shape := ⟨2, ![8192, 1024]⟩
abbrev S8192x5632 : Shape := ⟨2, ![8192, 5632]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x5632, .bf16⟩
  | .hbm, ⟨1, _⟩ => ⟨S8192x1024, .f32⟩
  | .hbm, ⟨2, _⟩ => ⟨S8192x5632, .bf16⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S1024x5632 : Shape := ⟨2, ![1024, 5632]⟩
abbrev S8192x1024 : Shape := ⟨2, ![8192, 1024]⟩
abbrev S8192x5632 : Shape := ⟨2, ![8192, 5632]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x5632, .bf16⟩
  | .hbm, ⟨1, _⟩ => ⟨S8192x1024, .f32⟩
  | .hbm, ⟨2, _⟩ => ⟨S8192x5632, .bf16⟩
  | .hbm, ⟨3, _⟩ => ⟨S1024x5632, .f32⟩
  | .hbm, ⟨4, _⟩ => ⟨S8192x5632, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x5632, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S1024x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2816x1024 : Shape := ⟨2, ![2816, 1024]⟩
abbrev S8192x1024 : Shape := ⟨2, ![8192, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2816x1024 : Shape := ⟨2, ![2816, 1024]⟩
abbrev S8192x1024 : Shape := ⟨2, ![8192, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S8192x1024, .f32⟩
  | .hbm, ⟨2, _⟩ => ⟨S2816x1024, .f32⟩
  | .hbm, ⟨3, _⟩ => ⟨S_, .f32⟩
  | .hbm, ⟨4, _⟩ => ⟨S8192x2816, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x5632, .f32⟩
  | .hbm, ⟨27, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩

abbrev nD : Nat := 1
abbrev τ : Topo := Topo.v7x

variable {F : FTy → Type} [FloatOps F]
-- ==== Kernel7.lean ====
abbrev S8192x1024 : Shape := ⟨2, ![8192, 1024]⟩
abbrev S1024x5632 : Shape := ⟨2, ![1024, 5632]⟩
abbrev S8192x5632 : Shape := ⟨2, ![8192, 5632]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x2816, .f32⟩
  | .hbm, ⟨7, _⟩ => ⟨S2816x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel10.lean ====
abbrev S8192x1024 : Shape := ⟨2, ![8192, 1024]⟩
abbrev S1024x3200 : Shape := ⟨2, ![1024, 3200]⟩
abbrev S8192x3200 : Shape := ⟨2, ![8192, 3200]⟩
abbrev S2048x1024 : Shape := ⟨2, ![2048, 1024]⟩
abbrev S1024x640 : Shape := ⟨2, ![1024, 640]⟩
abbrev S2048x640 : Shape := ⟨2, ![2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x3200, .f32⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S2048x640, .f32⟩
  | .local _ .vmem, ⟨5, _⟩ => ⟨S2048x640, .f32⟩
  | .local _ .vmem, ⟨6, _⟩ => ⟨S2048x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x3200 : Shape := ⟨2, ![1024, 3200]⟩
abbrev S8192x3200 : Shape := ⟨2, ![8192, 3200]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S8192x1024, .f32⟩
  | .hbm, ⟨3, _⟩ => ⟨S8192x3200, .f32⟩
  | .hbm, ⟨4, _⟩ => ⟨S_, .f32⟩
  | .hbm, ⟨5, _⟩ => ⟨S1024x3200, .f32⟩
  | .hbm, ⟨6, _⟩ => ⟨S8192x3200, .f32⟩
  | .hbm, ⟨7, _⟩ => ⟨S3200x1024, .f32⟩
  | .hbm, ⟨8, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S1024x3200 : Shape := ⟨2, ![1024, 3200]⟩
abbrev S8192x1024 : Shape := ⟨2, ![8192, 1024]⟩
abbrev S8192x3200 : Shape := ⟨2, ![8192, 3200]⟩
abbrev S1024x640 : Shape := ⟨2, ![1024, 640]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x3200, .bf16⟩
  | .hbm, ⟨1, _⟩ => ⟨S8192x1024, .f32⟩
  | .hbm, ⟨2, _⟩ => ⟨S8192x3200, .bf16⟩
  | .hbm, ⟨3, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S1024x3200 : Shape := ⟨2, ![1024, 3200]⟩
abbrev S8192x1024 : Shape := ⟨2, ![8192, 1024]⟩
abbrev S8192x3200 : Shape := ⟨2, ![8192, 3200]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x3200, .bf16⟩
  | .hbm, ⟨1, _⟩ => ⟨S8192x1024, .f32⟩
  | .hbm, ⟨2, _⟩ => ⟨S8192x3200, .bf16⟩
  | .hbm, ⟨3, _⟩ => ⟨S1024x3200, .f32⟩
  | .hbm, ⟨4, _⟩ => ⟨S8192x3200, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x3200, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S1024x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel13.lean ====
abbrev S8192x1024 : Shape := ⟨2, ![8192, 1024]⟩
abbrev S1024x2560 : Shape := ⟨2, ![1024, 2560]⟩
abbrev S8192x2560 : Shape := ⟨2, ![8192, 2560]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x2560, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x1024 : Shape := ⟨2, ![8192, 1024]⟩
abbrev S8192x2560 : Shape := ⟨2, ![8192, 2560]⟩
abbrev S1024x2560 : Shape := ⟨2, ![1024, 2560]⟩
abbrev S1024x1024 : Shape := ⟨2, ![1024, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S8192x1024, .f32⟩
  | .hbm, ⟨3, _⟩ => ⟨S8192x2560, .f32⟩
  | .hbm, ⟨4, _⟩ => ⟨S_, .f32⟩
  | .hbm, ⟨5, _⟩ => ⟨S1024x2560, .f32⟩
  | .hbm, ⟨6, _⟩ => ⟨S8192x2560, .f32⟩
  | .hbm, ⟨7, _⟩ => ⟨S2560x1024, .f32⟩
  | .hbm, ⟨8, _⟩ => ⟨S1024x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S1024x2560 : Shape := ⟨2, ![1024, 2560]⟩
abbrev S8192x1024 : Shape := ⟨2, ![8192, 1024]⟩
abbrev S8192x2560 : Shape := ⟨2, ![8192, 2560]⟩
abbrev S1024x512 : Shape := ⟨2, ![1024, 512]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S1024x2560, .bf16⟩
  | .hbm, ⟨1, _⟩ => ⟨S8192x1024, .f32⟩
  | .hbm, ⟨2, _⟩ => ⟨S8192x2560, .bf16⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S1024x2560 : Shape := ⟨2, ![1024, 2560]⟩
abbrev S8192x1024 : Shape := ⟨2, ![8192, 1024]⟩
abbrev S8192x2560 : Shape := ⟨2, ![8192, 2560]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S1024x2560, .bf16⟩
  | .hbm, ⟨1, _⟩ => ⟨S8192x1024, .f32⟩
  | .hbm, ⟨2, _⟩ => ⟨S8192x2560, .bf16⟩
  | .hbm, ⟨3, _⟩ => ⟨S1024x2560, .f32⟩
  | .hbm, ⟨4, _⟩ => ⟨S8192x2560, .f32⟩
  | .hbm, ⟨5, _⟩ => ⟨S_, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x2560, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | _, _ => ⟨S1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel16.lean ====
abbrev S8192x1536 : Shape := ⟨2, ![8192, 1536]⟩
abbrev S1536x1024 : Shape := ⟨2, ![1536, 1024]⟩
abbrev S8192x1024 : Shape := ⟨2, ![8192, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1536 : Shape := ⟨2, ![8192, 1536]⟩
abbrev S1536x1024 : Shape := ⟨2, ![1536, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1536, .f32⟩
  | .hbm, ⟨7, _⟩ => ⟨S1536x1024, .f32⟩
  | .hbm, ⟨8, _⟩ => ⟨S8192x1024, .f32⟩
  | .hbm, ⟨9, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel17.lean ====
abbrev S8192x1536 : Shape := ⟨2, ![8192, 1536]⟩
abbrev S8192x1024 : Shape := ⟨2, ![8192, 1024]⟩
abbrev S1536x1024 : Shape := ⟨2, ![1536, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S1536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .f32⟩
  | .hbm, ⟨2, _⟩ => ⟨S8192x1536, .f32⟩
  | .hbm, ⟨3, _⟩ => ⟨S_, .f32⟩
  | .hbm, ⟨4, _⟩ => ⟨S1536x1024, .f32⟩
  | .hbm, ⟨5, _⟩ => ⟨S8192x1024, .f32⟩
  | .hbm, ⟨6, _⟩ => ⟨S1024x1536, .f32⟩
  | .hbm, ⟨7, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S1536x1024 : Shape := ⟨2, ![1536, 1024]⟩
abbrev S8192x1024 : Shape := ⟨2, ![8192, 1024]⟩
abbrev S8192x1536 : Shape := ⟨2, ![8192, 1536]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S1536x1024, .bf16⟩
  | .hbm, ⟨1, _⟩ => ⟨S8192x1024, .f32⟩
  | .hbm, ⟨2, _⟩ => ⟨S8192x1536, .bf16⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .f32⟩
  | _, _ => ⟨S1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S1536x1024 : Shape := ⟨2, ![1536, 1024]⟩
abbrev S8192x1024 : Shape := ⟨2, ![8192, 1024]⟩
abbrev S_ : Shape := ⟨0, ![]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S1536x1024, .bf16⟩
  | .hbm, ⟨1, _⟩ => ⟨S8192x1024, .f32⟩
  | .hbm, ⟨2, _⟩ => ⟨S1536x1024, .f32⟩
  | .hbm, ⟨3, _⟩ => ⟨S_, .f32⟩
  | .hbm, ⟨4, _⟩ => ⟨S8192x1536, .f32⟩
  | .hbm, ⟨5, _⟩ => ⟨S8192x1024, .f32⟩
  | .hbm, ⟨6, _⟩ => ⟨S8192x1536, .f32⟩
  | .hbm, ⟨7, _⟩ => ⟨S8192x1536, .bf16⟩
  | _, _ => ⟨S1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference19Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel20.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel21.lean ====
abbrev S1024x1024 : Shape := ⟨2, ![1024, 1024]⟩
abbrev S8192x1024 : Shape := ⟨2, ![8192, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S8192x1024, .f32⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S8192x512 : Shape := ⟨2, ![8192, 512]⟩
abbrev S512x768 : Shape := ⟨2, ![512, 768]⟩
abbrev S8192x768 : Shape := ⟨2, ![8192, 768]⟩
abbrev S1024x512 : Shape := ⟨2, ![1024, 512]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x768, .bf16⟩
  | .hbm, ⟨2, _⟩ => ⟨S8192x768, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S1024x768, .f32⟩
  | .local _ .vmem, ⟨4, _⟩ => ⟨S1024x768, .f32⟩
  | .local _ .vmem, ⟨5, _⟩ => ⟨S1024x768, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x512 : Shape := ⟨2, ![8192, 512]⟩
abbrev S512x768 : Shape := ⟨2, ![512, 768]⟩
abbrev S8192x768 : Shape := ⟨2, ![8192, 768]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x768, .bf16⟩
  | .hbm, ⟨2, _⟩ => ⟨S8192x512, .f32⟩
  | .hbm, ⟨3, _⟩ => ⟨S512x768, .f32⟩
  | .hbm, ⟨4, _⟩ => ⟨S8192x768, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S8192x512 : Shape := ⟨2, ![8192, 512]⟩
abbrev S8192x768 : Shape := ⟨2, ![8192, 768]⟩
abbrev S512x768 : Shape := ⟨2, ![512, 768]⟩
abbrev S1024x512 : Shape := ⟨2, ![1024, 512]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x768, .f32⟩
  | .hbm, ⟨2, _⟩ => ⟨S512x768, .f32⟩
  | .local _ .vmem, ⟨0, _⟩ => ⟨S1024x512, .bf16⟩
  | .local _ .vmem, ⟨1, _⟩ => ⟨S1024x512, .bf16⟩
  | .local _ .vmem, ⟨2, _⟩ => ⟨S1024x768, .f32⟩
  | .local _ .vmem, ⟨3, _⟩ => ⟨S1024x768, .f32⟩
  | .local _ .vmem, ⟨4, _⟩ => ⟨S512x768, .f32⟩
  | .local _ .vmem, ⟨5, _⟩ => ⟨S512x768, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x512 : Shape := ⟨2, ![8192, 512]⟩
abbrev S8192x768 : Shape := ⟨2, ![8192, 768]⟩
abbrev S_ : Shape := ⟨0, ![]⟩
abbrev S512x768 : Shape := ⟨2, ![512, 768]⟩
abbrev S768x512 : Shape := ⟨2, ![768, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x768, .f32⟩
  | .hbm, ⟨2, _⟩ => ⟨S8192x512, .f32⟩
  | .hbm, ⟨3, _⟩ => ⟨S_, .f32⟩
  | .hbm, ⟨4, _⟩ => ⟨S512x768, .f32⟩
  | .hbm, ⟨5, _⟩ => ⟨S8192x768, .f32⟩
  | .hbm, ⟨6, _⟩ => ⟨S768x512, .f32⟩
  | .hbm, ⟨7, _⟩ => ⟨S512x768, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel24.lean ====
abbrev S512x768 : Shape := ⟨2, ![512, 768]⟩
abbrev S8192x768 : Shape := ⟨2, ![8192, 768]⟩
abbrev S8192x512 : Shape := ⟨2, ![8192, 512]⟩
abbrev S2048x768 : Shape := ⟨2, ![2048, 768]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x768, .bf16⟩
  | .hbm, ⟨1, _⟩ => ⟨S8192x768, .f32⟩
  | .hbm, ⟨2, _⟩ => ⟨S8192x512, .bf16⟩
  | .local _ .vmem, ⟨0, _⟩ => ⟨S2048x768, .f32⟩
  | .local _ .vmem, ⟨1, _⟩ => ⟨S2048x768, .f32⟩
  | .local _ .vmem, ⟨2, _⟩ => ⟨S512x768, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .f32⟩
  | _, _ => ⟨S512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S512x768 : Shape := ⟨2, ![512, 768]⟩
abbrev S8192x768 : Shape := ⟨2, ![8192, 768]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S512x768, .bf16⟩
  | .hbm, ⟨1, _⟩ => ⟨S8192x768, .f32⟩
  | .hbm, ⟨2, _⟩ => ⟨S512x768, .f32⟩
  | .hbm, ⟨3, _⟩ => ⟨S_, .f32⟩
  | .hbm, ⟨4, _⟩ => ⟨S8192x512, .f32⟩
  | .hbm, ⟨5, _⟩ => ⟨S8192x768, .f32⟩
  | .hbm, ⟨6, _⟩ => ⟨S8192x512, .f32⟩
  | .hbm, ⟨7, _⟩ => ⟨S8192x512, .bf16⟩
  | _, _ => ⟨S512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x1024, .bf16⟩
  | .hbm, ⟨2, _⟩ => ⟨S8192x256, .f32⟩
  | .hbm, ⟨3, _⟩ => ⟨S256x1024, .f32⟩
  | .hbm, ⟨4, _⟩ => ⟨S8192x1024, .f32⟩
  | .hbm, ⟨5, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel26.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S256x1024, .f32⟩
  | .hbm, ⟨6, _⟩ => ⟨S8192x1024, .f32⟩
  | .hbm, ⟨7, _⟩ => ⟨S1024x256, .f32⟩
  | .hbm, ⟨8, _⟩ => ⟨S256x1024, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel27.lean ====
abbrev S256x1024 : Shape := ⟨2, ![256, 1024]⟩
abbrev S8192x1024 : Shape := ⟨2, ![8192, 1024]⟩
abbrev S8192x256 : Shape := ⟨2, ![8192, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .bf16⟩
  | .hbm, ⟨1, _⟩ => ⟨S8192x1024, .bf16⟩
  | .hbm, ⟨2, _⟩ => ⟨S8192x256, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S256x1024 : Shape := ⟨2, ![256, 1024]⟩
abbrev S8192x1024 : Shape := ⟨2, ![8192, 1024]⟩
abbrev S_ : Shape := ⟨0, ![]⟩
abbrev S8192x256 : Shape := ⟨2, ![8192, 256]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8192x1024, .bf16⟩
  | .hbm, ⟨2, _⟩ => ⟨S256x1024, .f32⟩
  | .hbm, ⟨3, _⟩ => ⟨S8192x1024, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S8192x256, .f32⟩
  | .hbm, ⟨8, _⟩ => ⟨S8192x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Step.lean ====
module

public import proofs.«01_k».proof.Proof.Gen.KernelIdeal.Skeleton
public import proofs.«01_k».proof.Proof.Gen.KernelIdeal.Launch
public import Idealize.ShloMosaic.Lib.VecWindow

/-!
What one grid point of the attention gradient does to the three scratch accumulators, as a function of the point's
blocks, of the four table words it reads, and of what the accumulators held before it.

A point belongs to a pair (key block `ki`, query block `qi`). Its `kind` says which rows of the query block lie on or
below the key block: kind 0 takes the whole block and no mask, kind `n` the last `512 * n` rows with the causal mask.
-/

@[expose] public section

noncomputable section

namespace Cert.Attn

open Cert.KernelIdeal Cert.KernelIdeal.Gen
open Idealize.ShloMosaic

variable {F : FTy → Type} [FloatOps F] [Named F]

/-- The blocks of one point: queries, keys, values, the output of the forward pass, its cotangent, and the log-sum-exp. -/
structure Blocks (F : FTy → Type) where
  q : Vec F S1x2048x96 .bf16
  k : Vec F S1x512x96 .bf16
  v : Vec F S1x512x64 .bf16
  o : Vec F S1x2048x64 .bf16
  g : Vec F S1x2048x64 .bf16
  l : Vec F S1x2048x1 .f32

/-- The three accumulators: the gradients of all queries of a head, of one key block and of one value block. -/
structure Acc (F : FTy → Type) where
  dq : Vec F S8192x96 .f32
  dk : Vec F S512x96 .f32
  dv : Vec F S512x64 .f32

/-- Rows of the query gradient replaced by a function of what they held. -/
def onRows (off size : Fin 2 → ℕ) (f : (((a : Fin 2) → Fin (size a)) → Elt F .f32) → (((a : Fin 2) → Fin (size a)) → Elt F .f32))
    (a : Vec F S8192x96 .f32) : Vec F S8192x96 .f32 :=
  if h : ∀ x, off x + size x ≤ S8192x96.size x then VecWindow.put (s := S8192x96) a off size (f (VecWindow.window (s := S8192x96) a off size h)) else a

theorem onRows_inb (off size : Fin 2 → ℕ) (f : (((a : Fin 2) → Fin (size a)) → Elt F .f32) → (((a : Fin 2) → Fin (size a)) → Elt F .f32))
    (a : Vec F S8192x96 .f32) (h : ∀ x, off x + size x ≤ S8192x96.size x) :
    onRows off size f a = VecWindow.put (s := S8192x96) a off size (f (VecWindow.window (s := S8192x96) a off size h)) := dif_pos h

/-- Kind 0: the whole query block, unmasked. -/
def step0 (qi : BitVec 32) (x : Blocks F) (s : Acc F) : Acc F where
  dv := k0_pay12 x.q x.g x.k x.l s.dv
  dk := k0_pay41 (k0_pay8 x.q) (k0_pay13 x.q x.g x.k x.l x.o x.v) s.dk
  dq := onRows (k0_off3 qi) S2048x96.size (k0_pay42 (k0_pay10 x.k) (k0_pay13 x.q x.g x.k x.l x.o x.v)) s.dq

/-- Kind 1: the last 512 rows of the query block, masked. -/
def step1 (ki qi : BitVec 32) (x : Blocks F) (s : Acc F) : Acc F :=
  let q : Vec F S1x512x96 .bf16 := VecWindow.window (s := S1x2048x96) x.q ![0, 1536, 0] S1x512x96.size inb_S1x2048x96_S1x512x96_0_1536_0
  let g : Vec F S1x512x64 .bf16 := VecWindow.window (s := S1x2048x64) x.g ![0, 1536, 0] S1x512x64.size inb_S1x2048x64_S1x512x64_0_1536_0
  let o : Vec F S1x512x64 .bf16 := VecWindow.window (s := S1x2048x64) x.o ![0, 1536, 0] S1x512x64.size inb_S1x2048x64_S1x512x64_0_1536_0
  let l : Vec F S1x512x1 .f32 := VecWindow.window (s := S1x2048x1) x.l ![0, 1536, 0] S1x512x1.size inb_S1x2048x1_S1x512x1_0_1536_0
  { dv := k0_pay43 (k0_pay19 ki qi q g x.k l s.dv)
    dk := k0_pay45 (k0_pay14 q) (k0_pay15 g) (k0_pay17 ki qi q x.k l) (k0_pay18 g o) x.v s.dk
    dq := onRows (k0_off5 qi) S512x96.size (k0_pay46 (k0_pay15 g) (k0_pay16 x.k) (k0_pay17 ki qi q x.k l) (k0_pay18 g o) x.v) s.dq }

/-- Kind 2: the last 1024 rows of the query block, masked. -/
def step2 (ki qi : BitVec 32) (x : Blocks F) (s : Acc F) : Acc F :=
  let q : Vec F S1x1024x96 .bf16 := VecWindow.window (s := S1x2048x96) x.q ![0, 1024, 0] S1x1024x96.size inb_S1x2048x96_S1x1024x96_0_1024_0
  let g : Vec F S1x1024x64 .bf16 := VecWindow.window (s := S1x2048x64) x.g ![0, 1024, 0] S1x1024x64.size inb_S1x2048x64_S1x1024x64_0_1024_0
  let o : Vec F S1x1024x64 .bf16 := VecWindow.window (s := S1x2048x64) x.o ![0, 1024, 0] S1x1024x64.size inb_S1x2048x64_S1x1024x64_0_1024_0
  let l : Vec F S1x1024x1 .f32 := VecWindow.window (s := S1x2048x1) x.l ![0, 1024, 0] S1x1024x1.size inb_S1x2048x1_S1x1024x1_0_1024_0
  { dv := k0_pay47 (k0_pay25 ki qi q g x.k l s.dv)
    dk := k0_pay49 (k0_pay20 q) (k0_pay21 g) (k0_pay23 ki qi q x.k l) (k0_pay24 g o) x.v s.dk
    dq := onRows (k0_off7 qi) S1024x96.size (k0_pay50 (k0_pay21 g) (k0_pay22 x.k) (k0_pay23 ki qi q x.k l) (k0_pay24 g o) x.v) s.dq }

/-- Kind 3: the last 1536 rows of the query block, masked. -/
def step3 (ki qi : BitVec 32) (x : Blocks F) (s : Acc F) : Acc F :=
  let q : Vec F S1x1536x96 .bf16 := VecWindow.window (s := S1x2048x96) x.q ![0, 512, 0] S1x1536x96.size inb_S1x2048x96_S1x1536x96_0_512_0
  let g : Vec F S1x1536x64 .bf16 := VecWindow.window (s := S1x2048x64) x.g ![0, 512, 0] S1x1536x64.size inb_S1x2048x64_S1x1536x64_0_512_0
  let o : Vec F S1x1536x64 .bf16 := VecWindow.window (s := S1x2048x64) x.o ![0, 512, 0] S1x1536x64.size inb_S1x2048x64_S1x1536x64_0_512_0
  let l : Vec F S1x1536x1 .f32 := VecWindow.window (s := S1x2048x1) x.l ![0, 512, 0] S1x1536x1.size inb_S1x2048x1_S1x1536x1_0_512_0
  { dv := k0_pay51 (k0_pay31 ki qi q g x.k l s.dv)
    dk := k0_pay53 (k0_pay26 q) (k0_pay27 g) (k0_pay29 ki qi q x.k l) (k0_pay30 g o) x.v s.dk
    dq := onRows (k0_off9 qi) S1536x96.size (k0_pay54 (k0_pay27 g) (k0_pay28 x.k) (k0_pay29 ki qi q x.k l) (k0_pay30 g o) x.v) s.dq }

/-- Kind 4: the whole query block, masked. -/
def step4 (ki qi : BitVec 32) (x : Blocks F) (s : Acc F) : Acc F :=
  { dv := k0_pay1 (k0_pay37 ki qi x.q x.g x.k x.l s.dv)
    dk := k0_pay3 (k0_pay32 x.q) (k0_pay33 x.g) (k0_pay35 ki qi x.q x.k x.l) (k0_pay36 x.g x.o) x.v s.dk
    dq := onRows (k0_off11 qi) S2048x96.size (k0_pay4 (k0_pay33 x.g) (k0_pay34 x.k) (k0_pay35 ki qi x.q x.k x.l) (k0_pay36 x.g x.o) x.v) s.dq }

/-- The query gradients are cleared at a head's first point, the key and value gradients at a key block's first point. -/
def start (i : grid0.Coords) (kd : BitVec 32) (s : Acc F) : Acc F where
  dq := if Scalar.cmpi .ne (Scalar.extui (Scalar.cmpi .eq (BitVec.ofNat 32 (i 1).val) 0#32)) 0#32 = 1#1 then k0_pay38 else s.dq
  dk := if Scalar.cmpi .ne (Scalar.extui (Scalar.cmpi .sgt kd 0#32)) 0#32 = 1#1 then k0_pay39 else s.dk
  dv := if Scalar.cmpi .ne (Scalar.extui (Scalar.cmpi .sgt kd 0#32)) 0#32 = 1#1 then k0_pay40 else s.dv

/-- The pair's own step, by its kind. -/
def pairStep (ki qi kd : BitVec 32) (x : Blocks F) (s : Acc F) : Acc F :=
  if kd = 0#32 then step0 qi x s else if kd = 1#32 then step1 ki qi x s else if kd = 2#32 then step2 ki qi x s
  else if kd = 3#32 then step3 ki qi x s else step4 ki qi x s

/-- A point's effect on the accumulators. -/
def step (i : grid0.Coords) (ki qi kd : BitVec 32) (x : Blocks F) (s : Acc F) : Acc F :=
  pairStep ki qi kd x (start i kd s)

/-- What a point leaves in the key gradient's output block: the accumulator, at a key block's last point. -/
def outK (la : BitVec 32) (s : Acc F) (y : Vec F S1x512x96 .bf16) : Vec F S1x512x96 .bf16 :=
  if k0_cond8 la = 1#1 then k0_pay5 s.dk else y

/-- What a point leaves in the value gradient's output block: the accumulator, at a key block's last point. -/
def outV (la : BitVec 32) (s : Acc F) (y : Vec F S1x512x64 .bf16) : Vec F S1x512x64 .bf16 :=
  if k0_cond8 la = 1#1 then k0_pay6 s.dv else y

/-- What a point leaves in the query gradient's output block: the accumulator, at a head's last point. -/
def outQ (i : grid0.Coords) (s : Acc F) (y : Vec F S1x8192x96 .bf16) : Vec F S1x8192x96 .bf16 :=
  if k0_cond9 i = 1#1 then k0_pay7 s.dq else y

end Cert.Attn
-- ==== Proof.Body.lean ====
module

public import proofs.«01_k».proof.Proof.Step
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The four tables and the three scratch buffers, whole. -/
abbrev kiM : Memref sig .tc .smem S40 .i32 := Memref.whole main_c
abbrev qiM : Memref sig .tc .smem S40 .i32 := Memref.whole main_c_0
abbrev laM : Memref sig .tc .smem S40 .i32 := Memref.whole main_c_1
abbrev kdM : Memref sig .tc .smem S40 .i32 := Memref.whole main_c_2
abbrev sc0 : Memref sig .tc .vmem S8192x96 .f32 := Memref.whole cc0_scratch0
abbrev sc1 : Memref sig .tc .vmem S512x96 .f32 := Memref.whole cc0_scratch1
abbrev sc2 : Memref sig .tc .vmem S512x64 .f32 := Memref.whole cc0_scratch2

/-- The word of a table at the point's position. -/
abbrev word (m : Memref sig .tc .smem S40 .i32) (T : BufTy.Contents (Elt F) m.view.ty) (i : grid0.Coords) : Elt F .i32 :=
  View.readAt (Elt F) m.view (Rect.unit (s := S40) (k0_off1 i) S1.size (k0_off1_inb i)).toLoadRect T (Shape.Idx.first (numel1_S1.symm ▸ Nat.one_pos))

/-- The staging buffers of a point: one memref per window. -/
structure Stage where
  q : Memref sig .tc .vmem S1x2048x96 .bf16
  hq : q.IsWhole
  k : Memref sig .tc .vmem S1x512x96 .bf16
  hk : k.IsWhole
  v : Memref sig .tc .vmem S1x512x64 .bf16
  hv : v.IsWhole
  o : Memref sig .tc .vmem S1x2048x64 .bf16
  ho : o.IsWhole
  g : Memref sig .tc .vmem S1x2048x64 .bf16
  hg : g.IsWhole
  l : Memref sig .tc .vmem S1x2048x1 .f32
  hl : l.IsWhole
  dq : Memref sig .tc .vmem S1x8192x96 .bf16
  hdq : dq.IsWhole
  dk : Memref sig .tc .vmem S1x512x96 .bf16
  hdk : dk.IsWhole
  dv : Memref sig .tc .vmem S1x512x64 .bf16
  hdv : dv.IsWhole

/-- The tables' contents: key block, query block, last point of the key block, kind. -/
structure Words (F : FTy → Type) where
  ki : S40.Idx → Elt F .i32
  qi : S40.Idx → Elt F .i32
  la : S40.Idx → Elt F .i32
  kd : S40.Idx → Elt F .i32

/-- What the body holds at a point: the input blocks, half of each table, the output blocks and the accumulators. -/
def held (c : Dev nD) (m : Stage) (T : Words F) (x : Blocks F) (y6 : Vec F S1x8192x96 .bf16) (y7 : Vec F S1x512x96 .bf16)
    (y8 : Vec F S1x512x64 .bf16) (s : Acc F) : sProp 𝕄 :=
  iprop(owns c m.q fullShare x.q ∗ owns c m.k fullShare x.k ∗ owns c m.v fullShare x.v ∗ owns c m.o fullShare x.o
    ∗ owns c m.g fullShare x.g ∗ owns c m.l fullShare x.l
    ∗ (kiM.view.loc c ↦{fullShare.right} T.ki) ∗ (qiM.view.loc c ↦{fullShare.right} T.qi)
    ∗ (laM.view.loc c ↦{fullShare.right} T.la) ∗ (kdM.view.loc c ↦{fullShare.right} T.kd)
    ∗ owns c m.dq fullShare y6 ∗ owns c m.dk fullShare y7 ∗ owns c m.dv fullShare y8
    ∗ owns c sc0 fullShare s.dq ∗ owns c sc1 fullShare s.dk ∗ owns c sc2 fullShare s.dv)

/-- The body at a point's staging buffers. -/
abbrev bodyAt (i : grid0.Coords) (m : Stage) : Prog (TpuEff nD τ sig (Elt F) Λ₀ .tc) PUnit :=
  cc0_mla_attn_bwd i kiM (Memref.isWhole_whole _) qiM (Memref.isWhole_whole _) laM (Memref.isWhole_whole _) kdM (Memref.isWhole_whole _)
    m.q m.hq m.k m.hk m.v m.hv m.o m.ho m.g m.hg m.l m.hl m.dq m.hdq m.dk m.hdk m.dv m.hdv
    sc0 (Memref.isWhole_whole _) sc1 (Memref.isWhole_whole _) sc2 (Memref.isWhole_whole _)

/-- The words of a point. -/
abbrev Words.kiAt (T : Words F) (i : grid0.Coords) : Elt F .i32 := word kiM T.ki i
abbrev Words.qiAt (T : Words F) (i : grid0.Coords) : Elt F .i32 := word qiM T.qi i
abbrev Words.laAt (T : Words F) (i : grid0.Coords) : Elt F .i32 := word laM T.la i
abbrev Words.kdAt (T : Words F) (i : grid0.Coords) : Elt F .i32 := word kdM T.kd i

/-- The query block's row offsets stay in range, whatever the kind. -/
structure Checks (T : Words F) (i : grid0.Coords) : Prop where
  c1 : k0_chk1 (T.qiAt i) (T.kdAt i)
  c2 : k0_chk2 (T.qiAt i) (T.kdAt i)
  c3 : k0_chk3 (T.qiAt i) (T.kdAt i)
  c4 : k0_chk4 (T.qiAt i) (T.kdAt i)
  c5 : k0_chk5 (T.qiAt i) (T.kdAt i)

theorem held_open (c : Dev nD) (m : Stage) (T : Words F) (x : Blocks F) (y6 : Vec F S1x8192x96 .bf16) (y7 : Vec F S1x512x96 .bf16)
    (y8 : Vec F S1x512x64 .bf16) (s : Acc F) :
    (held c m T x y6 y7 y8 s : sProp 𝕄) =
  iprop((∃ f, ⌜m.q.view.read (Elt F) f = x.q⌝ ∗ (m.q.view.loc (c : Thread nD τ) ↦[m.q.view.set]{fullShare} f))
    ∗ (∃ f, ⌜m.k.view.read (Elt F) f = x.k⌝ ∗ (m.k.view.loc (c : Thread nD τ) ↦[m.k.view.set]{fullShare} f))
    ∗ (∃ f, ⌜m.v.view.read (Elt F) f = x.v⌝ ∗ (m.v.view.loc (c : Thread nD τ) ↦[m.v.view.set]{fullShare} f))
    ∗ (∃ f, ⌜m.o.view.read (Elt F) f = x.o⌝ ∗ (m.o.view.loc (c : Thread nD τ) ↦[m.o.view.set]{fullShare} f))
    ∗ (∃ f, ⌜m.g.view.read (Elt F) f = x.g⌝ ∗ (m.g.view.loc (c : Thread nD τ) ↦[m.g.view.set]{fullShare} f))
    ∗ (∃ f, ⌜m.l.view.read (Elt F) f = x.l⌝ ∗ (m.l.view.loc (c : Thread nD τ) ↦[m.l.view.set]{fullShare} f))
    ∗ (kiM.view.loc (c : Thread nD τ) ↦{fullShare.right} T.ki) ∗ (qiM.view.loc (c : Thread nD τ) ↦{fullShare.right} T.qi)
    ∗ (laM.view.loc (c : Thread nD τ) ↦{fullShare.right} T.la) ∗ (kdM.view.loc (c : Thread nD τ) ↦{fullShare.right} T.kd)
    ∗ (∃ f, ⌜m.dq.view.read (Elt F) f = y6⌝ ∗ (m.dq.view.loc (c : Thread nD τ) ↦[m.dq.view.set]{fullShare} f))
    ∗ (∃ f, ⌜m.dk.view.read (Elt F) f = y7⌝ ∗ (m.dk.view.loc (c : Thread nD τ) ↦[m.dk.view.set]{fullShare} f))
    ∗ (∃ f, ⌜m.dv.view.read (Elt F) f = y8⌝ ∗ (m.dv.view.loc (c : Thread nD τ) ↦[m.dv.view.set]{fullShare} f))
    ∗ (∃ f, ⌜sc0.view.read (Elt F) f = s.dq⌝ ∗ (sc0.view.loc (c : Thread nD τ) ↦[sc0.view.set]{fullShare} f))
    ∗ (∃ f, ⌜sc1.view.read (Elt F) f = s.dk⌝ ∗ (sc1.view.loc (c : Thread nD τ) ↦[sc1.view.set]{fullShare} f))
    ∗ (∃ f, ⌜sc2.view.read (Elt F) f = s.dv⌝ ∗ (sc2.view.loc (c : Thread nD τ) ↦[sc2.view.set]{fullShare} f))) := rfl

theorem owns_of_read (c : Dev nD) {sp : Space} {sh : Shape} {e : EltTy} (m : Memref sig .tc sp sh e) {f : m.view.ty.Contents (Elt F)}
    {X : sh.Idx → Elt F e} (h : m.view.read (Elt F) f = X) :
    (m.view.loc (c : Thread nD τ) ↦[m.view.set]{fullShare} f : sProp 𝕄) ⊢ owns c m fullShare X := by
  subst h; exact owns_intro (c : Thread nD τ) m fullShare f

/-- The query gradient's accumulator after the point's clearing. -/
theorem read_start (i : grid0.Coords) (kd : BitVec 32) (s : Acc F) {f : sc0.view.ty.Contents (Elt F)} (h : sc0.view.read (Elt F) f = s.dq) :
    sc0.view.read (Elt F) (if _ : Scalar.cmpi .ne (Scalar.extui (Scalar.cmpi .eq (BitVec.ofNat 32 (i 1).val) 0#32)) 0#32 = 1#1 then
      sc0.view.writes (Elt F) f [⟨Rect.unit ![0, 0] S8192x96.size inb_S8192x96_S8192x96_0_0, k0_pay38⟩] else f) = (start i kd s).dq := by
  unfold start
  by_cases hz : Scalar.cmpi .ne (Scalar.extui (Scalar.cmpi .eq (BitVec.ofNat 32 (i 1).val) 0#32)) 0#32 = 1#1
  · rw [dif_pos hz]; dsimp only; rw [if_pos hz]; exact View.read_writes_full (s := S8192x96) _ _ _ _ _
  · rw [dif_neg hz]; dsimp only; rw [if_neg hz]; exact h

theorem start_dk (i : grid0.Coords) (kd : BitVec 32) (s : Acc F) (h : Scalar.cmpi .ne (Scalar.extui (Scalar.cmpi .sgt kd 0#32)) 0#32 = 1#1) :
    (start i kd s).dk = k0_pay39 := if_pos h

theorem start_dv (i : grid0.Coords) (kd : BitVec 32) (s : Acc F) (h : Scalar.cmpi .ne (Scalar.extui (Scalar.cmpi .sgt kd 0#32)) 0#32 = 1#1) :
    (start i kd s).dv = k0_pay40 := if_pos h

theorem start_dk_keep (i : grid0.Coords) (kd : BitVec 32) (s : Acc F) (h : ¬ Scalar.cmpi .ne (Scalar.extui (Scalar.cmpi .sgt kd 0#32)) 0#32 = 1#1) :
    (start i kd s).dk = s.dk := if_neg h

theorem start_dv_keep (i : grid0.Coords) (kd : BitVec 32) (s : Acc F) (h : ¬ Scalar.cmpi .ne (Scalar.extui (Scalar.cmpi .sgt kd 0#32)) 0#32 = 1#1) :
    (start i kd s).dv = s.dv := if_neg h

/-- A load of a whole view, whose contents are known. -/
theorem readAt_whole {sp : Space} {sh : Shape} {e : EltTy} (v : View sig .tc sp sh e) {f : v.ty.Contents (Elt F)} {x : sh.Idx → Elt F e}
    (h : v.read (Elt F) f = x) {off : Fin sh.rank → ℕ} (inb : ∀ a, off a + sh.size a ≤ sh.size a) :
    v.readAt (Elt F) (Rect.unit off sh.size inb).toLoadRect f = x := (View.readAt_full v f inb).trans h

/-- A load of a window, the whole's contents known. -/
theorem readAt_part {sp : Space} {sh : Shape} {e : EltTy} (v : View sig .tc sp sh e) {f : v.ty.Contents (Elt F)} {x : sh.Idx → Elt F e}
    (h : v.read (Elt F) f = x) {off size : Fin sh.rank → ℕ} (inb : ∀ a, off a + size a ≤ sh.size a) :
    v.readAt (Elt F) (Rect.unit off size inb).toLoadRect f = VecWindow.window x off size inb := by subst h; rfl

/-- A store of rows computed from the rows that were there. -/
theorem read_rows (f : sc0.view.ty.Contents (Elt F)) {off size : Fin 2 → ℕ} (inb : ∀ x, off x + size x ≤ S8192x96.size x)
    (p : (((a : Fin 2) → Fin (size a)) → Elt F .f32) → (((a : Fin 2) → Fin (size a)) → Elt F .f32)) :
    sc0.view.read (Elt F) (sc0.view.writes (Elt F) f [⟨Rect.unit (s := S8192x96) off size inb,
      p (sc0.view.readAt (Elt F) (Rect.unit (s := S8192x96) off size inb).toLoadRect f)⟩]) = onRows off size p (sc0.view.read (Elt F) f) := by
  rw [onRows_inb _ _ _ _ inb, View.read_writes_cons_put _ _ _ _ _ rfl]; rfl

/-- The output blocks after their stores. -/
theorem read_outK (m : Memref sig .tc .vmem S1x512x96 .bf16) (la : BitVec 32) (s : Acc F) {y : Vec F S1x512x96 .bf16}
    {f : m.view.ty.Contents (Elt F)} (h : m.view.read (Elt F) f = y) {w : Vec F S512x96 .f32} (hw : w = s.dk) :
    m.view.read (Elt F) (if _ : k0_cond8 la = 1#1 then m.view.writes (Elt F) f [⟨Rect.unit ![0, 0, 0] S1x512x96.size inb_S1x512x96_S1x512x96_0_0_0, k0_pay5 w⟩] else f)
      = outK la s y := by
  subst hw; unfold outK; by_cases hz : k0_cond8 la = 1#1
  · rw [dif_pos hz, if_pos hz]; exact View.read_writes_full (s := S1x512x96) _ _ _ _ _
  · rw [dif_neg hz, if_neg hz]; exact h

theorem read_outV (m : Memref sig .tc .vmem S1x512x64 .bf16) (la : BitVec 32) (s : Acc F) {y : Vec F S1x512x64 .bf16}
    {f : m.view.ty.Contents (Elt F)} (h : m.view.read (Elt F) f = y) {w : Vec F S512x64 .f32} (hw : w = s.dv) :
    m.view.read (Elt F) (if _ : k0_cond8 la = 1#1 then m.view.writes (Elt F) f [⟨Rect.unit ![0, 0, 0] S1x512x64.size inb_S1x512x64_S1x512x64_0_0_0, k0_pay6 w⟩] else f)
      = outV la s y := by
  subst hw; unfold outV; by_cases hz : k0_cond8 la = 1#1
  · rw [dif_pos hz, if_pos hz]; exact View.read_writes_full (s := S1x512x64) _ _ _ _ _
  · rw [dif_neg hz, if_neg hz]; exact h

theorem read_outQ (m : Memref sig .tc .vmem S1x8192x96 .bf16) (i : grid0.Coords) (s : Acc F) {y : Vec F S1x8192x96 .bf16}
    {f : m.view.ty.Contents (Elt F)} (h : m.view.read (Elt F) f = y) {w : Vec F S8192x96 .f32} (hw : w = s.dq) :
    m.view.read (Elt F) (if _ : k0_cond9 i = 1#1 then m.view.writes (Elt F) f [⟨Rect.unit ![0, 0, 0] S1x8192x96.size inb_S1x8192x96_S1x8192x96_0_0_0, k0_pay7 w⟩] else f)
      = outQ i s y := by
  subst hw; unfold outQ; by_cases hz : k0_cond9 i = 1#1
  · rw [dif_pos hz, if_pos hz]; exact View.read_writes_full (s := S1x8192x96) _ _ _ _ _
  · rw [dif_neg hz, if_neg hz]; exact h

/-- The body takes what it holds at the accumulators `s` to what it holds after the point's step. -/
def BodyRuns (c : Dev nD) (i : grid0.Coords) (m : Stage) (T : Words F) (x : Blocks F) (y6 : Vec F S1x8192x96 .bf16)
    (y7 : Vec F S1x512x96 .bf16) (y8 : Vec F S1x512x64 .bf16) (s s' : Acc F) : Prop :=
  ∀ K : PUnit → sProp 𝕄,
    iprop(held c m T x y6 y7 y8 s ∗ (held c m T x (outQ i s' y6) (outK (T.laAt i) s' y7) (outV (T.laAt i) s' y8) s' -∗ K ⟨⟩))
      ⊢ wp (M := 𝕄) Idealize.ShloMosaic.frame (wpE (defs₀) Variants.none c none) Set.univ (bodyAt i m) K

end Cert.Attn
-- ==== Proof.Run0.lean ====
module

public import proofs.«01_k».proof.Proof.Body
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body at a point of kind 0. -/
theorem run0 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : k0_cond3 (T.kdAt i) = 1#1)
    (h4 : ¬ k0_cond4 (T.kdAt i) = 1#1)
    (h5 : ¬ k0_cond5 (T.kdAt i) = 1#1)
    (h6 : ¬ k0_cond6 (T.kdAt i) = 1#1)
    (h7 : ¬ k0_cond7 (T.kdAt i) = 1#1)
    (h11 : ¬ Scalar.cmpi .ne (Scalar.extui (Scalar.cmpi .sgt (T.kdAt i) 0#32)) 0#32 = 1#1) :
    BodyRuns c i m T x y6 y7 y8 s (step0 (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step0 (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = k0_cond3 _ = _; exact h3) | (guard_target = ¬ (k0_cond4 _ = _); exact h4) | (guard_target = ¬ (k0_cond5 _ = _); exact h5) | (guard_target = ¬ (k0_cond6 _ = _); exact h6) | (guard_target = ¬ (k0_cond7 _ = _); exact h7) | (guard_target = ¬ (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_whole m.q.view e0 inb_S1x2048x96_S1x2048x96_0_0_0
  have hg := readAt_whole m.g.view e4 inb_S1x2048x64_S1x2048x64_0_0_0
  have ho := readAt_whole m.o.view e3 inb_S1x2048x64_S1x2048x64_0_0_0
  have hl := readAt_whole m.l.view e5 inb_S1x2048x1_S1x2048x1_0_0_0
  have eV : sc2.view.read (Elt F) (sc2.view.writes (Elt F) sc2.view.junk (run0.sl.HS2_1 m f0 f1 f4 f5 fd)) = S'.dv := by
    sl_open_run
    rw [View.read_writes_full, hq, hg, hk, hl, readAt_whole sc2.view ed inb_S512x64_S512x64_0_0, hS]
    unfold step0
    rw [start_dv_keep i (T.kdAt i) s h11]
    try rfl
  have eK : sc1.view.read (Elt F) (sc1.view.writes (Elt F) sc1.view.junk (run0.sl.HS1_1 m f0 f1 f2 f3 f4 f5 fb)) = S'.dk := by
    sl_open_run
    rw [View.read_writes_full, hq, hg, hk, hl, ho, hv, readAt_whole sc1.view eb inb_S512x96_S512x96_0_0, hS]
    unfold step0
    rw [start_dk_keep i (T.kdAt i) s h11]
    try rfl
  have eQ : sc0.view.read (Elt F) (sc0.view.writes (Elt F)
      (if _ : run0.sl.v6 i = 1#1 then sc0.view.writes (Elt F) fa [⟨Rect.unit ![0, 0] S8192x96.size inb_S8192x96_S8192x96_0_0, k0_pay38⟩] else fa)
      (run0.sl.HS0_1 i m T hc h3 f0 f1 f2 f3 f4 f5 fa)) = S'.dq := by
    sl_open_run
    rw [hq, hg, hk, hl, ho, hv, read_rows, read_start i (T.kdAt i) s ea, hS]
    try rfl
  have eQ' : run0.sl.v45_1 i m T hc h3 f0 f1 f2 f3 f4 f5 fa = S'.dq := (View.readAt_full _ _ _).trans eQ
  have eK' : run0.sl.v45 m f0 f1 f2 f3 f4 f5 fb = S'.dk := (View.readAt_full _ _ _).trans eK
  have eV' : run0.sl.v50_1 m f0 f1 f4 f5 fd = S'.dv := (View.readAt_full _ _ _).trans eV
  have hla : run0.sl.r_8 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run0.sl.r_8 i T) S' e7 eK').trans (congrArg (fun w => outK w S' y7) hla))) $$ HO7
  isplitl [HO8]; · iapply (owns_of_read c m.dv ((read_outV m.dv (run0.sl.r_8 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.Attn
-- ==== Proof.Run1.lean ====
module

public import proofs.«01_k».proof.Proof.Body
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body at a point of kind 1. -/
theorem run1 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : ¬ k0_cond3 (T.kdAt i) = 1#1)
    (h4 : k0_cond4 (T.kdAt i) = 1#1)
    (h5 : ¬ k0_cond5 (T.kdAt i) = 1#1)
    (h6 : ¬ k0_cond6 (T.kdAt i) = 1#1)
    (h7 : ¬ k0_cond7 (T.kdAt i) = 1#1)
    (h11 : Scalar.cmpi .ne (Scalar.extui (Scalar.cmpi .sgt (T.kdAt i) 0#32)) 0#32 = 1#1) :
    BodyRuns c i m T x y6 y7 y8 s (step1 (T.kiAt i) (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step1 (T.kiAt i) (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = ¬ (k0_cond3 _ = _); exact h3) | (guard_target = k0_cond4 _ = _; exact h4) | (guard_target = ¬ (k0_cond5 _ = _); exact h5) | (guard_target = ¬ (k0_cond6 _ = _); exact h6) | (guard_target = ¬ (k0_cond7 _ = _); exact h7) | (guard_target = (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_part m.q.view e0 inb_S1x2048x96_S1x512x96_0_1536_0
  have hg := readAt_part m.g.view e4 inb_S1x2048x64_S1x512x64_0_1536_0
  have ho := readAt_part m.o.view e3 inb_S1x2048x64_S1x512x64_0_1536_0
  have hl := readAt_part m.l.view e5 inb_S1x2048x1_S1x512x1_0_1536_0
  have eV : sc2.view.read (Elt F) (sc2.view.writes (Elt F) sc2.view.junk (run1.sl.HS2_2 i m T f0 f1 f4 f5)) = S'.dv := by
    sl_open_run
    rw [View.read_writes_full, View.readCov_full, hq, hg, hk, hl, hS]
    unfold step1
    rw [start_dv i (T.kdAt i) s h11]
  have eK : sc1.view.read (Elt F) (sc1.view.writes (Elt F) sc1.view.junk (run1.sl.HS1_2 i m T f0 f1 f2 f3 f4 f5)) = S'.dk := by
    sl_open_run
    rw [View.read_writes_full, View.readCov_full, hq, hg, hk, hl, ho, hv, hS]
    unfold step1
    rw [start_dk i (T.kdAt i) s h11]
  have eQ : sc0.view.read (Elt F) (sc0.view.writes (Elt F)
      (if _ : run1.sl.v6 i = 1#1 then sc0.view.writes (Elt F) fa [⟨Rect.unit ![0, 0] S8192x96.size inb_S8192x96_S8192x96_0_0, k0_pay38⟩] else fa)
      (run1.sl.HS0_1 i m T hc h4 f0 f1 f2 f3 f4 f5 fa)) = S'.dq := by
    sl_open_run
    rw [hq, hg, hk, hl, ho, hv, read_rows, read_start i (T.kdAt i) s ea, hS]
    try rfl
  have eQ' : run1.sl.v45_1 i m T hc h4 f0 f1 f2 f3 f4 f5 fa = S'.dq := (View.readAt_full _ _ _).trans eQ
  have eK' : run1.sl.v45 i m T f0 f1 f2 f3 f4 f5 = S'.dk := (View.readAt_full _ _ _).trans eK
  have eV' : run1.sl.v50 i m T f0 f1 f4 f5 = S'.dv := (View.readAt_full _ _ _).trans eV
  have hla : run1.sl.r_14 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run1.sl.r_14 i T) S' e7 eK').trans (congrArg (fun w => outK w S' y7) hla))) $$ HO7
  isplitl [HO8]; · iapply (owns_of_read c m.dv ((read_outV m.dv (run1.sl.r_14 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.Attn
-- ==== Proof.Run2.lean ====
module

public import proofs.«01_k».proof.Proof.Body
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body at a point of kind 2. -/
theorem run2 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : ¬ k0_cond3 (T.kdAt i) = 1#1)
    (h4 : ¬ k0_cond4 (T.kdAt i) = 1#1)
    (h5 : k0_cond5 (T.kdAt i) = 1#1)
    (h6 : ¬ k0_cond6 (T.kdAt i) = 1#1)
    (h7 : ¬ k0_cond7 (T.kdAt i) = 1#1)
    (h11 : Scalar.cmpi .ne (Scalar.extui (Scalar.cmpi .sgt (T.kdAt i) 0#32)) 0#32 = 1#1) :
    BodyRuns c i m T x y6 y7 y8 s (step2 (T.kiAt i) (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step2 (T.kiAt i) (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = ¬ (k0_cond3 _ = _); exact h3) | (guard_target = ¬ (k0_cond4 _ = _); exact h4) | (guard_target = k0_cond5 _ = _; exact h5) | (guard_target = ¬ (k0_cond6 _ = _); exact h6) | (guard_target = ¬ (k0_cond7 _ = _); exact h7) | (guard_target = (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_part m.q.view e0 inb_S1x2048x96_S1x1024x96_0_1024_0
  have hg := readAt_part m.g.view e4 inb_S1x2048x64_S1x1024x64_0_1024_0
  have ho := readAt_part m.o.view e3 inb_S1x2048x64_S1x1024x64_0_1024_0
  have hl := readAt_part m.l.view e5 inb_S1x2048x1_S1x1024x1_0_1024_0
  have eV : sc2.view.read (Elt F) (sc2.view.writes (Elt F) sc2.view.junk (run2.sl.HS2_2 i m T f0 f1 f4 f5)) = S'.dv := by
    sl_open_run
    rw [View.read_writes_full, View.readCov_full, hq, hg, hk, hl, hS]
    unfold step2
    rw [start_dv i (T.kdAt i) s h11]
  have eK : sc1.view.read (Elt F) (sc1.view.writes (Elt F) sc1.view.junk (run2.sl.HS1_2 i m T f0 f1 f2 f3 f4 f5)) = S'.dk := by
    sl_open_run
    rw [View.read_writes_full, View.readCov_full, hq, hg, hk, hl, ho, hv, hS]
    unfold step2
    rw [start_dk i (T.kdAt i) s h11]
  have eQ : sc0.view.read (Elt F) (sc0.view.writes (Elt F)
      (if _ : run2.sl.v6 i = 1#1 then sc0.view.writes (Elt F) fa [⟨Rect.unit ![0, 0] S8192x96.size inb_S8192x96_S8192x96_0_0, k0_pay38⟩] else fa)
      (run2.sl.HS0_1 i m T hc h5 f0 f1 f2 f3 f4 f5 fa)) = S'.dq := by
    sl_open_run
    rw [hq, hg, hk, hl, ho, hv, read_rows, read_start i (T.kdAt i) s ea, hS]
    try rfl
  have eQ' : run2.sl.v45_1 i m T hc h5 f0 f1 f2 f3 f4 f5 fa = S'.dq := (View.readAt_full _ _ _).trans eQ
  have eK' : run2.sl.v45 i m T f0 f1 f2 f3 f4 f5 = S'.dk := (View.readAt_full _ _ _).trans eK
  have eV' : run2.sl.v50 i m T f0 f1 f4 f5 = S'.dv := (View.readAt_full _ _ _).trans eV
  have hla : run2.sl.r_14 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run2.sl.r_14 i T) S' e7 eK').trans (congrArg (fun w => outK w S' y7) hla))) $$ HO7
  isplitl [HO8]; · iapply (owns_of_read c m.dv ((read_outV m.dv (run2.sl.r_14 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.Attn
-- ==== Proof.Run3.lean ====
module

public import proofs.«01_k».proof.Proof.Body
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body at a point of kind 3. -/
theorem run3 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : ¬ k0_cond3 (T.kdAt i) = 1#1)
    (h4 : ¬ k0_cond4 (T.kdAt i) = 1#1)
    (h5 : ¬ k0_cond5 (T.kdAt i) = 1#1)
    (h6 : k0_cond6 (T.kdAt i) = 1#1)
    (h7 : ¬ k0_cond7 (T.kdAt i) = 1#1)
    (h11 : Scalar.cmpi .ne (Scalar.extui (Scalar.cmpi .sgt (T.kdAt i) 0#32)) 0#32 = 1#1) :
    BodyRuns c i m T x y6 y7 y8 s (step3 (T.kiAt i) (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step3 (T.kiAt i) (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = ¬ (k0_cond3 _ = _); exact h3) | (guard_target = ¬ (k0_cond4 _ = _); exact h4) | (guard_target = ¬ (k0_cond5 _ = _); exact h5) | (guard_target = k0_cond6 _ = _; exact h6) | (guard_target = ¬ (k0_cond7 _ = _); exact h7) | (guard_target = (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_part m.q.view e0 inb_S1x2048x96_S1x1536x96_0_512_0
  have hg := readAt_part m.g.view e4 inb_S1x2048x64_S1x1536x64_0_512_0
  have ho := readAt_part m.o.view e3 inb_S1x2048x64_S1x1536x64_0_512_0
  have hl := readAt_part m.l.view e5 inb_S1x2048x1_S1x1536x1_0_512_0
  have eV : sc2.view.read (Elt F) (sc2.view.writes (Elt F) sc2.view.junk (run3.sl.HS2_2 i m T f0 f1 f4 f5)) = S'.dv := by
    sl_open_run
    rw [View.read_writes_full, View.readCov_full, hq, hg, hk, hl, hS]
    unfold step3
    rw [start_dv i (T.kdAt i) s h11]
  have eK : sc1.view.read (Elt F) (sc1.view.writes (Elt F) sc1.view.junk (run3.sl.HS1_2 i m T f0 f1 f2 f3 f4 f5)) = S'.dk := by
    sl_open_run
    rw [View.read_writes_full, View.readCov_full, hq, hg, hk, hl, ho, hv, hS]
    unfold step3
    rw [start_dk i (T.kdAt i) s h11]
  have eQ : sc0.view.read (Elt F) (sc0.view.writes (Elt F)
      (if _ : run3.sl.v6 i = 1#1 then sc0.view.writes (Elt F) fa [⟨Rect.unit ![0, 0] S8192x96.size inb_S8192x96_S8192x96_0_0, k0_pay38⟩] else fa)
      (run3.sl.HS0_1 i m T hc h6 f0 f1 f2 f3 f4 f5 fa)) = S'.dq := by
    sl_open_run
    rw [hq, hg, hk, hl, ho, hv, read_rows, read_start i (T.kdAt i) s ea, hS]
    try rfl
  have eQ' : run3.sl.v45_1 i m T hc h6 f0 f1 f2 f3 f4 f5 fa = S'.dq := (View.readAt_full _ _ _).trans eQ
  have eK' : run3.sl.v45 i m T f0 f1 f2 f3 f4 f5 = S'.dk := (View.readAt_full _ _ _).trans eK
  have eV' : run3.sl.v50 i m T f0 f1 f4 f5 = S'.dv := (View.readAt_full _ _ _).trans eV
  have hla : run3.sl.r_14 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run3.sl.r_14 i T) S' e7 eK').trans (congrArg (fun w => outK w S' y7) hla))) $$ HO7
  isplitl [HO8]; · iapply (owns_of_read c m.dv ((read_outV m.dv (run3.sl.r_14 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.Attn
-- ==== Proof.Run4.lean ====
module

public import proofs.«01_k».proof.Proof.Body
public import Idealize.ShloMosaic.Lib.Exec
public import Idealize.ShloMosaic.Lib.Tactic
public import Idealize.ShloMosaic.Lib.Tactic.Stretches

/-!
The kernel's body at one grid point: what it holds before and after, and that it runs from the one to the other.
-/

@[expose] public section

set_option maxRecDepth 16384

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 8000000 in
/-- The body at a point of kind 4. -/
theorem run4 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : ¬ k0_cond3 (T.kdAt i) = 1#1)
    (h4 : ¬ k0_cond4 (T.kdAt i) = 1#1)
    (h5 : ¬ k0_cond5 (T.kdAt i) = 1#1)
    (h6 : ¬ k0_cond6 (T.kdAt i) = 1#1)
    (h7 : k0_cond7 (T.kdAt i) = 1#1)
    (h11 : Scalar.cmpi .ne (Scalar.extui (Scalar.cmpi .sgt (T.kdAt i) 0#32)) 0#32 = 1#1) :
    BodyRuns c i m T x y6 y7 y8 s (step4 (T.kiAt i) (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step4 (T.kiAt i) (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = ¬ (k0_cond3 _ = _); exact h3) | (guard_target = ¬ (k0_cond4 _ = _); exact h4) | (guard_target = ¬ (k0_cond5 _ = _); exact h5) | (guard_target = ¬ (k0_cond6 _ = _); exact h6) | (guard_target = k0_cond7 _ = _; exact h7) | (guard_target = (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_whole m.q.view e0 inb_S1x2048x96_S1x2048x96_0_0_0
  have hg := readAt_whole m.g.view e4 inb_S1x2048x64_S1x2048x64_0_0_0
  have ho := readAt_whole m.o.view e3 inb_S1x2048x64_S1x2048x64_0_0_0
  have hl := readAt_whole m.l.view e5 inb_S1x2048x1_S1x2048x1_0_0_0
  have eV : sc2.view.read (Elt F) (sc2.view.writes (Elt F) sc2.view.junk (run4.sl.HS2_2 i m T f0 f1 f4 f5)) = S'.dv := by
    sl_open_run
    rw [View.read_writes_full, View.readCov_full, hq, hg, hk, hl, hS]
    unfold step4
    rw [start_dv i (T.kdAt i) s h11]
  have eK : sc1.view.read (Elt F) (sc1.view.writes (Elt F) sc1.view.junk (run4.sl.HS1_2 i m T f0 f1 f2 f3 f4 f5)) = S'.dk := by
    sl_open_run
    rw [View.read_writes_full, View.readCov_full, hq, hg, hk, hl, ho, hv, hS]
    unfold step4
    rw [start_dk i (T.kdAt i) s h11]
  have eQ : sc0.view.read (Elt F) (sc0.view.writes (Elt F)
      (if _ : run4.sl.v6 i = 1#1 then sc0.view.writes (Elt F) fa [⟨Rect.unit ![0, 0] S8192x96.size inb_S8192x96_S8192x96_0_0, k0_pay38⟩] else fa)
      (run4.sl.HS0_1 i m T hc h7 f0 f1 f2 f3 f4 f5 fa)) = S'.dq := by
    sl_open_run
    rw [hq, hg, hk, hl, ho, hv, read_rows, read_start i (T.kdAt i) s ea, hS]
    try rfl
  have eQ' : run4.sl.v45_1 i m T hc h7 f0 f1 f2 f3 f4 f5 fa = S'.dq := (View.readAt_full _ _ _).trans eQ
  have eK' : run4.sl.v45 i m T f0 f1 f2 f3 f4 f5 = S'.dk := (View.readAt_full _ _ _).trans eK
  have eV' : run4.sl.v50 i m T f0 f1 f4 f5 = S'.dv := (View.readAt_full _ _ _).trans eV
  have hla : run4.sl.r_14 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run4.sl.r_14 i T) S' e7 eK').trans (congrArg (fun w => outK w S' y7) hla))) $$ HO7
  isplitl [HO8]; · iapply (owns_of_read c m.dv ((read_outV m.dv (run4.sl.r_14 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.Attn
-- ==== Proof.Tables.lean ====
module

public import proofs.«01_k».proof.Proof.Run0
public import proofs.«01_k».proof.Proof.Run1
public import proofs.«01_k».proof.Proof.Run2
public import proofs.«01_k».proof.Proof.Run3
public import proofs.«01_k».proof.Proof.Run4
public import Idealize.ShloMosaic.Lib.Affine
public import Idealize.ShloMosaic.PureOps.BitExact

/-!
The four tables of the call, what the pipeline and the body compute from their words at each grid point, and the
body's run at a point whatever its kind.
-/

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The key block of each pair. -/
def kiL : List (BitVec 32) := [0#32, 0#32, 0#32, 0#32, 1#32, 1#32, 1#32, 1#32, 2#32, 2#32, 2#32, 2#32, 3#32, 3#32, 3#32, 3#32, 4#32, 4#32, 4#32, 5#32, 5#32, 5#32, 6#32, 6#32, 6#32, 7#32, 7#32, 7#32, 8#32, 8#32, 9#32, 9#32, 10#32, 10#32, 11#32, 11#32, 12#32, 13#32, 14#32, 15#32]

/-- The query block of each pair. -/
def qiL : List (BitVec 32) := [0#32, 1#32, 2#32, 3#32, 0#32, 1#32, 2#32, 3#32, 0#32, 1#32, 2#32, 3#32, 0#32, 1#32, 2#32, 3#32, 1#32, 2#32, 3#32, 1#32, 2#32, 3#32, 1#32, 2#32, 3#32, 1#32, 2#32, 3#32, 2#32, 3#32, 2#32, 3#32, 2#32, 3#32, 2#32, 3#32, 3#32, 3#32, 3#32, 3#32]

/-- Whether the pair is the last of its key block. -/
def laL : List (BitVec 32) := [0#32, 0#32, 0#32, 1#32, 0#32, 0#32, 0#32, 1#32, 0#32, 0#32, 0#32, 1#32, 0#32, 0#32, 0#32, 1#32, 0#32, 0#32, 1#32, 0#32, 0#32, 1#32, 0#32, 0#32, 1#32, 0#32, 0#32, 1#32, 0#32, 1#32, 0#32, 1#32, 0#32, 1#32, 0#32, 1#32, 1#32, 1#32, 1#32, 1#32]

/-- The kind of each pair. -/
def kdL : List (BitVec 32) := [4#32, 0#32, 0#32, 0#32, 3#32, 0#32, 0#32, 0#32, 2#32, 0#32, 0#32, 0#32, 1#32, 0#32, 0#32, 0#32, 4#32, 0#32, 0#32, 3#32, 0#32, 0#32, 2#32, 0#32, 0#32, 1#32, 0#32, 0#32, 4#32, 0#32, 3#32, 0#32, 2#32, 0#32, 1#32, 0#32, 4#32, 3#32, 2#32, 1#32]

/-- A list as a table's contents. -/
def tab (l : List (BitVec 32)) : S40.Idx → BitVec 32 := fun x => l.getD (x 0).val 0#32

theorem ki_lit : (fun i => lit0 (S40.rowMajor i)) = tab kiL := by
  have h : ∀ i : S40.Idx, lit0 (S40.rowMajor i) = tab kiL i := by decide +kernel
  exact funext h

theorem qi_lit : (fun i => lit1 (S40.rowMajor i)) = tab qiL := by
  have h : ∀ i : S40.Idx, lit1 (S40.rowMajor i) = tab qiL i := by decide +kernel
  exact funext h

theorem la_lit : (fun i => lit2 (S40.rowMajor i)) = tab laL := by
  have h : ∀ i : S40.Idx, lit2 (S40.rowMajor i) = tab laL i := by decide +kernel
  exact funext h

theorem kd_lit : (fun i => lit3 (S40.rowMajor i)) = tab kdL := by
  have h : ∀ i : S40.Idx, lit3 (S40.rowMajor i) = tab kdL i := by decide +kernel
  exact funext h

set_option backward.proofsInPublic true in
/-- The tables' contents as the pipeline takes them. -/
def pf : pre0.Contents (Elt F) := fun | ⟨0, _⟩ => tab kiL | ⟨1, _⟩ => tab qiL | ⟨2, _⟩ => tab laL | ⟨3, _⟩ => tab kdL | ⟨_ + 4, h⟩ => absurd h (by simp)

/-- The tables' contents as the body takes them. -/
def words : Words F := ⟨tab kiL, tab qiL, tab laL, tab kdL⟩

/-! The words at a point. -/

/-- A table's word at a point, read off its list. -/
abbrev at_ (l : List (BitVec 32)) (i : grid0.Coords) : BitVec 32 := l.getD (i 1).val 0#32

theorem ki_bits : ∀ i : grid0.Coords, (words (F := Bits)).kiAt i = at_ kiL i := by decide +kernel
theorem ki_at (i : grid0.Coords) : (words (F := F)).kiAt i = at_ kiL i := ki_bits i
theorem qi_bits : ∀ i : grid0.Coords, (words (F := Bits)).qiAt i = at_ qiL i := by decide +kernel
theorem qi_at (i : grid0.Coords) : (words (F := F)).qiAt i = at_ qiL i := qi_bits i
theorem la_bits : ∀ i : grid0.Coords, (words (F := Bits)).laAt i = at_ laL i := by decide +kernel
theorem la_at (i : grid0.Coords) : (words (F := F)).laAt i = at_ laL i := la_bits i
theorem kd_bits : ∀ i : grid0.Coords, (words (F := Bits)).kdAt i = at_ kdL i := by decide +kernel
theorem kd_at (i : grid0.Coords) : (words (F := F)).kdAt i = at_ kdL i := kd_bits i

/-! Every block lies inside its array. -/

theorem inb_bits0 : ∀ i : grid0.Coords, ∀ a, (cc0_transform_0 k0_off1_inb numel1_S1 (pf (F := Bits)) i a + 1) * S1x2048x96.size a ≤ S8x8192x96.size a := by decide +kernel
theorem inb_bits1 : ∀ i : grid0.Coords, ∀ a, (cc0_transform_1 k0_off1_inb numel1_S1 (pf (F := Bits)) i a + 1) * S1x512x96.size a ≤ S8x8192x96.size a := by decide +kernel
theorem inb_bits2 : ∀ i : grid0.Coords, ∀ a, (cc0_transform_2 k0_off1_inb numel1_S1 (pf (F := Bits)) i a + 1) * S1x512x64.size a ≤ S8x8192x64.size a := by decide +kernel
theorem inb_bits3 : ∀ i : grid0.Coords, ∀ a, (cc0_transform_3 k0_off1_inb numel1_S1 (pf (F := Bits)) i a + 1) * S1x2048x64.size a ≤ S8x8192x64.size a := by decide +kernel
theorem inb_bits4 : ∀ i : grid0.Coords, ∀ a, (cc0_transform_4 k0_off1_inb numel1_S1 (pf (F := Bits)) i a + 1) * S1x2048x64.size a ≤ S8x8192x64.size a := by decide +kernel
theorem inb_bits5 : ∀ i : grid0.Coords, ∀ a, (cc0_transform_5 k0_off1_inb numel1_S1 (pf (F := Bits)) i a + 1) * S1x2048x1.size a ≤ S8x8192x1.size a := by decide +kernel
theorem inb_bits7 : ∀ i : grid0.Coords, ∀ a, (cc0_transform_7 k0_off1_inb numel1_S1 (pf (F := Bits)) i a + 1) * S1x512x96.size a ≤ S8x8192x96.size a := by decide +kernel
theorem inb_bits8 : ∀ i : grid0.Coords, ∀ a, (cc0_transform_8 k0_off1_inb numel1_S1 (pf (F := Bits)) i a + 1) * S1x512x64.size a ≤ S8x8192x64.size a := by decide +kernel

/-- The side condition on the tables holds of these. -/
theorem ok : ok0 (pf (F := F)) :=
  ⟨fun i => ⟨inb_bits0 i, .inr (Affine.block_words_dvd (s := S8x8192x96) (p := EltTy.packing .bf16) (by decide) (by decide))⟩,
   fun i => ⟨inb_bits1 i, .inr (Affine.block_words_dvd (s := S8x8192x96) (p := EltTy.packing .bf16) (by decide) (by decide))⟩,
   fun i => ⟨inb_bits2 i, .inr (Affine.block_words_dvd (s := S8x8192x64) (p := EltTy.packing .bf16) (by decide) (by decide))⟩,
   fun i => ⟨inb_bits3 i, .inr (Affine.block_words_dvd (s := S8x8192x64) (p := EltTy.packing .bf16) (by decide) (by decide))⟩,
   fun i => ⟨inb_bits4 i, .inr (Affine.block_words_dvd (s := S8x8192x64) (p := EltTy.packing .bf16) (by decide) (by decide))⟩,
   fun i => ⟨inb_bits5 i, .inl rfl⟩,
   fun i => ⟨inb_bits7 i, .inr (Affine.block_words_dvd (s := S8x8192x96) (p := EltTy.packing .bf16) (by decide) (by decide))⟩,
   fun i => ⟨inb_bits8 i, .inr (Affine.block_words_dvd (s := S8x8192x64) (p := EltTy.packing .bf16) (by decide) (by decide))⟩⟩

variable [Named F]

/-- The tables, admissible; the pipeline at them. -/
def adm : (pcfg0 (F := F)).Adm := ⟨pf, ok⟩

end Cert.Attn
-- ==== Proof.Point.lean ====
module

public import proofs.«01_k».proof.Proof.Tables

/-!
The body's run at a point of the grid, whatever the point's kind.
-/

@[expose] public section

set_option maxRecDepth 16384
set_option Elab.async false

noncomputable section

namespace Cert.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The offsets the body computes are in range at every point. -/
theorem checks_list : ∀ i : grid0.Coords, k0_chk1 (at_ qiL i) (at_ kdL i) ∧ k0_chk2 (at_ qiL i) (at_ kdL i)
    ∧ k0_chk3 (at_ qiL i) (at_ kdL i) ∧ k0_chk4 (at_ qiL i) (at_ kdL i) ∧ k0_chk5 (at_ qiL i) (at_ kdL i) := by decide +kernel

omit [Named F] in
theorem checks (i : grid0.Coords) : Checks (words (F := F)) i := by
  have h := checks_list i
  constructor <;> rw [qi_at, kd_at]
  exacts [h.1, h.2.1, h.2.2.1, h.2.2.2.1, h.2.2.2.2]

/-- There are five kinds. -/
theorem kind_cases : ∀ i : grid0.Coords, at_ kdL i = 0#32 ∨ at_ kdL i = 1#32 ∨ at_ kdL i = 2#32 ∨ at_ kdL i = 3#32 ∨ at_ kdL i = 4#32 := by
  decide +kernel

/-- The accumulators after a point, from those before it. -/
abbrev next (i : grid0.Coords) (x : Blocks F) (s : Acc F) : Acc F := step i (at_ kiL i) (at_ qiL i) (at_ kdL i) x s

/-- The body runs at every point, and takes the accumulators to `next`. -/
theorem body_runs (c : Dev nD) (i : grid0.Coords) (m : Stage) (x : Blocks F) (y6 : Vec F S1x8192x96 .bf16)
    (y7 : Vec F S1x512x96 .bf16) (y8 : Vec F S1x512x64 .bf16) (s : Acc F) :
    BodyRuns c i m words x y6 y7 y8 s (next i x s) := by
  unfold next step pairStep
  rcases kind_cases i with h | h | h | h | h
  · rw [if_pos h, ← kd_at (F := F), ← qi_at (F := F)]
    exact run0 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_pos h, ← kd_at (F := F), ← qi_at (F := F), ← ki_at (F := F)]
    exact run1 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_pos h, ← kd_at (F := F), ← qi_at (F := F), ← ki_at (F := F)]
    exact run2 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_neg (by rw [h]; decide), if_pos h, ← kd_at (F := F), ← qi_at (F := F), ← ki_at (F := F)]
    exact run3 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_neg (by rw [h]; decide), if_neg (by rw [h]; decide), ← kd_at (F := F), ← qi_at (F := F), ← ki_at (F := F)]
    exact run4 c i m words x y6 y7 y8 s (checks i) (by rw [kd_at, h]; decide) (by rw [kd_at, h]; decide) (by rw [kd_at, h]; decide) (by rw [kd_at, h]; decide) (by rw [kd_at, h]; decide) (by rw [kd_at, h]; decide)

end Cert.Attn
-- ==== Proof.Sched.lean ====
module

public import proofs.«01_k».proof.Proof.Point
public import Idealize.ShloMosaic.Lib.Pipeline.TableIdle

/-!
The pipeline at the tables, and its schedule: where each output is written back, and which points leave it alone.
-/

@[expose] public section

set_option maxRecDepth 16384

noncomputable section

namespace Cert.Attn

open Cert.KernelIdeal Cert.KernelIdeal.Gen
open Idealize.ShloMosaic
open Idealize.ShloMosaic.TcCoe

variable {F : FTy → Type} [FloatOps F] [Named F]

/-- The pipeline at the tables. -/
abbrev cfgA : Pipeline.Cfg sig Λ₀ := cfg0 (F := F) adm

/-- The coordinates of a point: the head and the position in the tables. -/
abbrev crd (t : Fin grid0.N) : grid0.Coords := grid0.coords t

theorem crd_head : ∀ t : Fin grid0.N, (crd t 0).val = t.val / 40 := by decide +kernel
theorem crd_pos : ∀ t : Fin grid0.N, (crd t 1).val = t.val % 40 := by decide +kernel

/-! Which points leave an output block alone. -/

theorem idle_bits7 : ∀ i : grid0.Coords, idle0 (pf (F := Bits)) 7 i = !(k0_cond8 (at_ laL i) == 1#1) := by decide +kernel

theorem idle6 (i : grid0.Coords) : (cfgA (F := F)).idle (6 : Fin 9) i = !(k0_cond9 i == 1#1) := rfl
theorem idle7 (i : grid0.Coords) : (cfgA (F := F)).idle (7 : Fin 9) i = !(k0_cond8 (at_ laL i) == 1#1) := idle_bits7 i
theorem idle8 (i : grid0.Coords) : (cfgA (F := F)).idle (8 : Fin 9) i = !(k0_cond8 (at_ laL i) == 1#1) := idle_bits7 i

/-! Which block a point takes of each array: the query side by the query block, the key side by the key block. -/

/-- The block index of the arrays taken by query block. -/
def byQ (i : grid0.Coords) : Fin 3 → ℕ := ![(i 0).val, (at_ qiL i).toNat, 0]
/-- The block index of the arrays taken by key block. -/
def byK (i : grid0.Coords) : Fin 3 → ℕ := ![(i 0).val, (at_ kiL i).toNat, 0]
/-- The block index of the query gradients. -/
def byH (i : grid0.Coords) : Fin 3 → ℕ := ![(i 0).val, 0, 0]

theorem ix_bits1 : ∀ i : grid0.Coords, ∀ a, cc0_transform_1 k0_off1_inb numel1_S1 (pf (F := Bits)) i a = byK i a := by decide +kernel
theorem ix_bits0 : ∀ i : grid0.Coords, ∀ a, cc0_transform_0 k0_off1_inb numel1_S1 (pf (F := Bits)) i a = byQ i a := by decide +kernel
theorem ix_bits6 : ∀ i : grid0.Coords, ∀ a, cc0_transform_6 i a = byH i a := by decide +kernel

theorem index0 : ((cfgA (F := F)).win (0 : Fin 9)).indexMap = byQ := funext fun i => funext (ix_bits0 i)
theorem index1 : ((cfgA (F := F)).win (1 : Fin 9)).indexMap = byK := funext fun i => funext (ix_bits1 i)
theorem index2 : ((cfgA (F := F)).win (2 : Fin 9)).indexMap = byK := funext fun i => funext (ix_bits1 i)
theorem index3 : ((cfgA (F := F)).win (3 : Fin 9)).indexMap = byQ := funext fun i => funext (ix_bits0 i)
theorem index4 : ((cfgA (F := F)).win (4 : Fin 9)).indexMap = byQ := funext fun i => funext (ix_bits0 i)
theorem index5 : ((cfgA (F := F)).win (5 : Fin 9)).indexMap = byQ := funext fun i => funext (ix_bits0 i)
theorem index6 : ((cfgA (F := F)).win (6 : Fin 9)).indexMap = byH := funext fun i => funext (ix_bits6 i)
theorem index7 : ((cfgA (F := F)).win (7 : Fin 9)).indexMap = byK := funext fun i => funext (ix_bits1 i)
theorem index8 : ((cfgA (F := F)).win (8 : Fin 9)).indexMap = byK := funext fun i => funext (ix_bits1 i)

/-! Where an output is written back: the key and value gradients at a key block's last point, the query gradients at a
head's last point. -/

theorem flushH : ∀ t : Fin grid0.N, Pipeline.Window.flushOf grid0 true byH t = (k0_cond9 (crd t) == 1#1) := by decide +kernel
theorem flushK : ∀ t : Fin grid0.N, Pipeline.Window.flushOf grid0 true byK t = (k0_cond8 (at_ laL (crd t)) == 1#1) := by decide +kernel

theorem flush6 (t : Fin grid0.N) : ((cfgA (F := F)).win (6 : Fin 9)).flush t = (k0_cond9 (crd t) == 1#1) := by
  rw [Pipeline.Window.flush_eq_flushOf, index6]; exact flushH t
theorem flush7 (t : Fin grid0.N) : ((cfgA (F := F)).win (7 : Fin 9)).flush t = (k0_cond8 (at_ laL (crd t)) == 1#1) := by
  rw [Pipeline.Window.flush_eq_flushOf, index7]; exact flushK t
theorem flush8 (t : Fin grid0.N) : ((cfgA (F := F)).win (8 : Fin 9)).flush t = (k0_cond8 (at_ laL (crd t)) == 1#1) := by
  rw [Pipeline.Window.flush_eq_flushOf, index8]; exact flushK t

end Cert.Attn
-- ==== Proof.Data.lean ====
module

public import proofs.«01_k».proof.Proof.Sched
public import Idealize.ShloMosaic.Lib.Pipeline.FrameBody

/-!
What the pipeline holds at every point: the blocks the windows fetch, the three accumulators as the points before
left them, and the output blocks. The body's run at a point keeps it.
-/

@[expose] public section

set_option maxRecDepth 16384
set_option maxHeartbeats 4000000

noncomputable section

namespace Cert.Attn

open Cert.KernelIdeal Cert.KernelIdeal.Gen
open Idealize.ShloMosaic
open Idealize.ShloMosaic.TcCoe Idealize.ShloMosaic.Tactic
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the arrays hold when the call begins. -/
abbrev Arrays (F : FTy → Type) := (c : Dev nD) → (b : Ref sig .tc) → Buf (Elt F) ((c : Thread nD τ).loc b)

variable (V : Arrays F)

/-- The block of window `w` at a point. -/
def blk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef (cfgA (F := F)).spec w))

/-- The input blocks of a point. -/
def blocks (c : Dev nD) (t : Fin (cfgA (F := F)).N) : Blocks F where
  q := blk V c (0 : Fin 9) t
  k := blk V c (1 : Fin 9) t
  v := blk V c (2 : Fin 9) t
  o := blk V c (3 : Fin 9) t
  g := blk V c (4 : Fin 9) t
  l := blk V c (5 : Fin 9) t

/-- The accumulators before point `n`, from what they held before the first. -/
def accAt (c : Dev nD) (s : Acc F) : ℕ → Acc F
  | 0 => s
  | n + 1 => if h : n < (cfgA (F := F)).N then next (crd ⟨n, h⟩) (blocks V c ⟨n, h⟩) (accAt c s n) else accAt c s n

theorem accAt_succ (c : Dev nD) (s : Acc F) (t : Fin (cfgA (F := F)).N) :
    accAt V c s (t.val + 1) = next (crd t) (blocks V c t) (accAt V c s t.val) := by
  conv_lhs => unfold accAt
  rw [dif_pos t.isLt]

theorem kind_first : ∀ i : grid0.Coords, (i 1).val = 0 → at_ kdL i = 4#32 := by decide +kernel

omit [Named F] in
/-- A head's first point clears all three accumulators. -/
theorem start_first (i : grid0.Coords) (h : (i 1).val = 0) (s s' : Acc F) : start i (at_ kdL i) s = start i (at_ kdL i) s' := by
  have hz : Scalar.cmpi .ne (Scalar.extui (Scalar.cmpi .eq (BitVec.ofNat 32 (i 1).val) 0#32)) 0#32 = 1#1 := by rw [h]; decide
  have hk : Scalar.cmpi .ne (Scalar.extui (Scalar.cmpi .sgt (at_ kdL i) 0#32)) 0#32 = 1#1 := by rw [kind_first i h]; decide
  unfold start; rw [if_pos hz, if_pos hz, if_pos hk, if_pos hk, if_pos hk, if_pos hk]

/-- What the accumulators held before the first point does not matter. -/
theorem accAt_any (c : Dev nD) (s s' : Acc F) : ∀ n, 0 < n → accAt V c s n = accAt V c s' n
  | 0, h => absurd h (lt_irrefl 0)
  | n + 1, _ => by
    unfold accAt
    by_cases h : n < (cfgA (F := F)).N
    · rw [dif_pos h, dif_pos h]
      by_cases hn : (crd ⟨n, h⟩ 1).val = 0
      · show step _ _ _ _ _ _ = step _ _ _ _ _ _
        unfold step; rw [start_first _ hn (accAt V c s n) (accAt V c s' n)]
      · have : 0 < n := Nat.pos_of_ne_zero fun h0 => hn (by subst h0; rw [crd_pos]; rfl)
        rw [accAt_any c s s' n this]
    · rw [dif_neg h, dif_neg h]
      have : 0 < n := lt_of_lt_of_le (by rw [show (cfgA (F := F)).N = 320 from N_0]; decide) (not_lt.1 h)
      exact accAt_any c s s' n this

/-- Accumulators cleared. -/
def zeroAcc : Acc F := ⟨k0_pay38, k0_pay39, k0_pay40⟩

/-- The accumulators after a point. -/
abbrev accOf (c : Dev nD) (t : Fin (cfgA (F := F)).N) : Acc F := accAt V c zeroAcc (t.val + 1)

/-- The tables, half of each. -/
def tables (c : Dev nD) : sProp 𝕄 :=
  iprop((kiM.view.loc (c : Thread nD τ) ↦{fullShare.right} (words (F := F)).ki) ∗ (qiM.view.loc (c : Thread nD τ) ↦{fullShare.right} (words (F := F)).qi)
    ∗ (laM.view.loc (c : Thread nD τ) ↦{fullShare.right} (words (F := F)).la) ∗ (kdM.view.loc (c : Thread nD τ) ↦{fullShare.right} (words (F := F)).kd))

/-- Before point `n`: the tables, the accumulators as the points before left them, and the generator's register. -/
def Phi (c : Dev nD) (n : ℕ) : sProp 𝕄 :=
  iprop((∃ s : Acc F, owns (c : Thread nD τ) sc0 fullShare (accAt V c s n).dq ∗ owns (c : Thread nD τ) sc1 fullShare (accAt V c s n).dk
      ∗ owns (c : Thread nD τ) sc2 fullShare (accAt V c s n).dv)
    ∗ tables c ∗ ∃ r, prngReg c r)

/-- The pipeline's data: inputs hold their blocks, outputs the accumulators, cast. -/
def dats (_ : Fin 1) (c : Dev nD) : Dat τ (Elt F) Unit ℕ (UR sig nD τ) ℕ (cfgA (F := F)) c where
  A w := V c (Pipeline.arrRef (cfgA (F := F)).spec w)
  after w t := match w with
    | ⟨0, _⟩ => blk V c (0 : Fin 9) t
    | ⟨1, _⟩ => blk V c (1 : Fin 9) t
    | ⟨2, _⟩ => blk V c (2 : Fin 9) t
    | ⟨3, _⟩ => blk V c (3 : Fin 9) t
    | ⟨4, _⟩ => blk V c (4 : Fin 9) t
    | ⟨5, _⟩ => blk V c (5 : Fin 9) t
    | ⟨6, _⟩ => k0_pay7 (accOf V c t).dq
    | ⟨7, _⟩ => k0_pay5 (accOf V c t).dk
    | ⟨8, _⟩ => k0_pay6 (accOf V c t).dv
    | ⟨_ + 9, h⟩ => absurd h (Nat.not_lt.2 (Nat.le_add_left _ _))
  Φ t := Phi V c t.val
  q _ := fullShare
  owed _ := 0

/-- A point's staging buffers. -/
def stageAt (t : Fin (cfgA (F := F)).N) : Stage where
  q := spec0_0.stage ((cfgA (F := F)).slots t (0 : Fin 9))
  hq := hstage0_0 (((cfgA (F := F)).slots t (0 : Fin 9)).cast nbuf0_0)
  k := spec0_1.stage ((cfgA (F := F)).slots t (1 : Fin 9))
  hk := hstage0_1 (((cfgA (F := F)).slots t (1 : Fin 9)).cast nbuf0_1)
  v := spec0_2.stage ((cfgA (F := F)).slots t (2 : Fin 9))
  hv := hstage0_2 (((cfgA (F := F)).slots t (2 : Fin 9)).cast nbuf0_2)
  o := spec0_3.stage ((cfgA (F := F)).slots t (3 : Fin 9))
  ho := hstage0_3 (((cfgA (F := F)).slots t (3 : Fin 9)).cast nbuf0_3)
  g := spec0_4.stage ((cfgA (F := F)).slots t (4 : Fin 9))
  hg := hstage0_4 (((cfgA (F := F)).slots t (4 : Fin 9)).cast nbuf0_4)
  l := spec0_5.stage ((cfgA (F := F)).slots t (5 : Fin 9))
  hl := hstage0_5 (((cfgA (F := F)).slots t (5 : Fin 9)).cast nbuf0_5)
  dq := spec0_6.stage ((cfgA (F := F)).slots t (6 : Fin 9))
  hdq := hstage0_6 (((cfgA (F := F)).slots t (6 : Fin 9)).cast nbuf0_6)
  dk := spec0_7.stage ((cfgA (F := F)).slots t (7 : Fin 9))
  hdk := hstage0_7 (((cfgA (F := F)).slots t (7 : Fin 9)).cast nbuf0_7)
  dv := spec0_8.stage ((cfgA (F := F)).slots t (8 : Fin 9))
  hdv := hstage0_8 (((cfgA (F := F)).slots t (8 : Fin 9)).cast nbuf0_8)

/-! An input window holds its block, fetched at the point or before. -/

theorem before0 (c : Dev nD) (t : Fin (cfgA (F := F)).N) (d) : (dats V 0 c).before (0 : Fin 9) t d = blk V c (0 : Fin 9) t :=
  ((dats V 0 c).before_in_eq_fetched (0 : Fin 9) rfl (fun _ => rfl) (fun _ _ _ => rfl) (fun _ => rfl) t d).trans rfl
theorem before1 (c : Dev nD) (t : Fin (cfgA (F := F)).N) (d) : (dats V 0 c).before (1 : Fin 9) t d = blk V c (1 : Fin 9) t :=
  ((dats V 0 c).before_in_eq_fetched (1 : Fin 9) rfl (fun _ => rfl) (fun _ _ _ => rfl) (fun _ => rfl) t d).trans rfl
theorem before2 (c : Dev nD) (t : Fin (cfgA (F := F)).N) (d) : (dats V 0 c).before (2 : Fin 9) t d = blk V c (2 : Fin 9) t :=
  ((dats V 0 c).before_in_eq_fetched (2 : Fin 9) rfl (fun _ => rfl) (fun _ _ _ => rfl) (fun _ => rfl) t d).trans rfl
theorem before3 (c : Dev nD) (t : Fin (cfgA (F := F)).N) (d) : (dats V 0 c).before (3 : Fin 9) t d = blk V c (3 : Fin 9) t :=
  ((dats V 0 c).before_in_eq_fetched (3 : Fin 9) rfl (fun _ => rfl) (fun _ _ _ => rfl) (fun _ => rfl) t d).trans rfl
theorem before4 (c : Dev nD) (t : Fin (cfgA (F := F)).N) (d) : (dats V 0 c).before (4 : Fin 9) t d = blk V c (4 : Fin 9) t :=
  ((dats V 0 c).before_in_eq_fetched (4 : Fin 9) rfl (fun _ => rfl) (fun _ _ _ => rfl) (fun _ => rfl) t d).trans rfl
theorem before5 (c : Dev nD) (t : Fin (cfgA (F := F)).N) (d) : (dats V 0 c).before (5 : Fin 9) t d = blk V c (5 : Fin 9) t :=
  ((dats V 0 c).before_in_eq_fetched (5 : Fin 9) rfl (fun _ => rfl) (fun _ _ _ => rfl) (fun _ => rfl) t d).trans rfl

/-- The program the pipeline runs at a point is the body at the point's staging buffers. -/
theorem body_eq (t : Fin (cfgA (F := F)).N) :
    defs₀ (F := F) .tc (cfgA (F := F)).body ((cfgA (F := F)).bodyArgs t ((cfgA (F := F)).slots t)) = bodyAt (crd t) (stageAt (F := F) t) := by
  unfold defs₀; rw [Defs.onTc_tc]; rfl

/-- What the pipeline asks of output window `w` after a point: unchanged where the point is idle, else the cast accumulator. -/
abbrev Left (c : Dev nD) (t : Fin (cfgA (F := F)).N) (w : Fin (cfgA (F := F)).W) : sProp 𝕄 :=
  match (cfgA (F := F)).idle w ((cfgA (F := F)).grid.coords t) with
  | true => match ((cfgA (F := F)).win w).flush t with
    | false => iprop(∃ d, owns (c : Thread nD τ) (((cfgA (F := F)).win w).stage ((cfgA (F := F)).slots t w)) fullShare ((dats V 0 c).before w t d))
    | true => owns (c : Thread nD τ) (((cfgA (F := F)).win w).stage ((cfgA (F := F)).slots t w)) fullShare ((dats V 0 c).after w t)
  | false => owns (c : Thread nD τ) (((cfgA (F := F)).win w).stage ((cfgA (F := F)).slots t w)) fullShare ((dats V 0 c).after w t)

theorem left6 (c : Dev nD) (t : Fin (cfgA (F := F)).N) (d) :
    (owns (c : Thread nD τ) (stageAt (F := F) t).dq fullShare (outQ (crd t) (accOf V c t) ((dats V 0 c).before (6 : Fin 9) t d)) : sProp 𝕄)
      ⊢ Left V c t (6 : Fin 9) := by
  unfold Left
  rw [idle6, flush6]
  unfold outQ
  by_cases h : k0_cond9 (crd t) = 1#1
  · rw [if_pos h, h]; exact Entails.rfl
  · rw [if_neg h, beq_eq_false_iff_ne.2 h]; simp only [Bool.not_false]; iintro H; iexists d; iexact H

theorem left7 (c : Dev nD) (t : Fin (cfgA (F := F)).N) (d) :
    (owns (c : Thread nD τ) (stageAt (F := F) t).dk fullShare (outK ((words (F := F)).laAt (crd t)) (accOf V c t) ((dats V 0 c).before (7 : Fin 9) t d)) : sProp 𝕄)
      ⊢ Left V c t (7 : Fin 9) := by
  unfold Left
  rw [idle7, flush7, la_at]
  unfold outK
  by_cases h : k0_cond8 (at_ laL (crd t)) = 1#1
  · rw [if_pos h, h]; exact Entails.rfl
  · rw [if_neg h, beq_eq_false_iff_ne.2 h]; simp only [Bool.not_false]; iintro H; iexists d; iexact H

theorem left8 (c : Dev nD) (t : Fin (cfgA (F := F)).N) (d) :
    (owns (c : Thread nD τ) (stageAt (F := F) t).dv fullShare (outV ((words (F := F)).laAt (crd t)) (accOf V c t) ((dats V 0 c).before (8 : Fin 9) t d)) : sProp 𝕄)
      ⊢ Left V c t (8 : Fin 9) := by
  unfold Left
  rw [idle8, flush8, la_at]
  unfold outV
  by_cases h : k0_cond8 (at_ laL (crd t)) = 1#1
  · rw [if_pos h, h]; exact Entails.rfl
  · rw [if_neg h, beq_eq_false_iff_ne.2 h]; simp only [Bool.not_false]; iintro H; iexists d; iexact H

/-- The body at a point: from the invariant and the windows' buffers, to the invariant at the next point and the buffers left. -/
theorem sound (c : Dev nD) (t : Fin (cfgA (F := F)).N) (O : sProp 𝕄) :
    iprop(Phi V c t.val ∗ O
      ∗ (∃ d, owns (c : Thread nD τ) (stageAt (F := F) t).q fullShare ((dats V 0 c).before (0 : Fin 9) t d))
      ∗ (∃ d, owns (c : Thread nD τ) (stageAt (F := F) t).k fullShare ((dats V 0 c).before (1 : Fin 9) t d))
      ∗ (∃ d, owns (c : Thread nD τ) (stageAt (F := F) t).v fullShare ((dats V 0 c).before (2 : Fin 9) t d))
      ∗ (∃ d, owns (c : Thread nD τ) (stageAt (F := F) t).o fullShare ((dats V 0 c).before (3 : Fin 9) t d))
      ∗ (∃ d, owns (c : Thread nD τ) (stageAt (F := F) t).g fullShare ((dats V 0 c).before (4 : Fin 9) t d))
      ∗ (∃ d, owns (c : Thread nD τ) (stageAt (F := F) t).l fullShare ((dats V 0 c).before (5 : Fin 9) t d))
      ∗ (∃ d, owns (c : Thread nD τ) (stageAt (F := F) t).dq fullShare ((dats V 0 c).before (6 : Fin 9) t d))
      ∗ (∃ d, owns (c : Thread nD τ) (stageAt (F := F) t).dk fullShare ((dats V 0 c).before (7 : Fin 9) t d))
      ∗ (∃ d, owns (c : Thread nD τ) (stageAt (F := F) t).dv fullShare ((dats V 0 c).before (8 : Fin 9) t d)))
    ⊢ wp (M := 𝕄) Idealize.ShloMosaic.frame (wpE (defs₀ (F := F)) Variants.none c none) Set.univ (bodyAt (crd t) (stageAt (F := F) t)) fun _ =>
      iprop(Phi V c (t.val + 1) ∗ O
        ∗ owns (c : Thread nD τ) (stageAt (F := F) t).q fullShare (blocks V c t).q
        ∗ owns (c : Thread nD τ) (stageAt (F := F) t).k fullShare (blocks V c t).k
        ∗ owns (c : Thread nD τ) (stageAt (F := F) t).v fullShare (blocks V c t).v
        ∗ owns (c : Thread nD τ) (stageAt (F := F) t).o fullShare (blocks V c t).o
        ∗ owns (c : Thread nD τ) (stageAt (F := F) t).g fullShare (blocks V c t).g
        ∗ owns (c : Thread nD τ) (stageAt (F := F) t).l fullShare (blocks V c t).l
        ∗ Left V c t (6 : Fin 9) ∗ Left V c t (7 : Fin 9) ∗ Left V c t (8 : Fin 9)) := by
  unfold Phi tables
  simp only [before0, before1, before2, before3, before4, before5]
  iintro ⟨⟨⟨%s, HS0, HS1, HS2⟩, ⟨HT0, HT1, HT2, HT3⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c (crd t) (stageAt t) (blocks V c t) ((dats V 0 c).before (6 : Fin 9) t d6) ((dats V 0 c).before (7 : Fin 9) t d7)
    ((dats V 0 c).before (8 : Fin 9) t d8) (accAt V c s t.val) _)
  rw [← accAt_succ V c s t]
  unfold held
  isplitl [H0 H1 H2 H3 H4 H5 HT0 HT1 HT2 HT3 H6 H7 H8 HS0 HS1 HS2]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    isplitl [HT1]; · iexact HT1
    isplitl [HT2]; · iexact HT2
    isplitl [HT3]; · iexact HT3
    isplitl [H6]; · iexact H6
    isplitl [H7]; · iexact H7
    isplitl [H8]; · iexact H8
    isplitl [HS0]; · iexact HS0
    isplitl [HS1]; · iexact HS1
    iexact HS2
  iintro ⟨H0, H1, H2, H3, H4, H5, HT0, HT1, HT2, HT3, H6, H7, H8, HS0, HS1, HS2⟩
  isplitl [HS0 HS1 HS2 HT0 HT1 HT2 HT3 HR]
  · isplitl [HS0 HS1 HS2]
    · iexists s; isplitl [HS0]; · iexact HS0
      isplitl [HS1]; · iexact HS1
      iexact HS2
    isplitl [HT0 HT1 HT2 HT3]
    · isplitl [HT0]; · iexact HT0
      isplitl [HT1]; · iexact HT1
      isplitl [HT2]; · iexact HT2
      iexact HT3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [accAt_any V c s zeroAcc (t.val + 1) (Nat.succ_pos _)]
  isplitl [H6]; · iapply (left6 V c t d6); iexact H6
  isplitl [H7]; · iapply (left7 V c t d7); iexact H7
  iapply (left8 V c t d8); iexact H8

/-- The body's obligation at every point. -/
theorem body_obligation (c : Dev nD) : BodyObligation (dats V 0 c) (defs₀ (F := F)) Variants.none () Set.univ := fun t => by
  rw [bigSep_W0, bigSep_W0, body_eq, show (dats V 0 c).Φ t.castSucc = Phi V c t.val from Dat.Φ_castSucc (fun n _ => Phi V c n) t,
    show (dats V 0 c).Φ t.succ = Phi V c (t.val + 1) from rfl,
    show (dats V 0 c).owesAt () t.succ = (dats V 0 c).owesAt () t.castSucc from rfl]
  exact sound V c t _

end Cert.Attn
-- ==== Proof.Frame.lean ====
module

public import proofs.«01_k».proof.Proof.Data
public import Idealize.ShloMosaic.Lib.Pipeline.Frame
public import Idealize.ShloMosaic.Lib.StableHlo.RunRead

/-!
The whole program: the host's lines, then the call. Every run ends, with the arguments unchanged and the three results at
what the pipeline's data says.
-/

@[expose] public section

set_option maxRecDepth 16384
set_option maxHeartbeats 4000000

noncomputable section

namespace Cert.Attn

open Cert.KernelIdeal Cert.KernelIdeal.Gen
open Idealize.ShloMosaic
open Idealize.ShloMosaic.TcCoe Idealize.ShloMosaic.Tactic
open Idealize.ShloMosaic.Pipeline (Dat BodyObligation BodyObligationLoose)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (m : (ℓ : Loc nD τ sig) → Buf (Elt F) ℓ)

/-- What the arrays hold when the call begins: what the host's lines leave. -/
abbrev atCall : Arrays F := fun c b => StableHlo.after hostOps0 (fun b => m (c, b)) b

theorem share_full (V : Arrays F) (c : Dev nD) (w : Fin (cfgA (F := F)).W) : (dats V 0 c).share w = fullShare := by
  unfold Dat.share; split <;> rfl

/-- The references the host's lines write, in order. -/
abbrev hostWrites : List (Ref sig .tc) := [main_c, main_c_0, main_c_1, main_c_2, main_v0, main_v1, main_v2, main_v3, main_v4, main_v5, main_v6,
  main_v7, main_cst, main_v8, main_v9, main_cst_3, main_v10, main_v11, main_v12, main_v13, main_v14, main_cst_4, main_v15, main_v16, main_v17,
  main_v18, main_v19, main_v20, main_v21, main_v22, main_v23]

theorem host_fresh : (hostOps0 : List (HloOp τ sig (Elt F))).Forall fun op => op.fresh = ∅ := by
  repeat' constructor

/-- The host's lines leave an array they do not write. -/
theorem atCall_keep (c : Dev nD) {r : Ref sig .tc} (h : r ∉ hostWrites) : atCall m c r = m ((c : Thread nD τ).loc r) :=
  StableHlo.after_unwritten (ops := hostOps0) hostWrites rfl h _

/-- The tables at the call. -/
theorem atCall_ki (c : Dev nD) : atCall m c main_c = tab kiL :=
  ((StableHlo.after_last_write (ops := hostOps0) (i := 0) (hostWrites.drop 1) rfl rfl (by decide) _).trans (StableHlo.nullary_result ..)).trans ki_lit
theorem atCall_qi (c : Dev nD) : atCall m c main_c_0 = tab qiL :=
  ((StableHlo.after_last_write (ops := hostOps0) (i := 1) (hostWrites.drop 2) rfl rfl (by decide) _).trans (StableHlo.nullary_result ..)).trans qi_lit
theorem atCall_la (c : Dev nD) : atCall m c main_c_1 = tab laL :=
  ((StableHlo.after_last_write (ops := hostOps0) (i := 2) (hostWrites.drop 3) rfl rfl (by decide) _).trans (StableHlo.nullary_result ..)).trans la_lit
theorem atCall_kd (c : Dev nD) : atCall m c main_c_2 = tab kdL :=
  ((StableHlo.after_last_write (ops := hostOps0) (i := 3) (hostWrites.drop 4) rfl rfl (by decide) _).trans (StableHlo.nullary_result ..)).trans kd_lit

theorem tables_at (c : Dev nD) (k : Fin 4) : atCall m c (pre0.ref k) = (adm (F := F)).1 k := by
  fin_cases k
  · exact atCall_ki m c
  · exact atCall_qi m c
  · exact atCall_la m c
  · exact atCall_kd m c

/-- The tables as the launch hands them over, one by one. -/
theorem tables_split (c : Dev nD) :
    (Pipeline.ΦT pre0 (adm (F := F)).1 c : sProp 𝕄) = tables c := by
  unfold Pipeline.ΦT Pipeline.prefHeld tables
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

variable (V : Arrays F)

omit [Named F] in
/-- The scratch buffers, whatever they hold, are accumulators. -/
theorem acquire (c : Dev nD) :
    (Pipeline.scopedRest (Ix := Unit) (Name := ℕ) (U := UR sig nD τ) (Lvl := ℕ) (Val := Elt F) spec0 c : sProp 𝕄)
      ⊢ iprop(∃ s : Acc F, owns (c : Thread nD τ) sc0 fullShare s.dq ∗ owns (c : Thread nD τ) sc1 fullShare s.dk ∗ owns (c : Thread nD τ) sc2 fullShare s.dv) := by
  rw [scopedRest0_eq]
  iintro ⟨⟨%a0, H0⟩, ⟨%a1, H1⟩, ⟨%a2, H2⟩⟩
  iexists (⟨a0, a1, a2⟩ : Acc F)
  rw [owns_whole (c : Thread nD τ) cc0_scratch0, owns_whole (c : Thread nD τ) cc0_scratch1, owns_whole (c : Thread nD τ) cc0_scratch2]
  isplitl [H0]; · iexact H0
  isplitl [H1]; · iexact H1
  iexact H2

theorem accAt_zero (c : Dev nD) (s : Acc F) : accAt V c s 0 = s := by unfold accAt; rfl

/-- The invariant before the first point, from the scratch buffers and the tables. -/
theorem phi_acquire (c : Dev nD) : iprop(Pipeline.ΦA spec0 c ∗ tables c) ⊢ Phi V c 0 := by
  unfold Pipeline.ΦA Phi
  simp only [accAt_zero]
  iintro ⟨⟨H, HR⟩, HT⟩
  isplitl [H]
  · iapply (acquire c); iexact H
  isplitl [HT]; · iexact HT
  iexact HR

theorem enter (c : Dev nD) : iprop(Pipeline.ΦA (cfgA (F := F)).spec c ∗ Pipeline.ΦT pre0 (adm (F := F)).1 c) ⊢ (dats V 0 c).Φ 0 := by
  rw [tables_split]
  exact phi_acquire V c

omit [Named F] in
/-- The accumulators let go. -/
theorem release (c : Dev nD) (s : Acc F) :
    iprop(owns (c : Thread nD τ) sc0 fullShare s.dq ∗ owns (c : Thread nD τ) sc1 fullShare s.dk ∗ owns (c : Thread nD τ) sc2 fullShare s.dv)
      ⊢ (Pipeline.scopedRest (Ix := Unit) (Name := ℕ) (U := UR sig nD τ) (Lvl := ℕ) (Val := Elt F) spec0 c : sProp 𝕄) := by
  rw [scopedRest0_eq, owns_whole (c : Thread nD τ) cc0_scratch0, owns_whole (c : Thread nD τ) cc0_scratch1, owns_whole (c : Thread nD τ) cc0_scratch2]
  iintro ⟨H0, H1, H2⟩
  isplitl [H0]; · iexists s.dq; iexact H0
  isplitl [H1]; · iexists s.dk; iexact H1
  iexists s.dv; iexact H2

/-- The invariant at any point lets go of the scratch buffers. -/
theorem phi_release (c : Dev nD) (n : ℕ) : Phi V c n ⊢ (Pipeline.ΦA spec0 c : sProp 𝕄) := by
  unfold Pipeline.ΦA Phi
  iintro ⟨⟨%s, H⟩, -, HR⟩
  isplitl [H]
  · iapply (release c (accAt V c s n)); iexact H
  iexact HR

/-- After the last point the scratch buffers go back. -/
theorem leave (c : Dev nD) : (dats V 0 c).Φ (Fin.last (cfgA (F := F)).N) ⊢ Pipeline.ΦA (cfgA (F := F)).spec c :=
  phi_release V c (Fin.last (cfgA (F := F)).N).val

/-- Every run of the program ends with each array as the pipeline's data says, and every counter at zero. -/
theorem runs (g : Dev nD → PrngReg) : θ_run (defs (F := F)) (onTc (τ := τ) (main (F := F))) ⟨m, fun _ => 0, g⟩
    (fun r => Pipeline.FramePost (Pipeline.pin pcfgs fun _ => adm (F := F)) (dats (atCall m)) 0 (atCall m) r ∧ r.2.sem = fun _ => 0) :=
  Pipeline.θ_run_frameP_track pcfgs (fun _ => adm) (dats (atCall m)) 0 launch0 defs₀ Variants.none m g main
    (hbody := fun c => (body_obligation (atCall m) c).loose) (hshare := share_full (atCall m)) (howed := fun _ _ => rfl)
    (V := atCall m) (hmain := Pipeline.hmainP_prefix pcfgs 0 defs₀ Variants.none m main hostOps0 hostOps0_sub host_fresh main_chain)
    (hA := fun _ _ => rfl) (hpf := tables_at m) (hin := enter (atCall m)) (hout := leave (atCall m)) (Q' := fun r => Pipeline.FramePost (Pipeline.pin pcfgs fun _ => adm (F := F)) (dats (atCall m)) 0 (atCall m) r ∧ r.2.sem = fun _ => 0)
    (hQ' := fun _ h => h)

/-- The query gradients at the end: what the write-backs leave. -/
abbrev outDq (c : Dev nD) := (dats (atCall m) 0 c).arrAt (6 : Fin 9) (cfgA (F := F)).N
/-- The key gradients at the end. -/
abbrev outDk (c : Dev nD) := (dats (atCall m) 0 c).arrAt (7 : Fin 9) (cfgA (F := F)).N
/-- The value gradients at the end. -/
abbrev outDv (c : Dev nD) := (dats (atCall m) 0 c).arrAt (8 : Fin 9) (cfgA (F := F)).N

/-- An array the call only reads, and the host's lines do not write, ends as it began. -/
theorem kept (c : Dev nD) (w : Fin (cfgA (F := F)).W) (hw : ((cfgA (F := F)).win w).isOut = false)
    (h : Pipeline.arrRef spec0 w ∉ hostWrites) :
    (dats (atCall m) 0 c).arrAt w (cfgA (F := F)).N = m ((c : Thread nD τ).loc (Pipeline.arrRef (cfgA (F := F)).spec w)) :=
  ((dats (atCall m) 0 c).arrAt_in w hw _).trans (atCall_keep m c h)

/-- Every run ends with the results at the pipeline's arrays, the arguments unchanged and every counter at zero. -/
theorem runs_main (g : Dev nD → PrngReg) : θ_run (defs (F := F)) (onTc (τ := τ) (main (F := F))) ⟨m, fun _ => 0, g⟩
    (fun r => (∀ c : Dev nD,
      r.2.mem ((c.tc : Thread nD τ).loc main_v24_0) = outDq m c
      ∧ r.2.mem ((c.tc : Thread nD τ).loc main_v24_1) = outDk m c
      ∧ r.2.mem ((c.tc : Thread nD τ).loc main_v24_2) = outDv m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run (defs (F := F)) _ _).mono (fun _ h => ⟨fun c => ⟨(h.1 c).1 (6 : Fin 9), (h.1 c).1 (7 : Fin 9), (h.1 c).1 (8 : Fin 9),
      ((h.1 c).1 (0 : Fin 9)).trans (kept m c (0 : Fin 9) rfl (by decide)),
      ((h.1 c).1 (1 : Fin 9)).trans (kept m c (1 : Fin 9) rfl (by decide)),
      ((h.1 c).1 (2 : Fin 9)).trans (kept m c (2 : Fin 9) rfl (by decide)),
      ((h.1 c).1 (4 : Fin 9)).trans (kept m c (4 : Fin 9) rfl (by decide))⟩, h.2⟩) (runs m g)

end Cert.Attn
-- ==== Proof.Bits.Run0.lean ====
module

public import proofs.«01_k».proof.Proof.Bits.Body
public import Idealize.ShloMosaic.Lib.Exec
public import Idealize.ShloMosaic.Lib.Tactic
public import Idealize.ShloMosaic.Lib.Tactic.Stretches

/-!
For the program as it is compiled, the mask a number.

The kernel's body at one grid point: what it holds before and after, and that it runs from the one to the other.
-/

@[expose] public section

set_option maxRecDepth 16384

noncomputable section

namespace Cert.AttnBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 8000000 in
/-- The body at a point of kind 0. -/
theorem run0 (c : Dev nD) (i : grid0.Coords) (m : Stage) (T : Words F) (x : Blocks F) (y6 : Vec F S1x8192x96 .bf16)
    (y7 : Vec F S1x512x96 .bf16) (y8 : Vec F S1x512x64 .bf16) (s : Acc F) (hc : Checks T i)
    (h3 : k0_cond3 (T.kdAt i) = 1#1)
    (h4 : ¬ k0_cond4 (T.kdAt i) = 1#1)
    (h5 : ¬ k0_cond5 (T.kdAt i) = 1#1)
    (h6 : ¬ k0_cond6 (T.kdAt i) = 1#1)
    (h7 : ¬ k0_cond7 (T.kdAt i) = 1#1)
    (h11 : ¬ Scalar.cmpi .ne (Scalar.extui (Scalar.cmpi .sgt (T.kdAt i) 0#32)) 0#32 = 1#1) :
    BodyRuns c i m T x y6 y7 y8 s (step0 (T.qiAt i) x (start i (T.kdAt i) s)) := by
  intro K
  rw [bodyAt, cc0_mla_attn_bwd_eq_skeleton, held_open c m T x y6 y7 y8 s]
  unfold cc0_mla_attn_bwd_skel
  iintro ⟨⟨⟨%f0, %e0, H0⟩, ⟨%f1, %e1, H1⟩, ⟨%f2, %e2, H2⟩, ⟨%f3, %e3, H3⟩, ⟨%f4, %e4, H4⟩, ⟨%f5, %e5, H5⟩, HT0, HT1, HT2, HT3, ⟨%f6, %e6, HO6⟩, ⟨%f7, %e7, HO7⟩, ⟨%f8, %e8, HO8⟩, ⟨%fa, %ea, HS0⟩, ⟨%fb, %eb, HS1⟩, ⟨%fd, %ed, HS2⟩⟩, Hk⟩
  set S' := step0 (T.qiAt i) x (start i (T.kdAt i) s) with hS
  sl_exec! (disch := first | (guard_target = k0_chk1 _ _; exact hc.c1) | (guard_target = k0_chk2 _ _; exact hc.c2) | (guard_target = k0_chk3 _ _; exact hc.c3) | (guard_target = k0_chk4 _ _; exact hc.c4) | (guard_target = k0_chk5 _ _; exact hc.c5) | (guard_target = k0_cond3 _ = _; exact h3) | (guard_target = ¬ (k0_cond4 _ = _); exact h4) | (guard_target = ¬ (k0_cond5 _ = _); exact h5) | (guard_target = ¬ (k0_cond6 _ = _); exact h6) | (guard_target = ¬ (k0_cond7 _ = _); exact h7) | (guard_target = ¬ (Scalar.cmpi .ne (Scalar.extui (Scalar.cmpi .sgt _ 0#32)) 0#32) = 1#1; exact h11))
  sl_step

  have hk := readAt_whole m.k.view e1 inb_S1x512x96_S1x512x96_0_0_0
  have hv := readAt_whole m.v.view e2 inb_S1x512x64_S1x512x64_0_0_0
  have hq := readAt_whole m.q.view e0 inb_S1x2048x96_S1x2048x96_0_0_0
  have hg := readAt_whole m.g.view e4 inb_S1x2048x64_S1x2048x64_0_0_0
  have ho := readAt_whole m.o.view e3 inb_S1x2048x64_S1x2048x64_0_0_0
  have hl := readAt_whole m.l.view e5 inb_S1x2048x1_S1x2048x1_0_0_0
  have eV : sc2.view.read (Elt F) (sc2.view.writes (Elt F) sc2.view.junk (run0.sl.HS2_1 m f0 f1 f4 f5 fd)) = S'.dv := by
    sl_open_run
    rw [View.read_writes_full, hq, hg, hk, hl, readAt_whole sc2.view ed inb_S512x64_S512x64_0_0, hS]
    unfold step0
    rw [start_dv_keep i (T.kdAt i) s h11]
    try rfl
  have eK : sc1.view.read (Elt F) (sc1.view.writes (Elt F) sc1.view.junk (run0.sl.HS1_1 m f0 f1 f2 f3 f4 f5 fb)) = S'.dk := by
    sl_open_run
    rw [View.read_writes_full, hq, hg, hk, hl, ho, hv, readAt_whole sc1.view eb inb_S512x96_S512x96_0_0, hS]
    unfold step0
    rw [start_dk_keep i (T.kdAt i) s h11]
    try rfl
  have eQ : sc0.view.read (Elt F) (sc0.view.writes (Elt F)
      (if _ : run0.sl.v6 i = 1#1 then sc0.view.writes (Elt F) fa [⟨Rect.unit ![0, 0] S8192x96.size inb_S8192x96_S8192x96_0_0, k0_pay38⟩] else fa)
      (run0.sl.HS0_1 i m T hc h3 f0 f1 f2 f3 f4 f5 fa)) = S'.dq := by
    sl_open_run
    rw [hq, hg, hk, hl, ho, hv, read_rows, read_start i (T.kdAt i) s ea, hS]
    try rfl
  have eQ' : run0.sl.v45_1 i m T hc h3 f0 f1 f2 f3 f4 f5 fa = S'.dq := (View.readAt_full _ _ _).trans eQ
  have eK' : run0.sl.v45 m f0 f1 f2 f3 f4 f5 fb = S'.dk := (View.readAt_full _ _ _).trans eK
  have eV' : run0.sl.v50 m f0 f1 f4 f5 fd = S'.dv := (View.readAt_full _ _ _).trans eV
  have hla : run0.sl.r_11 i T = T.laAt i := rfl
  iapply Hk
  unfold held
  isplitl [H0]; · iapply (owns_of_read c m.q e0) $$ H0
  isplitl [H1]; · iapply (owns_of_read c m.k e1) $$ H1
  isplitl [H2]; · iapply (owns_of_read c m.v e2) $$ H2
  isplitl [H3]; · iapply (owns_of_read c m.o e3) $$ H3
  isplitl [H4]; · iapply (owns_of_read c m.g e4) $$ H4
  isplitl [H5]; · iapply (owns_of_read c m.l e5) $$ H5
  isplitl [HT0]; · iexact HT0
  isplitl [HT1]; · iexact HT1
  isplitl [HT2]; · iexact HT2
  isplitl [HT3]; · iexact HT3
  isplitl [HO6]; · iapply (owns_of_read c m.dq (read_outQ m.dq i S' e6 eQ')) $$ HO6
  isplitl [HO7]; · iapply (owns_of_read c m.dk ((read_outK m.dk (run0.sl.r_11 i T) S' e7 eK').trans (congrArg (fun w => outK w S' y7) hla))) $$ HO7
  isplitl [HO8]; · iapply (owns_of_read c m.dv ((read_outV m.dv (run0.sl.r_11 i T) S' e8 eV').trans (congrArg (fun w => outV w S' y8) hla))) $$ HO8
  isplitl [HS0]; · iapply (owns_of_read c sc0 eQ) $$ HS0
  isplitl [HS1]; · iapply (owns_of_read c sc1 eK) $$ HS1
  iapply (owns_of_read c sc2 eV) $$ HS2
end Cert.AttnBits
-- ==== Proof.Bits.Tables.lean ====
module

public import proofs.«01_k».proof.Proof.Bits.Run0
public import proofs.«01_k».proof.Proof.Bits.Run1
public import proofs.«01_k».proof.Proof.Bits.Run2
public import proofs.«01_k».proof.Proof.Bits.Run3
public import proofs.«01_k».proof.Proof.Bits.Run4
public import Idealize.ShloMosaic.Lib.Affine
public import Idealize.ShloMosaic.PureOps.BitExact

/-!
For the program as it is compiled, the mask a number.

The four tables of the call, what the pipeline and the body compute from their words at each grid point, and the
body's run at a point whatever its kind.
-/

@[expose] public section

set_option maxRecDepth 16384
set_option Elab.async false

noncomputable section

namespace Cert.AttnBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The key block of each pair. -/
def kiL : List (BitVec 32) := [0#32, 0#32, 0#32, 0#32, 1#32, 1#32, 1#32, 1#32, 2#32, 2#32, 2#32, 2#32, 3#32, 3#32, 3#32, 3#32, 4#32, 4#32, 4#32, 5#32, 5#32, 5#32, 6#32, 6#32, 6#32, 7#32, 7#32, 7#32, 8#32, 8#32, 9#32, 9#32, 10#32, 10#32, 11#32, 11#32, 12#32, 13#32, 14#32, 15#32]

/-- The query block of each pair. -/
def qiL : List (BitVec 32) := [0#32, 1#32, 2#32, 3#32, 0#32, 1#32, 2#32, 3#32, 0#32, 1#32, 2#32, 3#32, 0#32, 1#32, 2#32, 3#32, 1#32, 2#32, 3#32, 1#32, 2#32, 3#32, 1#32, 2#32, 3#32, 1#32, 2#32, 3#32, 2#32, 3#32, 2#32, 3#32, 2#32, 3#32, 2#32, 3#32, 3#32, 3#32, 3#32, 3#32]

/-- Whether the pair is the last of its key block. -/
def laL : List (BitVec 32) := [0#32, 0#32, 0#32, 1#32, 0#32, 0#32, 0#32, 1#32, 0#32, 0#32, 0#32, 1#32, 0#32, 0#32, 0#32, 1#32, 0#32, 0#32, 1#32, 0#32, 0#32, 1#32, 0#32, 0#32, 1#32, 0#32, 0#32, 1#32, 0#32, 1#32, 0#32, 1#32, 0#32, 1#32, 0#32, 1#32, 1#32, 1#32, 1#32, 1#32]

/-- The kind of each pair. -/
def kdL : List (BitVec 32) := [4#32, 0#32, 0#32, 0#32, 3#32, 0#32, 0#32, 0#32, 2#32, 0#32, 0#32, 0#32, 1#32, 0#32, 0#32, 0#32, 4#32, 0#32, 0#32, 3#32, 0#32, 0#32, 2#32, 0#32, 0#32, 1#32, 0#32, 0#32, 4#32, 0#32, 3#32, 0#32, 2#32, 0#32, 1#32, 0#32, 4#32, 3#32, 2#32, 1#32]

/-- A list as a table's contents. -/
def tab (l : List (BitVec 32)) : S40.Idx → BitVec 32 := fun x => l.getD (x 0).val 0#32

theorem ki_lit : (fun i => lit0 (S40.rowMajor i)) = tab kiL := by
  have h : ∀ i : S40.Idx, lit0 (S40.rowMajor i) = tab kiL i := by decide +kernel
  exact funext h

theorem qi_lit : (fun i => lit1 (S40.rowMajor i)) = tab qiL := by
  have h : ∀ i : S40.Idx, lit1 (S40.rowMajor i) = tab qiL i := by decide +kernel
  exact funext h

theorem la_lit : (fun i => lit2 (S40.rowMajor i)) = tab laL := by
  have h : ∀ i : S40.Idx, lit2 (S40.rowMajor i) = tab laL i := by decide +kernel
  exact funext h

theorem kd_lit : (fun i => lit3 (S40.rowMajor i)) = tab kdL := by
  have h : ∀ i : S40.Idx, lit3 (S40.rowMajor i) = tab kdL i := by decide +kernel
  exact funext h

set_option backward.proofsInPublic true in
/-- The tables' contents as the pipeline takes them. -/
def pf : pre0.Contents (Elt F) := fun | ⟨0, _⟩ => tab kiL | ⟨1, _⟩ => tab qiL | ⟨2, _⟩ => tab laL | ⟨3, _⟩ => tab kdL | ⟨_ + 4, h⟩ => absurd h (by simp)

/-- The tables' contents as the body takes them. -/
def words : Words F := ⟨tab kiL, tab qiL, tab laL, tab kdL⟩

/-! The words at a point. -/

/-- A table's word at a point, read off its list. -/
abbrev at_ (l : List (BitVec 32)) (i : grid0.Coords) : BitVec 32 := l.getD (i 1).val 0#32

theorem ki_bits : ∀ i : grid0.Coords, (words (F := Bits)).kiAt i = at_ kiL i := by decide +kernel
theorem ki_at (i : grid0.Coords) : (words (F := F)).kiAt i = at_ kiL i := ki_bits i
theorem qi_bits : ∀ i : grid0.Coords, (words (F := Bits)).qiAt i = at_ qiL i := by decide +kernel
theorem qi_at (i : grid0.Coords) : (words (F := F)).qiAt i = at_ qiL i := qi_bits i
theorem la_bits : ∀ i : grid0.Coords, (words (F := Bits)).laAt i = at_ laL i := by decide +kernel
theorem la_at (i : grid0.Coords) : (words (F := F)).laAt i = at_ laL i := la_bits i
theorem kd_bits : ∀ i : grid0.Coords, (words (F := Bits)).kdAt i = at_ kdL i := by decide +kernel
theorem kd_at (i : grid0.Coords) : (words (F := F)).kdAt i = at_ kdL i := kd_bits i

/-! Every block lies inside its array. -/

theorem inb_bits0 : ∀ i : grid0.Coords, ∀ a, (cc0_transform_0 k0_off1_inb numel1_S1 (pf (F := Bits)) i a + 1) * S1x2048x96.size a ≤ S8x8192x96.size a := by decide +kernel
theorem inb_bits1 : ∀ i : grid0.Coords, ∀ a, (cc0_transform_1 k0_off1_inb numel1_S1 (pf (F := Bits)) i a + 1) * S1x512x96.size a ≤ S8x8192x96.size a := by decide +kernel
theorem inb_bits2 : ∀ i : grid0.Coords, ∀ a, (cc0_transform_2 k0_off1_inb numel1_S1 (pf (F := Bits)) i a + 1) * S1x512x64.size a ≤ S8x8192x64.size a := by decide +kernel
theorem inb_bits3 : ∀ i : grid0.Coords, ∀ a, (cc0_transform_3 k0_off1_inb numel1_S1 (pf (F := Bits)) i a + 1) * S1x2048x64.size a ≤ S8x8192x64.size a := by decide +kernel
theorem inb_bits4 : ∀ i : grid0.Coords, ∀ a, (cc0_transform_4 k0_off1_inb numel1_S1 (pf (F := Bits)) i a + 1) * S1x2048x64.size a ≤ S8x8192x64.size a := by decide +kernel
theorem inb_bits5 : ∀ i : grid0.Coords, ∀ a, (cc0_transform_5 k0_off1_inb numel1_S1 (pf (F := Bits)) i a + 1) * S1x2048x1.size a ≤ S8x8192x1.size a := by decide +kernel
theorem inb_bits7 : ∀ i : grid0.Coords, ∀ a, (cc0_transform_7 k0_off1_inb numel1_S1 (pf (F := Bits)) i a + 1) * S1x512x96.size a ≤ S8x8192x96.size a := by decide +kernel
theorem inb_bits8 : ∀ i : grid0.Coords, ∀ a, (cc0_transform_8 k0_off1_inb numel1_S1 (pf (F := Bits)) i a + 1) * S1x512x64.size a ≤ S8x8192x64.size a := by decide +kernel

/-- The side condition on the tables holds of these. -/
theorem ok : ok0 (pf (F := F)) :=
  ⟨fun i => ⟨inb_bits0 i, .inr (Affine.block_words_dvd (s := S8x8192x96) (p := EltTy.packing .bf16) (by decide) (by decide))⟩,
   fun i => ⟨inb_bits1 i, .inr (Affine.block_words_dvd (s := S8x8192x96) (p := EltTy.packing .bf16) (by decide) (by decide))⟩,
   fun i => ⟨inb_bits2 i, .inr (Affine.block_words_dvd (s := S8x8192x64) (p := EltTy.packing .bf16) (by decide) (by decide))⟩,
   fun i => ⟨inb_bits3 i, .inr (Affine.block_words_dvd (s := S8x8192x64) (p := EltTy.packing .bf16) (by decide) (by decide))⟩,
   fun i => ⟨inb_bits4 i, .inr (Affine.block_words_dvd (s := S8x8192x64) (p := EltTy.packing .bf16) (by decide) (by decide))⟩,
   fun i => ⟨inb_bits5 i, .inl rfl⟩,
   fun i => ⟨inb_bits7 i, .inr (Affine.block_words_dvd (s := S8x8192x96) (p := EltTy.packing .bf16) (by decide) (by decide))⟩,
   fun i => ⟨inb_bits8 i, .inr (Affine.block_words_dvd (s := S8x8192x64) (p := EltTy.packing .bf16) (by decide) (by decide))⟩⟩

/-- The tables, admissible; the pipeline at them. -/
def adm : (pcfg0 (F := F)).Adm := ⟨pf, ok⟩

end Cert.AttnBits
-- ==== Proof.Bits.Point.lean ====
module

public import proofs.«01_k».proof.Proof.Bits.Tables

/-!
For the program as it is compiled, the mask a number.

The body's run at a point of the grid, whatever the point's kind.
-/

@[expose] public section

set_option maxRecDepth 16384
set_option Elab.async false

noncomputable section

namespace Cert.AttnBits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The offsets the body computes are in range at every point. -/
theorem checks_list : ∀ i : grid0.Coords, k0_chk1 (at_ qiL i) (at_ kdL i) ∧ k0_chk2 (at_ qiL i) (at_ kdL i)
    ∧ k0_chk3 (at_ qiL i) (at_ kdL i) ∧ k0_chk4 (at_ qiL i) (at_ kdL i) ∧ k0_chk5 (at_ qiL i) (at_ kdL i) := by decide +kernel

theorem checks (i : grid0.Coords) : Checks (words (F := F)) i := by
  have h := checks_list i
  constructor <;> rw [qi_at, kd_at]
  exacts [h.1, h.2.1, h.2.2.1, h.2.2.2.1, h.2.2.2.2]

/-- There are five kinds. -/
theorem kind_cases : ∀ i : grid0.Coords, at_ kdL i = 0#32 ∨ at_ kdL i = 1#32 ∨ at_ kdL i = 2#32 ∨ at_ kdL i = 3#32 ∨ at_ kdL i = 4#32 := by
  decide +kernel

/-- The accumulators after a point, from those before it. -/
abbrev next (i : grid0.Coords) (x : Blocks F) (s : Acc F) : Acc F := step i (at_ kiL i) (at_ qiL i) (at_ kdL i) x s

/-- The body runs at every point, and takes the accumulators to `next`. -/
theorem body_runs (c : Dev nD) (i : grid0.Coords) (m : Stage) (x : Blocks F) (y6 : Vec F S1x8192x96 .bf16)
    (y7 : Vec F S1x512x96 .bf16) (y8 : Vec F S1x512x64 .bf16) (s : Acc F) :
    BodyRuns c i m words x y6 y7 y8 s (next i x s) := by
  unfold next step pairStep
  rcases kind_cases i with h | h | h | h | h
  · rw [if_pos h, ← kd_at (F := F), ← qi_at (F := F)]
    exact run0 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_pos h, ← kd_at (F := F), ← qi_at (F := F), ← ki_at (F := F)]
    exact run1 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_pos h, ← kd_at (F := F), ← qi_at (F := F), ← ki_at (F := F)]
    exact run2 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_neg (by rw [h]; decide), if_pos h, ← kd_at (F := F), ← qi_at (F := F), ← ki_at (F := F)]
    exact run3 c i m words x y6 y7 y8 s (checks i) (by rw [kd_at, h]; decide) (by rw [kd_at, h]; decide) (by rw [kd_at, h]; decide) (by rw [kd_at, h]; decide) (by rw [kd_at, h]; decide) (by rw [kd_at, h]; decide)
  · rw [if_neg (by rw [h]; decide), if_neg (by rw [h]; decide), if_neg (by rw [h]; decide), if_neg (by rw [h]; decide), ← kd_at (F := F), ← qi_at (F := F), ← ki_at (F := F)]
    exact run4 c i m words x y6 y7 y8 s (checks i) (by rw [kd_at, h]; decide) (by rw [kd_at, h]; decide) (by rw [kd_at, h]; decide) (by rw [kd_at, h]; decide) (by rw [kd_at, h]; decide) (by rw [kd_at, h]; decide)

end Cert.AttnBits
-- ==== Proof.Spec.lean ====
module

public import Idealize.ShloMosaic.PureOps.Ideal
public import Mathlib.Algebra.BigOperators.Intervals

/-!
The attention gradient of one head, written over the natural numbers: a row `r` of the queries sees the columns `c ≤ r`.
Arrays are functions of their coordinates; what lies outside them is never read.
-/

@[expose] public section

noncomputable section

namespace Cert.Attn

open Idealize.ShloMosaic
open scoped BigOperators

/-- One head's arrays: queries, keys, values, the forward pass's output, its cotangent, and the log-sum-exp. -/
structure Head where
  q : ℕ → ℕ → EReal
  k : ℕ → ℕ → EReal
  v : ℕ → ℕ → EReal
  o : ℕ → ℕ → EReal
  g : ℕ → ℕ → EReal
  l : ℕ → EReal

namespace Head

variable (H : Head)

/-- The score of a row and a column. -/
def s (r c : ℕ) : EReal := ∑ d : Fin 96, H.q r d * H.k c d

/-- The weight of a column in a row: zero above the diagonal. -/
def p (r c : ℕ) : EReal := if c ≤ r then Ideal.exp (H.s r c - H.l r) else 0

/-- The gradient of a score. -/
def ds (r c : ℕ) : EReal := H.p r c * ((∑ d : Fin 64, H.g r d * H.v c d) - ∑ d : Fin 64, H.g r d * H.o r d)

theorem p_above {r c : ℕ} (h : r < c) : H.p r c = 0 := if_neg (Nat.not_le.2 h)

theorem ds_above {r c : ℕ} (h : r < c) : H.ds r c = 0 := by unfold ds; rw [H.p_above h, zero_mul]

/-- What the rows below `n` give to the value gradient. -/
def dvTo (n c d : ℕ) : EReal := ∑ r ∈ Finset.range n, H.p r c * H.g r d

/-- What the rows below `n` give to the key gradient. -/
def dkTo (n c d : ℕ) : EReal := ∑ r ∈ Finset.range n, H.ds r c * H.q r d

/-- What the columns below `n` give to the query gradient. -/
def dqTo (n r d : ℕ) : EReal := ∑ c ∈ Finset.range n, H.ds r c * H.k c d

end Head

/-- A sum over the last `n` of `m + n` terms is the sum over all where the first `m` vanish. -/
theorem sum_tail (f : ℕ → EReal) (m n : ℕ) (h : ∀ i < m, f i = 0) : ∑ i : Fin n, f (m + i) = ∑ i ∈ Finset.range (m + n), f i := by
  rw [Finset.sum_range_add, Finset.sum_eq_zero (fun i hi => h i (Finset.mem_range.1 hi)), zero_add, Finset.sum_range]

end Cert.Attn
-- ==== Proof.Tile.lean ====
module

public import proofs.«01_k».proof.Proof.Step
public import proofs.«01_k».proof.Proof.Spec
public import Idealize.ShloMosaic.Lib.Pointwise
public import Idealize.ShloMosaic.Lib.Affine

/-!
What a pair's step computes at an index, over the extended reals: a tile of the head's weights and of the gradients of its
scores, summed along its rows or its columns into the accumulators.
-/

@[expose] public section

set_option maxRecDepth 16384

noncomputable section

namespace Cert.Attn

open Cert.KernelIdeal Cert.KernelIdeal.Gen
open Idealize.ShloMosaic
open scoped BigOperators

/-- Blocks of `n` rows, the head's from row `R` on. -/
structure Rows (H : Head) (R n : ℕ) (q : Vec Ideal ⟨3, ![1, n, 96]⟩ .bf16) (g o : Vec Ideal ⟨3, ![1, n, 64]⟩ .bf16) (l : Vec Ideal ⟨3, ![1, n, 1]⟩ .f32) : Prop where
  q (r : Fin n) (d : Fin 96) : q (ix3 0 r d) = H.q (R + r) d
  g (r : Fin n) (d : Fin 64) : g (ix3 0 r d) = H.g (R + r) d
  o (r : Fin n) (d : Fin 64) : o (ix3 0 r d) = H.o (R + r) d
  l (r : Fin n) : l (ix3 0 r 0) = H.l (R + r)

/-- Blocks of keys and values, the head's from column `C` on. -/
structure Cols (H : Head) (C : ℕ) (k : Vec Ideal S1x512x96 .bf16) (v : Vec Ideal S1x512x64 .bf16) : Prop where
  k (c : Fin 512) (d : Fin 96) : k (ix3 0 c d) = H.k (C + c) d
  v (c : Fin 512) (d : Fin 64) : v (ix3 0 c d) = H.v (C + c) d

theorem window_apply {α : Type} {m n w off : ℕ} (x : (⟨3, ![1, m, w]⟩ : Shape).Idx → α)
    (inb : ∀ a, (![0, off, 0] : Fin 3 → ℕ) a + (![1, n, w] : Fin 3 → ℕ) a ≤ (⟨3, ![1, m, w]⟩ : Shape).size a) (hn : off + n ≤ m) (r : Fin n) (d : Fin w) :
    VecWindow.window (s := ⟨3, ![1, m, w]⟩) x ![0, off, 0] ![1, n, w] inb (ix3 (n1 := n) (n2 := w) (0 : Fin 1) r d)
      = x (ix3 0 ⟨off + r, by omega⟩ d) := by
  unfold VecWindow.window
  refine congrArg x (funext fun a => Fin.ext ?_)
  match a with
  | ⟨0, _⟩ => rfl
  | ⟨1, _⟩ => show off + 1 * r.val = off + r.val; omega
  | ⟨2, _⟩ => show 0 + 1 * d.val = d.val; omega

/-- The last rows of blocks. -/
theorem Rows.tail {H : Head} {R m n off : ℕ} {q : Vec Ideal ⟨3, ![1, m, 96]⟩ .bf16} {g o : Vec Ideal ⟨3, ![1, m, 64]⟩ .bf16} {l : Vec Ideal ⟨3, ![1, m, 1]⟩ .f32}
    (h : Rows H R m q g o l) (hn : off + n ≤ m)
    (iq : ∀ a, (![0, off, 0] : Fin 3 → ℕ) a + (![1, n, 96] : Fin 3 → ℕ) a ≤ (⟨3, ![1, m, 96]⟩ : Shape).size a)
    (ig : ∀ a, (![0, off, 0] : Fin 3 → ℕ) a + (![1, n, 64] : Fin 3 → ℕ) a ≤ (⟨3, ![1, m, 64]⟩ : Shape).size a)
    (il : ∀ a, (![0, off, 0] : Fin 3 → ℕ) a + (![1, n, 1] : Fin 3 → ℕ) a ≤ (⟨3, ![1, m, 1]⟩ : Shape).size a) :
    Rows H (R + off) n (VecWindow.window (s := ⟨3, ![1, m, 96]⟩) q ![0, off, 0] ![1, n, 96] iq)
      (VecWindow.window (s := ⟨3, ![1, m, 64]⟩) g ![0, off, 0] ![1, n, 64] ig) (VecWindow.window (s := ⟨3, ![1, m, 64]⟩) o ![0, off, 0] ![1, n, 64] ig)
      (VecWindow.window (s := ⟨3, ![1, m, 1]⟩) l ![0, off, 0] ![1, n, 1] il) where
  q r d := by rw [add_assoc]; exact (window_apply q iq hn r d).trans (h.q _ d)
  g r d := by rw [add_assoc]; exact (window_apply g ig hn r d).trans (h.g _ d)
  o r d := by rw [add_assoc]; exact (window_apply o ig hn r d).trans (h.o _ d)
  l r := by rw [add_assoc]; exact (window_apply l il hn r 0).trans (h.l _)

/-- Whether a column is visible, by the words the kernel compares. -/
theorem visible (kw qw : BitVec 32) (off c r : ℕ) (hk : kw.toNat ≤ 15) (hq : qw.toNat ≤ 3) (ho : off ≤ 1536) (hc : c < 512) (hr : r < 2048) :
    IntOp.cmpi .sle (IntOp.addi (Scalar.muli kw 512#32) (BitVec.ofNat 32 c)) (IntOp.addi (Scalar.addi (Scalar.muli qw 2048#32) (BitVec.ofNat 32 off)) (BitVec.ofNat 32 r)) = 1#1
      ↔ 512 * kw.toNat + c ≤ 2048 * qw.toNat + off + r := by
  rw [IntOp.cmpi_sle]
  have e1 : (IntOp.addi (Scalar.muli kw 512#32) (BitVec.ofNat 32 c)).toNat = 512 * kw.toNat + c := by
    show (kw * 512#32 + BitVec.ofNat 32 c).toNat = _
    rw [BitVec.toNat_add, BitVec.toNat_mul, BitVec.toNat_ofNat, BitVec.toNat_ofNat]; omega
  have e2 : (IntOp.addi (Scalar.addi (Scalar.muli qw 2048#32) (BitVec.ofNat 32 off)) (BitVec.ofNat 32 r)).toNat = 2048 * qw.toNat + off + r := by
    show (qw * 2048#32 + BitVec.ofNat 32 off + BitVec.ofNat 32 r).toNat = _
    rw [BitVec.toNat_add, BitVec.toNat_add, BitVec.toNat_mul, BitVec.toNat_ofNat, BitVec.toNat_ofNat, BitVec.toNat_ofNat]; omega
  rw [BitVec.toInt_eq_toNat_of_lt (by rw [e1]; omega), BitVec.toInt_eq_toNat_of_lt (by rw [e2]; omega), e1, e2]
  omega

theorem exp_bot (x : EReal) : Ideal.exp (⊥ - x) = 0 := by rw [sub_eq_add_neg, EReal.bot_add]; rfl

/-- A masked weight. -/
theorem weight (H : Head) (kw qw : BitVec 32) (off c r : ℕ) (hk : kw.toNat ≤ 15) (hq : qw.toNat ≤ 3) (ho : off ≤ 1536) (hc : c < 512) (hr : r < 2048) :
    Ideal.exp (Scalar.select (IntOp.cmpi .sle (IntOp.addi (Scalar.muli kw 512#32) (BitVec.ofNat 32 c))
        (IntOp.addi (Scalar.addi (Scalar.muli qw 2048#32) (BitVec.ofNat 32 off)) (BitVec.ofNat 32 r)))
        (H.s (2048 * qw.toNat + off + r) (512 * kw.toNat + c)) (Named.named (F := Ideal) κ "mask" (φ := .f32) 0xF149F2CA#32) - H.l (2048 * qw.toNat + off + r))
      = H.p (2048 * qw.toNat + off + r) (512 * kw.toNat + c) := by
  have hm : Named.named (F := Ideal) κ "mask" (φ := .f32) 0xF149F2CA#32 = (⊥ : EReal) := rfl
  unfold Head.p
  by_cases h : 512 * kw.toNat + c ≤ 2048 * qw.toNat + off + r
  · rw [if_pos h, (visible kw qw off c r hk hq ho hc hr).2 h]; rfl
  · rw [if_neg h, ValueIdx.eq_zero_of_ne_one (fun e => h ((visible kw qw off c r hk hq ho hc hr).1 e)), hm]
    exact exp_bot _

/-- What a pair of a key block and a query block adds to the accumulators. -/
structure Adds (H : Head) (K Q : ℕ) (s s' : Acc Ideal) : Prop where
  dv (c : Fin 512) (d : Fin 64) : s'.dv (ix2 c d) = s.dv (ix2 c d) + ∑ r ∈ Finset.range 2048, H.p (2048 * Q + r) (512 * K + c) * H.g (2048 * Q + r) d
  dk (c : Fin 512) (d : Fin 96) : s'.dk (ix2 c d) = s.dk (ix2 c d) + ∑ r ∈ Finset.range 2048, H.ds (2048 * Q + r) (512 * K + c) * H.q (2048 * Q + r) d
  dq (r : Fin 8192) (d : Fin 96) : s'.dq (ix2 r d) = s.dq (ix2 r d)
    + if r.val / 2048 = Q then ∑ c ∈ Finset.range 512, H.ds r (512 * K + c) * H.k (512 * K + c) d else 0

/-- Rows of the query gradient after a sum was added to them. -/
theorem onRows_apply (off n : ℕ) (h : off + n ≤ 8192) (T : ℕ → Fin 96 → EReal)
    (f : (((a : Fin 2) → Fin ((![n, 96] : Fin 2 → ℕ) a)) → EReal) → (((a : Fin 2) → Fin ((![n, 96] : Fin 2 → ℕ) a)) → EReal))
    (hf : ∀ w (r : Fin n) (d : Fin 96), f w (ix2 (n0 := n) (n1 := 96) r d) = w (ix2 (n0 := n) (n1 := 96) r d) + T (off + r.val) d) (a : Vec Ideal S8192x96 .f32) (r : Fin 8192) (d : Fin 96) :
    onRows (F := Ideal) ![off, 0] ![n, 96] f a (ix2 r d) = a (ix2 r d) + if off ≤ r.val ∧ r.val < off + n then T r.val d else 0 := by
  have hin : ∀ x, (![off, 0] : Fin 2 → ℕ) x + (![n, 96] : Fin 2 → ℕ) x ≤ S8192x96.size x := fun x => by
    match x with
    | ⟨0, _⟩ => exact h
    | ⟨1, _⟩ => exact le_refl 96
  rw [onRows_inb _ _ _ _ hin]
  unfold VecWindow.put
  by_cases hr : off ≤ r.val ∧ r.val < off + n
  · have hy : ∀ x, (![off, 0] : Fin 2 → ℕ) x ≤ ((ix2 r d : S8192x96.Idx) x).val ∧ ((ix2 r d : S8192x96.Idx) x).val < (![off, 0] : Fin 2 → ℕ) x + (![n, 96] : Fin 2 → ℕ) x := fun x => by
      match x with
      | ⟨0, _⟩ => exact hr
      | ⟨1, _⟩ => exact ⟨Nat.zero_le _, (Nat.zero_add 96).symm ▸ d.isLt⟩
    rw [dif_pos hy, if_pos hr]
    have hl : Rect.unitLocal (s := S8192x96) (ix2 r d) hy = (ix2 (n0 := n) (n1 := 96) ⟨r.val - off, by omega⟩ d) := funext fun x => Fin.ext (by
      match x with
      | ⟨0, _⟩ => rfl
      | ⟨1, _⟩ => rfl)
    rw [hl, hf]
    have e : off + (r.val - off) = r.val := by omega
    refine congrArg₂ (· + ·) ?_ (by rw [e])
    unfold VecWindow.window
    refine congrArg a (funext fun x => Fin.ext ?_)
    match x with
    | ⟨0, _⟩ => show off + 1 * (r.val - off) = r.val; omega
    | ⟨1, _⟩ => show 0 + 1 * d.val = d.val; omega
  · rw [if_neg hr, add_zero, dif_neg]
    intro hy
    exact hr (hy 0)

/-- A tile of the last `n` rows of a query block adds what the whole block would: the rows before them are above the diagonal. -/
theorem adds_tile (H : Head) (K Q off n : ℕ) (hn : off + n = 2048) (hQ : Q ≤ 3) (ho : ∀ r < off, 2048 * Q + r < 512 * K) {s s' : Acc Ideal}
    (f : (((a : Fin 2) → Fin ((![n, 96] : Fin 2 → ℕ) a)) → EReal) → (((a : Fin 2) → Fin ((![n, 96] : Fin 2 → ℕ) a)) → EReal))
    (hdv : ∀ (c : Fin 512) (d : Fin 64), s'.dv (ix2 c d) = s.dv (ix2 c d) + ∑ r : Fin n, H.p (2048 * Q + off + r) (512 * K + c) * H.g (2048 * Q + off + r) d)
    (hdk : ∀ (c : Fin 512) (d : Fin 96), s'.dk (ix2 c d) = s.dk (ix2 c d) + ∑ r : Fin n, H.ds (2048 * Q + off + r) (512 * K + c) * H.q (2048 * Q + off + r) d)
    (hdq : s'.dq = onRows (F := Ideal) ![2048 * Q + off, 0] ![n, 96] f s.dq)
    (hf : ∀ w (r : Fin n) (d : Fin 96), f w (ix2 (n0 := n) (n1 := 96) r d) = w (ix2 (n0 := n) (n1 := 96) r d) + ∑ c : Fin 512, H.ds (2048 * Q + off + r) (512 * K + c) * H.k (512 * K + c) d) :
    Adds H K Q s s' where
  dv c d := by
    have e := sum_tail (fun i => H.p (2048 * Q + i) (512 * K + c) * H.g (2048 * Q + i) d) off n
      (fun i hi => by show H.p _ _ * _ = 0; rw [H.p_above (by have := ho i hi; omega), zero_mul])
    rw [hn] at e
    rw [hdv, ← e]
    simp only [add_assoc]
  dk c d := by
    have e := sum_tail (fun i => H.ds (2048 * Q + i) (512 * K + c) * H.q (2048 * Q + i) d) off n
      (fun i hi => by show H.ds _ _ * _ = 0; rw [H.ds_above (by have := ho i hi; omega), zero_mul])
    rw [hn] at e
    rw [hdk, ← e]
    simp only [add_assoc]
  dq r d := by
    rw [hdq, onRows_apply (2048 * Q + off) n (by omega) (fun i d => ∑ c : Fin 512, H.ds i (512 * K + c) * H.k (512 * K + c) d) f hf]
    refine congrArg (s.dq (ix2 r d) + ·) ?_
    by_cases hr : r.val / 2048 = Q
    · rw [if_pos hr, ← Finset.sum_range fun c => H.ds r.val (512 * K + c) * H.k (512 * K + c) d.val]
      by_cases hin : 2048 * Q + off ≤ r.val ∧ r.val < 2048 * Q + off + n
      · rw [if_pos hin]
      · rw [if_neg hin, Finset.sum_eq_zero]
        intro c _
        rw [H.ds_above, zero_mul]
        have := ho (r.val - 2048 * Q) (by omega)
        omega
    · rw [if_neg hr, if_neg (by omega)]

/-- The offsets of a query block's rows. -/
theorem off_row (qw : BitVec 32) (hq : qw.toNat ≤ 3) (off : ℕ) (ho : off < 2048) :
    (qw * 2048#32 + BitVec.ofNat 32 off).toNat = 2048 * qw.toNat + off := by
  rw [BitVec.toNat_add, BitVec.toNat_mul, BitVec.toNat_ofNat, BitVec.toNat_ofNat]; omega

/-! The weights and the score gradients of a tile, and what it adds, by kind. -/

section Kinds

variable {H : Head} {kw qw : BitVec 32} (hk : kw.toNat ≤ 15) (hq : qw.toNat ≤ 3)
variable {k : Vec Ideal S1x512x96 .bf16} {v : Vec Ideal S1x512x64 .bf16} (hC : Cols H (512 * kw.toNat) k v)

include hk hq hC in
theorem p1 {q g o l} (hR : Rows H (2048 * qw.toNat + 1536) 512 q g o l) (r : Fin 512) (c : Fin 512) :
    k0_pay17 (F := Ideal) kw qw q k l (ix2 r c) = H.p (2048 * qw.toNat + 1536 + r) (512 * kw.toNat + c) := by
  pointwise [k0_pay17, k0_pay14, k0_pay16]
  simp only [hR.q, hR.l, hC.k]
  exact weight H kw qw 1536 c r hk hq (by decide) c.isLt (by omega)

include hk hq hC in
theorem ds1 {q g o l} (hR : Rows H (2048 * qw.toNat + 1536) 512 q g o l) (r : Fin 512) (c : Fin 512) :
    k0_pay44 (F := Ideal) (k0_pay15 g) (k0_pay17 kw qw q k l) (k0_pay18 g o) v (ix2 r c) = H.ds (2048 * qw.toNat + 1536 + r) (512 * kw.toNat + c) := by
  pointwise [k0_pay44, k0_pay15, k0_pay18]
  simp only [hR.g, hR.o, hC.v, p1 hk hq hC hR]
  rfl

include hk hq in
theorem adds1 (x : Blocks Ideal) (hx : Rows H (2048 * qw.toNat) 2048 x.q x.g x.o x.l) (hC : Cols H (512 * kw.toNat) x.k x.v)
    (hd : 2048 * qw.toNat + 1536 = 512 * kw.toNat) (s : Acc Ideal) : Adds H kw.toNat qw.toNat s (step1 kw qw x s) := by
  have hR := (hx.tail (off := 1536) (n := 512) (by decide) inb_S1x2048x96_S1x512x96_0_1536_0 inb_S1x2048x64_S1x512x64_0_1536_0 inb_S1x2048x1_S1x512x1_0_1536_0)
  refine adds_tile H kw.toNat qw.toNat 1536 512 (by decide) hq (fun r hr => by omega) _ (fun c d => ?_) (fun c d => ?_)
    (congrArg (fun o => onRows (F := Ideal) o ![512, 96] _ s.dq) (show k0_off5 qw = ![2048 * qw.toNat + 1536, 0] from congrArg (fun o => ![o, 0]) (off_row qw hq 1536 (by decide))))
    (fun w r d => ?_)
  · unfold step1; dsimp only
    pointwise [k0_pay43, k0_pay19, k0_pay15]
    simp only [p1 hk hq hC hR, hR.g]
  · unfold step1; dsimp only
    pointwise [k0_pay45, k0_pay14]
    simp only [ds1 hk hq hC hR, hR.q]
  · pointwise [k0_pay46, k0_pay16]
    simp only [ds1 hk hq hC hR, hC.k]

include hk hq hC in
theorem p2 {q g o l} (hR : Rows H (2048 * qw.toNat + 1024) 1024 q g o l) (r : Fin 1024) (c : Fin 512) :
    k0_pay23 (F := Ideal) kw qw q k l (ix2 r c) = H.p (2048 * qw.toNat + 1024 + r) (512 * kw.toNat + c) := by
  pointwise [k0_pay23, k0_pay20, k0_pay22]
  simp only [hR.q, hR.l, hC.k]
  exact weight H kw qw 1024 c r hk hq (by decide) c.isLt (by omega)

include hk hq hC in
theorem ds2 {q g o l} (hR : Rows H (2048 * qw.toNat + 1024) 1024 q g o l) (r : Fin 1024) (c : Fin 512) :
    k0_pay48 (F := Ideal) (k0_pay21 g) (k0_pay23 kw qw q k l) (k0_pay24 g o) v (ix2 r c) = H.ds (2048 * qw.toNat + 1024 + r) (512 * kw.toNat + c) := by
  pointwise [k0_pay48, k0_pay21, k0_pay24]
  simp only [hR.g, hR.o, hC.v, p2 hk hq hC hR]
  rfl

include hk hq in
theorem adds2 (x : Blocks Ideal) (hx : Rows H (2048 * qw.toNat) 2048 x.q x.g x.o x.l) (hC : Cols H (512 * kw.toNat) x.k x.v)
    (hd : 2048 * qw.toNat + 1024 = 512 * kw.toNat) (s : Acc Ideal) : Adds H kw.toNat qw.toNat s (step2 kw qw x s) := by
  have hR := (hx.tail (off := 1024) (n := 1024) (by decide) inb_S1x2048x96_S1x1024x96_0_1024_0 inb_S1x2048x64_S1x1024x64_0_1024_0 inb_S1x2048x1_S1x1024x1_0_1024_0)
  refine adds_tile H kw.toNat qw.toNat 1024 1024 (by decide) hq (fun r hr => by omega) _ (fun c d => ?_) (fun c d => ?_)
    (congrArg (fun o => onRows (F := Ideal) o ![1024, 96] _ s.dq) (show k0_off7 qw = ![2048 * qw.toNat + 1024, 0] from congrArg (fun o => ![o, 0]) (off_row qw hq 1024 (by decide))))
    (fun w r d => ?_)
  · unfold step2; dsimp only
    pointwise [k0_pay47, k0_pay25, k0_pay21]
    simp only [p2 hk hq hC hR, hR.g]
  · unfold step2; dsimp only
    pointwise [k0_pay49, k0_pay20]
    simp only [ds2 hk hq hC hR, hR.q]
  · pointwise [k0_pay50, k0_pay22]
    simp only [ds2 hk hq hC hR, hC.k]

include hk hq hC in
theorem p3 {q g o l} (hR : Rows H (2048 * qw.toNat + 512) 1536 q g o l) (r : Fin 1536) (c : Fin 512) :
    k0_pay29 (F := Ideal) kw qw q k l (ix2 r c) = H.p (2048 * qw.toNat + 512 + r) (512 * kw.toNat + c) := by
  pointwise [k0_pay29, k0_pay26, k0_pay28]
  simp only [hR.q, hR.l, hC.k]
  exact weight H kw qw 512 c r hk hq (by decide) c.isLt (by omega)

include hk hq hC in
theorem ds3 {q g o l} (hR : Rows H (2048 * qw.toNat + 512) 1536 q g o l) (r : Fin 1536) (c : Fin 512) :
    k0_pay52 (F := Ideal) (k0_pay27 g) (k0_pay29 kw qw q k l) (k0_pay30 g o) v (ix2 r c) = H.ds (2048 * qw.toNat + 512 + r) (512 * kw.toNat + c) := by
  pointwise [k0_pay52, k0_pay27, k0_pay30]
  simp only [hR.g, hR.o, hC.v, p3 hk hq hC hR]
  rfl

include hk hq in
theorem adds3 (x : Blocks Ideal) (hx : Rows H (2048 * qw.toNat) 2048 x.q x.g x.o x.l) (hC : Cols H (512 * kw.toNat) x.k x.v)
    (hd : 2048 * qw.toNat + 512 = 512 * kw.toNat) (s : Acc Ideal) : Adds H kw.toNat qw.toNat s (step3 kw qw x s) := by
  have hR := (hx.tail (off := 512) (n := 1536) (by decide) inb_S1x2048x96_S1x1536x96_0_512_0 inb_S1x2048x64_S1x1536x64_0_512_0 inb_S1x2048x1_S1x1536x1_0_512_0)
  refine adds_tile H kw.toNat qw.toNat 512 1536 (by decide) hq (fun r hr => by omega) _ (fun c d => ?_) (fun c d => ?_)
    (congrArg (fun o => onRows (F := Ideal) o ![1536, 96] _ s.dq) (show k0_off9 qw = ![2048 * qw.toNat + 512, 0] from congrArg (fun o => ![o, 0]) (off_row qw hq 512 (by decide))))
    (fun w r d => ?_)
  · unfold step3; dsimp only
    pointwise [k0_pay51, k0_pay31, k0_pay27]
    simp only [p3 hk hq hC hR, hR.g]
  · unfold step3; dsimp only
    pointwise [k0_pay53, k0_pay26]
    simp only [ds3 hk hq hC hR, hR.q]
  · pointwise [k0_pay54, k0_pay28]
    simp only [ds3 hk hq hC hR, hC.k]

include hk hq hC in
theorem p4 {q g o l} (hR : Rows H (2048 * qw.toNat + 0) 2048 q g o l) (r : Fin 2048) (c : Fin 512) :
    k0_pay35 (F := Ideal) kw qw q k l (ix2 r c) = H.p (2048 * qw.toNat + 0 + r) (512 * kw.toNat + c) := by
  pointwise [k0_pay35, k0_pay32, k0_pay34]
  simp only [hR.q, hR.l, hC.k]
  exact weight H kw qw 0 c r hk hq (by decide) c.isLt (by omega)

include hk hq hC in
theorem ds4 {q g o l} (hR : Rows H (2048 * qw.toNat + 0) 2048 q g o l) (r : Fin 2048) (c : Fin 512) :
    k0_pay2 (F := Ideal) (k0_pay33 g) (k0_pay35 kw qw q k l) (k0_pay36 g o) v (ix2 r c) = H.ds (2048 * qw.toNat + 0 + r) (512 * kw.toNat + c) := by
  pointwise [k0_pay2, k0_pay33, k0_pay36]
  simp only [hR.g, hR.o, hC.v, p4 hk hq hC hR]
  rfl

include hk hq in
theorem adds4 (x : Blocks Ideal) (hx : Rows H (2048 * qw.toNat) 2048 x.q x.g x.o x.l) (hC : Cols H (512 * kw.toNat) x.k x.v)
    (hd : 2048 * qw.toNat + 0 = 512 * kw.toNat) (s : Acc Ideal) : Adds H kw.toNat qw.toNat s (step4 kw qw x s) := by
  have hR := hx
  refine adds_tile H kw.toNat qw.toNat 0 2048 (by decide) hq (fun r hr => absurd hr (Nat.not_lt_zero r)) _ (fun c d => ?_) (fun c d => ?_)
    (congrArg (fun o => onRows (F := Ideal) o ![2048, 96] _ s.dq) (show k0_off11 qw = ![2048 * qw.toNat + 0, 0] from congrArg (fun o => ![o, 0]) (off_row qw hq 0 (by decide))))
    (fun w r d => ?_)
  · unfold step4; dsimp only
    pointwise [k0_pay1, k0_pay37, k0_pay33]
    simp only [p4 hk hq hC hR, hR.g, Nat.add_zero]
  · unfold step4; dsimp only
    pointwise [k0_pay3, k0_pay32]
    simp only [ds4 hk hq hC hR, hR.q, Nat.add_zero]
  · pointwise [k0_pay4, k0_pay34]
    simp only [ds4 hk hq hC hR, hC.k, Nat.add_zero]

include hk hq hC in
theorem p0 {q g o l} (hR : Rows H (2048 * qw.toNat) 2048 q g o l) (hv : 512 * kw.toNat + 512 ≤ 2048 * qw.toNat) (r : Fin 2048) (c : Fin 512) :
    k0_pay11 (F := Ideal) q k l (ix2 r c) = H.p (2048 * qw.toNat + r) (512 * kw.toNat + c) := by
  pointwise [k0_pay11, k0_pay8, k0_pay10]
  simp only [hR.q, hR.l, hC.k]
  exact (if_pos (by omega)).symm

include hk hq hC in
theorem ds0 {q g o l} (hR : Rows H (2048 * qw.toNat) 2048 q g o l) (hv : 512 * kw.toNat + 512 ≤ 2048 * qw.toNat) (r : Fin 2048) (c : Fin 512) :
    k0_pay13 (F := Ideal) q g k l o v (ix2 r c) = H.ds (2048 * qw.toNat + r) (512 * kw.toNat + c) := by
  pointwise [k0_pay13, k0_pay9]
  simp only [hR.g, hR.o, hC.v, p0 hk hq hC hR hv]
  rfl

include hk hq in
theorem adds0 (x : Blocks Ideal) (hR : Rows H (2048 * qw.toNat) 2048 x.q x.g x.o x.l) (hC : Cols H (512 * kw.toNat) x.k x.v)
    (hv : 512 * kw.toNat + 512 ≤ 2048 * qw.toNat) (s : Acc Ideal) : Adds H kw.toNat qw.toNat s (step0 qw x s) := by
  refine adds_tile H kw.toNat qw.toNat 0 2048 (by decide) hq (fun r hr => absurd hr (Nat.not_lt_zero r)) _ (fun c d => ?_) (fun c d => ?_)
    (congrArg (fun o => onRows (F := Ideal) o ![2048, 96] _ s.dq) (show k0_off3 qw = ![2048 * qw.toNat + 0, 0] from congrArg (fun o => ![o, 0]) (off_row qw hq 0 (by decide))))
    (fun w r d => ?_)
  · unfold step0; dsimp only
    pointwise [k0_pay12, k0_pay9]
    simp only [p0 hk hq hC hR hv, hR.g]
  · unfold step0; dsimp only
    pointwise [k0_pay41, k0_pay8]
    simp only [ds0 hk hq hC hR hv, hR.q]
  · pointwise [k0_pay42, k0_pay10]
    simp only [ds0 hk hq hC hR hv, hC.k]

end Kinds

end Cert.Attn
-- ==== Proof.Sums.lean ====
module

public import proofs.«01_k».proof.Proof.Tile
public import proofs.«01_k».proof.Proof.Data

/-!
The accumulators as sums: after each pair of a head, the key and value gradients of the pair's key block over the query blocks
seen so far, the query gradients over the key blocks seen so far.
-/

@[expose] public section

set_option maxRecDepth 16384

noncomputable section

namespace Cert.Attn

open Cert.KernelIdeal Cert.KernelIdeal.Gen
open Idealize.ShloMosaic
open scoped BigOperators

/-- The accumulators before query block `Q` meets key block `K`: query blocks below `Q` have met it, all have met the key blocks below. -/
structure State (H : Head) (K Q : ℕ) (s : Acc Ideal) : Prop where
  dv (c : Fin 512) (d : Fin 64) : s.dv (ix2 c d) = H.dvTo (2048 * Q) (512 * K + c) d
  dk (c : Fin 512) (d : Fin 96) : s.dk (ix2 c d) = H.dkTo (2048 * Q) (512 * K + c) d
  dq (r : Fin 8192) (d : Fin 96) : s.dq (ix2 r d) = H.dqTo (512 * K + if r.val / 2048 < Q then 512 else 0) r d

theorem State.adds {H : Head} {K Q : ℕ} {s s' : Acc Ideal} (h : State H K Q s) (a : Adds H K Q s s') : State H K (Q + 1) s' where
  dv c d := by rw [a.dv, h.dv]; unfold Head.dvTo; rw [Nat.mul_succ, Finset.sum_range_add]
  dk c d := by rw [a.dk, h.dk]; unfold Head.dkTo; rw [Nat.mul_succ, Finset.sum_range_add]
  dq r d := by
    rw [a.dq, h.dq]
    unfold Head.dqTo
    by_cases hr : r.val / 2048 = Q
    · rw [if_pos hr, if_neg (by omega), if_pos (by omega), Nat.add_zero, Finset.sum_range_add]
    · rw [if_neg hr, add_zero]
      by_cases hl : r.val / 2048 < Q
      · rw [if_pos hl, if_pos (by omega)]
      · rw [if_neg hl, if_neg (by omega)]

/-- Rows of blocks before the key block's are above the diagonal. -/
theorem dvTo_above (H : Head) (n c d : ℕ) (h : n ≤ c) : H.dvTo n c d = 0 :=
  Finset.sum_eq_zero fun r hr => by rw [H.p_above (lt_of_lt_of_le (Finset.mem_range.1 hr) h), zero_mul]

theorem dkTo_above (H : Head) (n c d : ℕ) (h : n ≤ c) : H.dkTo n c d = 0 :=
  Finset.sum_eq_zero fun r hr => by rw [H.ds_above (lt_of_lt_of_le (Finset.mem_range.1 hr) h), zero_mul]

/-- Columns past the row add nothing. -/
theorem dqTo_above (H : Head) (m n r d : ℕ) (h : r < m) : H.dqTo (m + n) r d = H.dqTo m r d := by
  unfold Head.dqTo
  rw [Finset.sum_range_add, Finset.sum_eq_zero (s := Finset.range n) (fun c _ => by rw [H.ds_above (by omega), zero_mul]), add_zero]

theorem zero_dq (r : Fin 8192) (d : Fin 96) : k0_pay38 (F := Ideal) (ix2 r d) = 0 := by pointwise [k0_pay38]
theorem zero_dk (c : Fin 512) (d : Fin 96) : k0_pay39 (F := Ideal) (ix2 c d) = 0 := by pointwise [k0_pay39]
theorem zero_dv (c : Fin 512) (d : Fin 64) : k0_pay40 (F := Ideal) (ix2 c d) = 0 := by pointwise [k0_pay40]

/-- A head begins with everything cleared. -/
theorem State.first (H : Head) {s : Acc Ideal} (hq : s.dq = k0_pay38 (F := Ideal)) (hk : s.dk = k0_pay39 (F := Ideal)) (hv : s.dv = k0_pay40 (F := Ideal)) : State H 0 0 s where
  dv c d := by rw [hv, zero_dv, dvTo_above _ _ _ _ (by omega)]
  dk c d := by rw [hk, zero_dk, dkTo_above _ _ _ _ (by omega)]
  dq r d := by rw [hq, zero_dq, if_neg (by omega)]; rfl

/-- The next key block begins with its own gradients cleared, once all query blocks have met the one before. -/
theorem State.turn {H : Head} {K Q : ℕ} {s s' : Acc Ideal} (h : State H K 4 s) (hQ : 2048 * Q ≤ 512 * (K + 1)) (hq : s'.dq = s.dq) (hk : s'.dk = k0_pay39 (F := Ideal)) (hv : s'.dv = k0_pay40 (F := Ideal)) :
    State H (K + 1) Q s' where
  dv c d := by rw [hv, zero_dv, dvTo_above _ _ _ _ (by omega)]
  dk c d := by rw [hk, zero_dk, dkTo_above _ _ _ _ (by omega)]
  dq r d := by
    rw [hq, h.dq, if_pos (by omega), ← Nat.mul_succ]
    by_cases hr : r.val / 2048 < Q
    · rw [if_pos hr, dqTo_above _ _ _ _ _ (by omega)]
    · rw [if_neg hr, Nat.add_zero]

/-! The tables' words, position by position. -/

/-- The key block, query block and kind at a position. -/
def kAt (j : ℕ) : ℕ := (kiL.getD j 0#32).toNat
def qAt (j : ℕ) : ℕ := (qiL.getD j 0#32).toNat
def dAt (j : ℕ) : BitVec 32 := kdL.getD j 0#32

theorem k_le : ∀ j < 40, kAt j ≤ 15 := by decide
theorem q_le : ∀ j < 40, qAt j ≤ 3 := by decide

/-- A kind says how the query block lies to the key block. -/
theorem kinds : ∀ j < 40, (dAt j = 0#32 ∧ 512 * kAt j + 512 ≤ 2048 * qAt j) ∨ (dAt j = 1#32 ∧ 2048 * qAt j + 1536 = 512 * kAt j)
    ∨ (dAt j = 2#32 ∧ 2048 * qAt j + 1024 = 512 * kAt j) ∨ (dAt j = 3#32 ∧ 2048 * qAt j + 512 = 512 * kAt j) ∨ (dAt j = 4#32 ∧ 2048 * qAt j + 0 = 512 * kAt j) := by decide

/-- A pair follows the pair of the query block before, or opens the next key block. -/
theorem follows : ∀ j < 39, (Scalar.cmpi .ne (Scalar.extui (Scalar.cmpi .sgt (dAt (j + 1)) 0#32)) 0#32 = 0#1 ∧ kAt (j + 1) = kAt j ∧ qAt (j + 1) = qAt j + 1)
    ∨ (Scalar.cmpi .ne (Scalar.extui (Scalar.cmpi .sgt (dAt (j + 1)) 0#32)) 0#32 = 1#1 ∧ kAt (j + 1) = kAt j + 1 ∧ qAt j = 3 ∧ 2048 * qAt (j + 1) ≤ 512 * (kAt j + 1)) := by decide

theorem first_only : ∀ j < 40, Scalar.cmpi .ne (Scalar.extui (Scalar.cmpi .eq (BitVec.ofNat 32 j) 0#32)) 0#32 = 1#1 ↔ j = 0 := by decide

/-- A pair's step adds the pair's sums, whatever its kind. -/
theorem adds_pair {H : Head} (j : ℕ) (hj : j < 40) (x : Blocks Ideal) (hR : Rows H (2048 * qAt j) 2048 x.q x.g x.o x.l) (hC : Cols H (512 * kAt j) x.k x.v) (s : Acc Ideal) :
    Adds H (kAt j) (qAt j) s (pairStep (kiL.getD j 0#32) (qiL.getD j 0#32) (dAt j) x s) := by
  unfold pairStep
  rcases kinds j hj with ⟨h, e⟩ | ⟨h, e⟩ | ⟨h, e⟩ | ⟨h, e⟩ | ⟨h, e⟩
  · rw [if_pos h]; exact adds0 (k_le j hj) (q_le j hj) x hR hC e s
  · rw [h, if_neg (by decide), if_pos rfl]; exact adds1 (k_le j hj) (q_le j hj) x hR hC e s
  · rw [h, if_neg (by decide), if_neg (by decide), if_pos rfl]; exact adds2 (k_le j hj) (q_le j hj) x hR hC e s
  · rw [h, if_neg (by decide), if_neg (by decide), if_neg (by decide), if_pos rfl]; exact adds3 (k_le j hj) (q_le j hj) x hR hC e s
  · rw [h, if_neg (by decide), if_neg (by decide), if_neg (by decide), if_neg (by decide)]; exact adds4 (k_le j hj) (q_le j hj) x hR hC e s

variable (V : Arrays Ideal) (c : Dev nD)

/-- A head's arrays. -/
structure Holds (H : ℕ → Head) : Prop where
  rows (t : Fin (cfgA (F := Ideal)).N) : Rows (H (t.val / 40)) (2048 * qAt (t.val % 40)) 2048 (blocks V c t).q (blocks V c t).g (blocks V c t).o (blocks V c t).l
  cols (t : Fin (cfgA (F := Ideal)).N) : Cols (H (t.val / 40)) (512 * kAt (t.val % 40)) (blocks V c t).k (blocks V c t).v

theorem next_eq (t : Fin (cfgA (F := Ideal)).N) (x : Blocks Ideal) (s : Acc Ideal) :
    next (crd t) x s = pairStep (kiL.getD (t.val % 40) 0#32) (qiL.getD (t.val % 40) 0#32) (dAt (t.val % 40)) x (start (crd t) (dAt (t.val % 40)) s) := by
  unfold next step at_ dAt; rw [crd_pos]

theorem start_pos (t : Fin (cfgA (F := Ideal)).N) (s : Acc Ideal) (kd : BitVec 32) :
    (start (crd t) kd s).dq = if t.val % 40 = 0 then k0_pay38 (F := Ideal) else s.dq := by
  unfold start; dsimp only
  rw [crd_pos]
  by_cases h : t.val % 40 = 0
  · rw [if_pos h, if_pos ((first_only _ (Nat.mod_lt _ (by decide))).2 h)]
  · rw [if_neg h, if_neg (fun e => h ((first_only _ (Nat.mod_lt _ (by decide))).1 e))]

theorem start_clear (i : grid0.Coords) (kd : BitVec 32) (s : Acc Ideal) (h : Scalar.cmpi .ne (Scalar.extui (Scalar.cmpi .sgt kd 0#32)) 0#32 = 1#1) :
    (start i kd s).dk = k0_pay39 (F := Ideal) ∧ (start i kd s).dv = k0_pay40 (F := Ideal) := by
  unfold start; exact ⟨if_pos h, if_pos h⟩

/-- The accumulators after every pair of a head. -/
theorem state_after {H : ℕ → Head} (hH : Holds V c H) (s : Acc Ideal) (h : ℕ) (hh : h < 8) : ∀ j < 40, State (H h) (kAt j) (qAt j + 1) (accAt V c s (40 * h + j + 1))
  | 0, _ => by
    have hN : 40 * h < (cfgA (F := Ideal)).N := by rw [show (cfgA (F := Ideal)).N = 320 from N_0]; omega
    have hm : (40 * h) % 40 = 0 := by omega
    have hd : (40 * h) / 40 = h := by omega
    have e := accAt_succ V c s ⟨40 * h, hN⟩
    rw [next_eq] at e
    dsimp only at e
    have hR := hH.rows ⟨40 * h, hN⟩
    have hC := hH.cols ⟨40 * h, hN⟩
    dsimp only at hR hC
    have hs := start_pos ⟨40 * h, hN⟩ (accAt V c s (40 * h)) (dAt 0)
    dsimp only at hs
    rw [hm] at e hR hC hs
    rw [hd] at hR hC
    rw [Nat.add_zero, e]
    refine State.adds ?_ (adds_pair 0 (by decide) _ hR hC _)
    have h0 : Scalar.cmpi .ne (Scalar.extui (Scalar.cmpi .sgt (dAt 0) 0#32)) 0#32 = 1#1 := by decide
    exact State.first _ (hs.trans (if_pos rfl)) (start_clear _ _ _ h0).1 (start_clear _ _ _ h0).2
  | j + 1, hj => by
    have ih := state_after hH s h hh j (by omega)
    have hN : 40 * h + (j + 1) < (cfgA (F := Ideal)).N := by rw [show (cfgA (F := Ideal)).N = 320 from N_0]; omega
    have hm : (40 * h + (j + 1)) % 40 = j + 1 := by omega
    have hd : (40 * h + (j + 1)) / 40 = h := by omega
    have e := accAt_succ V c s ⟨40 * h + (j + 1), hN⟩
    rw [next_eq] at e
    dsimp only at e
    have hR := hH.rows ⟨40 * h + (j + 1), hN⟩
    have hC := hH.cols ⟨40 * h + (j + 1), hN⟩
    dsimp only at hR hC
    have hs := start_pos ⟨40 * h + (j + 1), hN⟩ (accAt V c s (40 * h + (j + 1))) (dAt (j + 1))
    dsimp only at hs
    rw [hm] at e hR hC hs
    rw [hd] at hR hC
    rw [if_neg (Nat.succ_ne_zero j)] at hs
    rw [e]
    refine State.adds ?_ (adds_pair (j + 1) hj _ hR hC _)
    rcases follows j (by omega) with ⟨h0, hk, hq⟩ | ⟨h1, hk, hq, hle⟩
    · have hst : start (crd ⟨40 * h + (j + 1), hN⟩) (dAt (j + 1)) (accAt V c s (40 * h + (j + 1))) = accAt V c s (40 * h + (j + 1)) := by
        have hne : ¬ Scalar.cmpi .ne (Scalar.extui (Scalar.cmpi .sgt (dAt (j + 1)) 0#32)) 0#32 = 1#1 := by rw [h0]; decide
        have e2 : (start (crd ⟨40 * h + (j + 1), hN⟩) (dAt (j + 1)) (accAt V c s (40 * h + (j + 1)))).dk = (accAt V c s (40 * h + (j + 1))).dk := if_neg hne
        have e3 : (start (crd ⟨40 * h + (j + 1), hN⟩) (dAt (j + 1)) (accAt V c s (40 * h + (j + 1)))).dv = (accAt V c s (40 * h + (j + 1))).dv := if_neg hne
        generalize start (crd ⟨40 * h + (j + 1), hN⟩) (dAt (j + 1)) (accAt V c s (40 * h + (j + 1))) = a at hs e2 e3
        generalize accAt V c s (40 * h + (j + 1)) = b at hs e2 e3
        cases a; cases b; cases hs; cases e2; cases e3; rfl
      rw [hst, hk, hq]
      exact ih
    · rw [hq] at ih
      rw [hk]
      exact ih.turn hle hs (start_clear _ _ _ h1).1 (start_clear _ _ _ h1).2

end Cert.Attn
-- ==== Proof.Out.lean ====
module

public import proofs.«01_k».proof.Proof.Sums
public import Idealize.ShloMosaic.Lib.Pipeline.ValueKit.Basic

/-!
The call's three results as sums over the arrays the call reads: every block a window fetches is part of its head's arrays,
and what the write-backs leave covers each result.
-/

@[expose] public section

set_option maxRecDepth 16384

noncomputable section

namespace Cert.Attn

open Cert.KernelIdeal Cert.KernelIdeal.Gen
open Idealize.ShloMosaic
open Idealize.ShloMosaic.TcCoe
open Idealize.ShloMosaic.Pipeline (Dat)
open scoped BigOperators

/-- An array read by natural numbers, zero outside. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at3_eq {n0 n1 n2 : ℕ} (x : (⟨3, ![n0, n1, n2]⟩ : Shape).Idx → EReal) (a : Fin n0) (b : Fin n1) (c : Fin n2) :
    at3 x a b c = x (ix3 a b c) := dif_pos ⟨a.isLt, b.isLt, c.isLt⟩

/-- Arrays as one head's functions. -/
def headOf (q k : Vec Ideal S8x8192x96 .bf16) (v o g : Vec Ideal S8x8192x64 .bf16) (l : Vec Ideal S8x8192x1 .f32) (h : ℕ) : Head where
  q := at3 (n0 := 8) (n1 := 8192) (n2 := 96) q h
  k := at3 (n0 := 8) (n1 := 8192) (n2 := 96) k h
  v := at3 (n0 := 8) (n1 := 8192) (n2 := 64) v h
  o := at3 (n0 := 8) (n1 := 8192) (n2 := 64) o h
  g := at3 (n0 := 8) (n1 := 8192) (n2 := 64) g h
  l r := at3 (n0 := 8) (n1 := 8192) (n2 := 1) l h r 0

variable (V : Arrays Ideal) (c : Dev nD)

/-- A head of the arrays the call reads. -/
abbrev headAt (h : ℕ) : Head := headOf (V c main_arg0) (V c main_arg1) (V c main_arg2) (V c main_v21) (V c main_arg3) (V c main_v23) h

theorem t_lt (t : Fin (cfgA (F := Ideal)).N) : t.val < 320 := lt_of_lt_of_eq t.isLt N_0

/-! Where a block's elements lie in its array. -/

theorem byQ_at (t : Fin grid0.N) : byQ (crd t) = ![t.val / 40, qAt (t.val % 40), 0] := by unfold byQ at_ qAt; rw [crd_head, crd_pos]
theorem byK_at (t : Fin grid0.N) : byK (crd t) = ![t.val / 40, kAt (t.val % 40), 0] := by unfold byK at_ kAt; rw [crd_head, crd_pos]
theorem byH_at (t : Fin grid0.N) : byH (crd t) = ![t.val / 40, 0, 0] := by unfold byH; rw [crd_head]

theorem emb_vals {n0 n1 n2 m w : ℕ} {e : (⟨3, ![n0, n1, n2]⟩ : Shape).Idx} {idx : Fin 3 → ℕ} {A B : ℕ} (hi : idx = ![A, B, 0]) {y : (⟨3, ![1, m, w]⟩ : Shape).Idx}
    (he : ∀ a, (e a).val = idx a * (![1, m, w] : Fin 3 → ℕ) a + (y a).val) :
    (e 0).val = A ∧ (e 1).val = m * B + (y 1).val ∧ (e 2).val = (y 2).val := by
  subst hi
  refine ⟨(he 0).trans ?_, (he 1).trans ?_, (he 2).trans ?_⟩
  · have : (y 0).val < 1 := (y 0).isLt
    show A * 1 + (y 0).val = A; omega
  · show B * m + (y 1).val = _; rw [Nat.mul_comm]
  · show 0 * w + (y 2).val = _; omega

theorem at3_val {n0 n1 n2 : ℕ} (x : (⟨3, ![n0, n1, n2]⟩ : Shape).Idx → EReal) (e : (⟨3, ![n0, n1, n2]⟩ : Shape).Idx) {a b c : ℕ}
    (h : (e 0).val = a ∧ (e 1).val = b ∧ (e 2).val = c) : x e = at3 x a b c := by
  obtain ⟨rfl, rfl, rfl⟩ := h
  have h0 : e 0 = (⟨(e 0).val, (e 0).isLt⟩ : Fin n0) := rfl
  refine Eq.trans (congrArg x ?_) (at3_eq x (⟨(e 0).val, (e 0).isLt⟩ : Fin n0) (⟨(e 1).val, (e 1).isLt⟩ : Fin n1) (⟨(e 2).val, (e 2).isLt⟩ : Fin n2)).symm
  funext a
  match a with
  | ⟨0, _⟩ => rfl
  | ⟨1, _⟩ => rfl
  | ⟨2, _⟩ => rfl

theorem emb0 (t : Fin (cfgA (F := Ideal)).N) (y : (⟨3, ![1, 2048, 96]⟩ : Shape).Idx) : let e : (⟨3, ![8, 8192, 96]⟩ : Shape).Idx := (((cfgA (F := Ideal)).win (0 : Fin 9)).blk t).view.emb y
    (e 0).val = t.val / 40 ∧ (e 1).val = 2048 * qAt (t.val % 40) + (y 1).val ∧ (e 2).val = (y 2).val :=
  emb_vals ((congrFun index0 (crd t)).trans (byQ_at t)) (fun a => Pipeline.Window.rect_emb_val ((cfgA (F := Ideal)).win (0 : Fin 9)) t y a)
theorem emb1 (t : Fin (cfgA (F := Ideal)).N) (y : (⟨3, ![1, 512, 96]⟩ : Shape).Idx) : let e : (⟨3, ![8, 8192, 96]⟩ : Shape).Idx := (((cfgA (F := Ideal)).win (1 : Fin 9)).blk t).view.emb y
    (e 0).val = t.val / 40 ∧ (e 1).val = 512 * kAt (t.val % 40) + (y 1).val ∧ (e 2).val = (y 2).val :=
  emb_vals ((congrFun index1 (crd t)).trans (byK_at t)) (fun a => Pipeline.Window.rect_emb_val ((cfgA (F := Ideal)).win (1 : Fin 9)) t y a)
theorem emb2 (t : Fin (cfgA (F := Ideal)).N) (y : (⟨3, ![1, 512, 64]⟩ : Shape).Idx) : let e : (⟨3, ![8, 8192, 64]⟩ : Shape).Idx := (((cfgA (F := Ideal)).win (2 : Fin 9)).blk t).view.emb y
    (e 0).val = t.val / 40 ∧ (e 1).val = 512 * kAt (t.val % 40) + (y 1).val ∧ (e 2).val = (y 2).val :=
  emb_vals ((congrFun index2 (crd t)).trans (byK_at t)) (fun a => Pipeline.Window.rect_emb_val ((cfgA (F := Ideal)).win (2 : Fin 9)) t y a)
theorem emb3 (t : Fin (cfgA (F := Ideal)).N) (y : (⟨3, ![1, 2048, 64]⟩ : Shape).Idx) : let e : (⟨3, ![8, 8192, 64]⟩ : Shape).Idx := (((cfgA (F := Ideal)).win (3 : Fin 9)).blk t).view.emb y
    (e 0).val = t.val / 40 ∧ (e 1).val = 2048 * qAt (t.val % 40) + (y 1).val ∧ (e 2).val = (y 2).val :=
  emb_vals ((congrFun index3 (crd t)).trans (byQ_at t)) (fun a => Pipeline.Window.rect_emb_val ((cfgA (F := Ideal)).win (3 : Fin 9)) t y a)
theorem emb4 (t : Fin (cfgA (F := Ideal)).N) (y : (⟨3, ![1, 2048, 64]⟩ : Shape).Idx) : let e : (⟨3, ![8, 8192, 64]⟩ : Shape).Idx := (((cfgA (F := Ideal)).win (4 : Fin 9)).blk t).view.emb y
    (e 0).val = t.val / 40 ∧ (e 1).val = 2048 * qAt (t.val % 40) + (y 1).val ∧ (e 2).val = (y 2).val :=
  emb_vals ((congrFun index4 (crd t)).trans (byQ_at t)) (fun a => Pipeline.Window.rect_emb_val ((cfgA (F := Ideal)).win (4 : Fin 9)) t y a)
theorem emb5 (t : Fin (cfgA (F := Ideal)).N) (y : (⟨3, ![1, 2048, 1]⟩ : Shape).Idx) : let e : (⟨3, ![8, 8192, 1]⟩ : Shape).Idx := (((cfgA (F := Ideal)).win (5 : Fin 9)).blk t).view.emb y
    (e 0).val = t.val / 40 ∧ (e 1).val = 2048 * qAt (t.val % 40) + (y 1).val ∧ (e 2).val = (y 2).val :=
  emb_vals ((congrFun index5 (crd t)).trans (byQ_at t)) (fun a => Pipeline.Window.rect_emb_val ((cfgA (F := Ideal)).win (5 : Fin 9)) t y a)
theorem emb6 (t : Fin (cfgA (F := Ideal)).N) (y : (⟨3, ![1, 8192, 96]⟩ : Shape).Idx) : let e : (⟨3, ![8, 8192, 96]⟩ : Shape).Idx := (((cfgA (F := Ideal)).win (6 : Fin 9)).blk t).view.emb y
    (e 0).val = t.val / 40 ∧ (e 1).val = 8192 * 0 + (y 1).val ∧ (e 2).val = (y 2).val :=
  emb_vals ((congrFun index6 (crd t)).trans (byH_at t)) (fun a => Pipeline.Window.rect_emb_val ((cfgA (F := Ideal)).win (6 : Fin 9)) t y a)
theorem emb7 (t : Fin (cfgA (F := Ideal)).N) (y : (⟨3, ![1, 512, 96]⟩ : Shape).Idx) : let e : (⟨3, ![8, 8192, 96]⟩ : Shape).Idx := (((cfgA (F := Ideal)).win (7 : Fin 9)).blk t).view.emb y
    (e 0).val = t.val / 40 ∧ (e 1).val = 512 * kAt (t.val % 40) + (y 1).val ∧ (e 2).val = (y 2).val :=
  emb_vals ((congrFun index7 (crd t)).trans (byK_at t)) (fun a => Pipeline.Window.rect_emb_val ((cfgA (F := Ideal)).win (7 : Fin 9)) t y a)
theorem emb8 (t : Fin (cfgA (F := Ideal)).N) (y : (⟨3, ![1, 512, 64]⟩ : Shape).Idx) : let e : (⟨3, ![8, 8192, 64]⟩ : Shape).Idx := (((cfgA (F := Ideal)).win (8 : Fin 9)).blk t).view.emb y
    (e 0).val = t.val / 40 ∧ (e 1).val = 512 * kAt (t.val % 40) + (y 1).val ∧ (e 2).val = (y 2).val :=
  emb_vals ((congrFun index8 (crd t)).trans (byK_at t)) (fun a => Pipeline.Window.rect_emb_val ((cfgA (F := Ideal)).win (8 : Fin 9)) t y a)

/-- The call's blocks are parts of its heads' arrays. -/
theorem holds : Holds V c (headAt V c) where
  rows t := {
    q := fun r d => at3_val (n0 := 8) (n1 := 8192) (n2 := 96) (V c main_arg0) _ (emb0 t (ix3 0 r d))
    g := fun r d => at3_val (n0 := 8) (n1 := 8192) (n2 := 64) (V c main_arg3) _ (emb4 t (ix3 0 r d))
    o := fun r d => at3_val (n0 := 8) (n1 := 8192) (n2 := 64) (V c main_v21) _ (emb3 t (ix3 0 r d))
    l := fun r => at3_val (n0 := 8) (n1 := 8192) (n2 := 1) (V c main_v23) _ (emb5 t (ix3 0 r 0)) }
  cols t := {
    k := fun r d => at3_val (n0 := 8) (n1 := 8192) (n2 := 96) (V c main_arg1) _ (emb1 t (ix3 0 r d))
    v := fun r d => at3_val (n0 := 8) (n1 := 8192) (n2 := 64) (V c main_arg2) _ (emb2 t (ix3 0 r d)) }

/-! Where the results are written back. -/

theorem flush_k : ∀ j < 40, k0_cond8 (laL.getD j 0#32) = 1#1 → qAt j = 3 := by decide

/-- The position of a key block's last pair. -/
def lastOf (K : ℕ) : ℕ := [3, 7, 11, 15, 18, 21, 24, 27, 29, 31, 33, 35, 36, 37, 38, 39].getD K 0

theorem lastOf_at : ∀ K < 16, lastOf K < 40 ∧ kAt (lastOf K) = K ∧ k0_cond8 (laL.getD (lastOf K) 0#32) = 1#1 := by decide

theorem cond9_iff : ∀ t : Fin grid0.N, k0_cond9 (crd t) = 1#1 ↔ t.val % 40 = 39 := by decide +kernel

/-- The accumulators after a point of the grid. -/
theorem state_at (t : Fin (cfgA (F := Ideal)).N) : State (headAt V c (t.val / 40)) (kAt (t.val % 40)) (qAt (t.val % 40) + 1) (accOf V c t) := by
  have h := state_after V c (holds V c) zeroAcc (t.val / 40) (by have := t_lt t; omega) (t.val % 40) (Nat.mod_lt _ (by decide))
  rwa [Nat.div_add_mod] at h

theorem pay7_apply (a : Vec Ideal S8192x96 .f32) (r : Fin 8192) (d : Fin 96) : k0_pay7 (F := Ideal) a (ix3 0 r d) = a (ix2 r d) := by pointwise [k0_pay7]
theorem pay5_apply (a : Vec Ideal S512x96 .f32) (r : Fin 512) (d : Fin 96) : k0_pay5 (F := Ideal) a (ix3 0 r d) = a (ix2 r d) := by pointwise [k0_pay5]
theorem pay6_apply (a : Vec Ideal S512x64 .f32) (r : Fin 512) (d : Fin 64) : k0_pay6 (F := Ideal) a (ix3 0 r d) = a (ix2 r d) := by pointwise [k0_pay6]

/-- The query gradients. -/
def dqOut : Vec Ideal S8x8192x96 .bf16 := fun i => (headAt V c (i 0).val).dqTo 8192 (i 1).val (i 2).val
/-- The key gradients. -/
def dkOut : Vec Ideal S8x8192x96 .bf16 := fun i => (headAt V c (i 0).val).dkTo 8192 (i 1).val (i 2).val
/-- The value gradients. -/
def dvOut : Vec Ideal S8x8192x64 .bf16 := fun i => (headAt V c (i 0).val).dvTo 8192 (i 1).val (i 2).val

/-- An index of a three-axis array, by its coordinates. -/
theorem ext3 {n0 n1 n2 : ℕ} {e i : (⟨3, ![n0, n1, n2]⟩ : Shape).Idx} (h0 : (e 0).val = (i 0).val) (h1 : (e 1).val = (i 1).val) (h2 : (e 2).val = (i 2).val) : e = i := by
  funext a
  refine Fin.ext ?_
  match a with
  | ⟨0, _⟩ => exact h0
  | ⟨1, _⟩ => exact h1
  | ⟨2, _⟩ => exact h2

theorem eta3 {m w : ℕ} (y : (⟨3, ![1, m, w]⟩ : Shape).Idx) : y = ix3 0 (y 1) (y 2) := ext3 (by have : (y 0).val < 1 := (y 0).isLt; show (y 0).val = 0; omega) rfl rfl

theorem dq_final : (dats V 0 c).arrAt (6 : Fin 9) (cfgA (F := Ideal)).N = dqOut V c := by
  refine (dats V 0 c).arrAt_eq_of_cover (6 : Fin 9) (dqOut V c) (fun t ht => funext fun y => ?_) (fun i => ?_)
  · rw [flush6, beq_iff_eq, cond9_iff] at ht
    obtain ⟨e0, e1, e2⟩ := emb6 t y
    have hs := (state_at V c t).dq (y 1) (y 2)
    rw [ht] at hs
    show k0_pay7 (F := Ideal) (accOf V c t).dq y = dqOut V c _
    unfold dqOut
    refine Eq.trans ?_ (congrArg₂ (fun (a : ℕ × ℕ) b => (headAt V c a.1).dqTo 8192 a.2 b) (congrArg₂ Prod.mk e0 e1) e2).symm
    conv_lhs => rw [eta3 (m := 8192) (w := 96) y]
    have hy : (y 1).val < 8192 := (y 1).isLt
    rw [if_pos (show _ from by show (y 1).val / 2048 < 3 + 1; omega)] at hs
    refine ((pay7_apply _ _ _).trans hs).trans ?_
    show Head.dqTo _ 8192 _ _ = Head.dqTo _ 8192 (8192 * 0 + _) _
    rw [Nat.mul_zero, Nat.zero_add]
  · have h0 : (i 0).val < 8 := (i 0).isLt
    have h1 : (i 1).val < 8192 := (i 1).isLt
    let t : Fin (cfgA (F := Ideal)).N := ⟨40 * (i 0).val + 39, by rw [show (cfgA (F := Ideal)).N = 320 from N_0]; omega⟩
    refine ⟨t, ?_, ?_⟩
    · rw [flush6, beq_iff_eq, cond9_iff]; show (40 * (i 0).val + 39) % 40 = 39; omega
    · have hm := (((cfgA (F := Ideal)).win (6 : Fin 9)).blk t).view.emb_mem_set (ix3 (n0 := 1) (n1 := 8192) (n2 := 96) 0 (i 1) (i 2))
      obtain ⟨e0, e1, e2⟩ := emb6 t (ix3 (n0 := 1) (n1 := 8192) (n2 := 96) 0 (i 1) (i 2))
      have he : (((cfgA (F := Ideal)).win (6 : Fin 9)).blk t).view.emb (ix3 (n0 := 1) (n1 := 8192) (n2 := 96) 0 (i 1) (i 2)) = i :=
        ext3 (n0 := 8) (n1 := 8192) (n2 := 96) (e0.trans (by show (40 * (i 0).val + 39) / 40 = _; omega)) (e1.trans (by show 8192 * 0 + (i 1).val = _; omega)) e2
      rwa [he] at hm

theorem dk_final : (dats V 0 c).arrAt (7 : Fin 9) (cfgA (F := Ideal)).N = dkOut V c := by
  refine (dats V 0 c).arrAt_eq_of_cover (7 : Fin 9) (dkOut V c) (fun t ht => funext fun y => ?_) (fun i => ?_)
  · rw [flush7, beq_iff_eq] at ht
    obtain ⟨e0, e1, e2⟩ := emb7 t y
    have hs := (state_at V c t).dk (y 1) (y 2)
    rw [flush_k _ (Nat.mod_lt _ (by decide)) (by unfold at_ at ht; rwa [crd_pos] at ht)] at hs
    show k0_pay5 (F := Ideal) (accOf V c t).dk y = dkOut V c _
    unfold dkOut
    refine Eq.trans ?_ (congrArg₂ (fun (a : ℕ × ℕ) b => (headAt V c a.1).dkTo 8192 a.2 b) (congrArg₂ Prod.mk e0 e1) e2).symm
    conv_lhs => rw [eta3 (m := 512) (w := 96) y]
    exact (pay5_apply _ _ _).trans hs
  · have h0 : (i 0).val < 8 := (i 0).isLt
    have h1 : (i 1).val < 8192 := (i 1).isLt
    obtain ⟨l1, l2, l3⟩ := lastOf_at ((i 1).val / 512) (by omega)
    let t : Fin (cfgA (F := Ideal)).N := ⟨40 * (i 0).val + lastOf ((i 1).val / 512), by rw [show (cfgA (F := Ideal)).N = 320 from N_0]; omega⟩
    have tm : t.val % 40 = lastOf ((i 1).val / 512) := by show (40 * (i 0).val + lastOf ((i 1).val / 512)) % 40 = _; omega
    refine ⟨t, ?_, ?_⟩
    · rw [flush7, beq_iff_eq]; unfold at_; rw [crd_pos, tm]; exact l3
    · have hm := (((cfgA (F := Ideal)).win (7 : Fin 9)).blk t).view.emb_mem_set (ix3 (n0 := 1) (n1 := 512) (n2 := 96) 0 ⟨(i 1).val % 512, Nat.mod_lt _ (by decide)⟩ (i 2))
      obtain ⟨e0, e1, e2⟩ := emb7 t (ix3 (n0 := 1) (n1 := 512) (n2 := 96) 0 ⟨(i 1).val % 512, Nat.mod_lt _ (by decide)⟩ (i 2))
      have he : (((cfgA (F := Ideal)).win (7 : Fin 9)).blk t).view.emb (ix3 (n0 := 1) (n1 := 512) (n2 := 96) 0 ⟨(i 1).val % 512, Nat.mod_lt _ (by decide)⟩ (i 2)) = i :=
        ext3 (n0 := 8) (n1 := 8192) (n2 := 96) (e0.trans (by show (40 * (i 0).val + lastOf ((i 1).val / 512)) / 40 = _; omega))
          (e1.trans (by rw [tm, l2]; exact Nat.div_add_mod _ _)) e2
      rwa [he] at hm

theorem dv_final : (dats V 0 c).arrAt (8 : Fin 9) (cfgA (F := Ideal)).N = dvOut V c := by
  refine (dats V 0 c).arrAt_eq_of_cover (8 : Fin 9) (dvOut V c) (fun t ht => funext fun y => ?_) (fun i => ?_)
  · rw [flush8, beq_iff_eq] at ht
    obtain ⟨e0, e1, e2⟩ := emb8 t y
    have hs := (state_at V c t).dv (y 1) (y 2)
    rw [flush_k _ (Nat.mod_lt _ (by decide)) (by unfold at_ at ht; rwa [crd_pos] at ht)] at hs
    show k0_pay6 (F := Ideal) (accOf V c t).dv y = dvOut V c _
    unfold dvOut
    refine Eq.trans ?_ (congrArg₂ (fun (a : ℕ × ℕ) b => (headAt V c a.1).dvTo 8192 a.2 b) (congrArg₂ Prod.mk e0 e1) e2).symm
    conv_lhs => rw [eta3 (m := 512) (w := 64) y]
    exact (pay6_apply _ _ _).trans hs
  · have h0 : (i 0).val < 8 := (i 0).isLt
    have h1 : (i 1).val < 8192 := (i 1).isLt
    obtain ⟨l1, l2, l3⟩ := lastOf_at ((i 1).val / 512) (by omega)
    let t : Fin (cfgA (F := Ideal)).N := ⟨40 * (i 0).val + lastOf ((i 1).val / 512), by rw [show (cfgA (F := Ideal)).N = 320 from N_0]; omega⟩
    have tm : t.val % 40 = lastOf ((i 1).val / 512) := by show (40 * (i 0).val + lastOf ((i 1).val / 512)) % 40 = _; omega
    refine ⟨t, ?_, ?_⟩
    · rw [flush8, beq_iff_eq]; unfold at_; rw [crd_pos, tm]; exact l3
    · have hm := (((cfgA (F := Ideal)).win (8 : Fin 9)).blk t).view.emb_mem_set (ix3 (n0 := 1) (n1 := 512) (n2 := 64) 0 ⟨(i 1).val % 512, Nat.mod_lt _ (by decide)⟩ (i 2))
      obtain ⟨e0, e1, e2⟩ := emb8 t (ix3 (n0 := 1) (n1 := 512) (n2 := 64) 0 ⟨(i 1).val % 512, Nat.mod_lt _ (by decide)⟩ (i 2))
      have he : (((cfgA (F := Ideal)).win (8 : Fin 9)).blk t).view.emb (ix3 (n0 := 1) (n1 := 512) (n2 := 64) 0 ⟨(i 1).val % 512, Nat.mod_lt _ (by decide)⟩ (i 2)) = i :=
        ext3 (n0 := 8) (n1 := 8192) (n2 := 64) (e0.trans (by show (40 * (i 0).val + lastOf ((i 1).val / 512)) / 40 = _; omega))
          (e1.trans (by rw [tm, l2]; exact Nat.div_add_mod _ _)) e2
      rwa [he] at hm

end Cert.Attn
-- ==== Proof.Row.lean ====
module

public import proofs.«01_k».proof.Proof.Spec
public import Mathlib.Data.EReal.Inv
public import Mathlib.Analysis.SpecialFunctions.Log.Basic
public import Mathlib.Data.Finset.Fold

/-!
One row of the attention, over the extended reals with real scores: the maximum, the normaliser and the weights are real,
and the kernel's weights and score gradients are the reference's.
-/

@[expose] public section

noncomputable section

namespace Cert.Attn

open Idealize.ShloMosaic
open scoped BigOperators

variable {n : ℕ}

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A row's scores, masked. -/
def sc (r : Fin n) (σ : Fin n → EReal) (c : Fin n) : EReal := if c.val ≤ r.val then σ c else ⊥
/-- A row's maximum. -/
def rowMax (r : Fin n) (σ : Fin n → EReal) : EReal := Finset.univ.fold max ⊥ (sc r σ)
/-- A row's exponentials. -/
def rowExp (r : Fin n) (σ : Fin n → EReal) (c : Fin n) : EReal := Ideal.exp (sc r σ c - rowMax r σ)
/-- A row's normaliser. -/
def rowSum (r : Fin n) (σ : Fin n → EReal) : EReal := ∑ c, rowExp r σ c
/-- A row's weights. -/
def soft (r : Fin n) (σ : Fin n → EReal) (c : Fin n) : EReal := Ideal.div (rowExp r σ c) (rowSum r σ)
/-- The gradients of a row's scores, as the reference computes them from the gradients `δ` of its weights. -/
def softGrad (r : Fin n) (σ δ : Fin n → EReal) (c : Fin n) : EReal :=
  if c.val ≤ r.val then (Ideal.div (δ c) (rowSum r σ) + -∑ c', δ c' * Ideal.div 1 (rowSum r σ * rowSum r σ) * rowExp r σ c') * rowExp r σ c else 0

theorem rowMax_congr (r : Fin n) {s σ : Fin n → EReal} (hs : ∀ c, s c = sc r σ c) : Finset.univ.fold max ⊥ s = rowMax r σ :=
  Finset.fold_congr fun c _ => hs c
theorem rowExp_congr (r : Fin n) {s σ : Fin n → EReal} (hs : ∀ c, s c = sc r σ c) (c : Fin n) :
    Ideal.exp (s c - Finset.univ.fold max ⊥ s) = rowExp r σ c := by
  rw [rowMax_congr r hs, hs]; rfl
theorem rowSum_congr (r : Fin n) {s σ : Fin n → EReal} (hs : ∀ c, s c = sc r σ c) :
    ∑ c, Ideal.exp (s c - Finset.univ.fold max ⊥ s) = rowSum r σ :=
  Finset.sum_congr rfl fun c _ => rowExp_congr r hs c
theorem soft_congr (r : Fin n) {s σ : Fin n → EReal} (hs : ∀ c, s c = sc r σ c) (c : Fin n) :
    Ideal.div (Ideal.exp (s c - Finset.univ.fold max ⊥ s)) (∑ c, Ideal.exp (s c - Finset.univ.fold max ⊥ s)) = soft r σ c := by
  rw [rowExp_congr r hs, rowSum_congr r hs]; rfl
/-- The score gradients, from the masked scores `s`, the weights' gradients `δ`, and the row's numbers as they are computed. -/
theorem softGrad_congr (r : Fin n) {s σ δ δ' : Fin n → EReal} (hs : ∀ c, s c = sc r σ c) (hd : ∀ c, δ' c = δ c) (c : Fin n) :
    (if c.val ≤ r.val then
      (Ideal.div (δ' c) (∑ c, Ideal.exp (s c - Finset.univ.fold max ⊥ s))
        + -∑ c', δ' c' * Ideal.div 1 ((∑ c, Ideal.exp (s c - Finset.univ.fold max ⊥ s)) * ∑ c, Ideal.exp (s c - Finset.univ.fold max ⊥ s))
            * Ideal.exp (s c' - Finset.univ.fold max ⊥ s)) * Ideal.exp (s c - Finset.univ.fold max ⊥ s)
      else 0) = softGrad r σ δ c := by
  obtain rfl : δ' = δ := funext hd
  simp only [rowExp_congr r hs, rowSum_congr r hs]; rfl

theorem rowMax_real (r : Fin n) (σ : Fin n → ℝ) : ∃ μ : ℝ, rowMax r (fun c => (σ c : EReal)) = μ := by
  have ht : rowMax r (fun c => (σ c : EReal)) < ⊤ := by
    unfold rowMax
    rw [Finset.fold_max_lt]
    refine ⟨bot_lt_top, fun c _ => ?_⟩
    unfold sc
    split
    · exact EReal.coe_lt_top _
    · exact bot_lt_top
  have hb : ⊥ < rowMax r (fun c => (σ c : EReal)) := by
    unfold rowMax
    rw [Finset.lt_fold_max]
    refine Or.inr ⟨r, Finset.mem_univ _, ?_⟩
    unfold sc
    rw [if_pos (le_refl _)]
    exact EReal.bot_lt_coe _
  exact ⟨_, (EReal.coe_toReal ht.ne hb.ne').symm⟩

/-- The exponentials of a row with real scores, below a real maximum. -/
def er (r : Fin n) (σ : Fin n → ℝ) (μ : ℝ) (c : Fin n) : ℝ := if c.val ≤ r.val then Real.exp (σ c - μ) else 0

theorem er_sum_pos (r : Fin n) (σ : Fin n → ℝ) (μ : ℝ) : 0 < ∑ c, er r σ μ c := by
  refine Finset.sum_pos' (fun c _ => ?_) ⟨r, Finset.mem_univ _, ?_⟩
  · unfold er; split
    · exact (Real.exp_pos _).le
    · exact le_refl _
  · unfold er; rw [if_pos (le_refl _)]; exact Real.exp_pos _

section

variable (r : Fin n) (σ : Fin n → ℝ) {μ : ℝ} (hμ : rowMax r (fun c => (σ c : EReal)) = μ)

include hμ

theorem rowExp_real (c : Fin n) : rowExp r (fun c => (σ c : EReal)) c = (er r σ μ c : EReal) := by
  unfold rowExp er sc
  rw [hμ]
  split
  · rw [← EReal.coe_sub]; rfl
  · rw [sub_eq_add_neg, EReal.bot_add]; rfl

theorem rowSum_real : rowSum r (fun c => (σ c : EReal)) = ((∑ c, er r σ μ c : ℝ) : EReal) := by
  unfold rowSum
  rw [coe_sum]
  exact Finset.sum_congr rfl fun c _ => rowExp_real r σ hμ c

theorem div_sum (x : ℝ) : Ideal.div (x : EReal) (rowSum r (fun c => (σ c : EReal))) = ((x / ∑ c, er r σ μ c : ℝ) : EReal) := by
  rw [rowSum_real r σ hμ, Ideal.div_coe (er_sum_pos r σ μ).ne', ← EReal.coe_mul, mul_one_div]

theorem soft_real (c : Fin n) : soft r (fun c => (σ c : EReal)) c = ((er r σ μ c / ∑ c, er r σ μ c : ℝ) : EReal) := by
  unfold soft
  rw [rowExp_real r σ hμ, div_sum r σ hμ]

end

/-- The weights from the log-sum-exp are the softmax's. -/
theorem weight_lse (r : Fin n) (σ : Fin n → ℝ) (c : Fin n) :
    (if c.val ≤ r.val then Ideal.exp ((σ c : EReal) - (rowMax r (fun c => (σ c : EReal)) + Ideal.log (rowSum r (fun c => (σ c : EReal))))) else 0)
      = soft r (fun c => (σ c : EReal)) c := by
  obtain ⟨μ, hμ⟩ := rowMax_real r σ
  rw [soft_real r σ hμ, hμ, rowSum_real r σ hμ]
  have hp := er_sum_pos r σ μ
  generalize he : ∑ c, er r σ μ c = L at hp ⊢
  have hl : Ideal.log (L : EReal) = (Real.log L : EReal) := by rw [Ideal.log_coe, if_neg (not_le.2 hp)]
  unfold er
  split
  · rw [hl, ← EReal.coe_add, ← EReal.coe_sub, Ideal.exp_coe, sub_add_eq_sub_sub, Real.exp_sub, Real.exp_log hp]
  · rw [zero_div]; rfl

/-- The score gradients from the row's weighted mean are the reference's. -/
theorem grad_row {m : ℕ} (r : Fin n) (σ : Fin n → ℝ) (g : Fin m → ℝ) (v : Fin n → Fin m → ℝ) (c : Fin n) :
    soft r (fun c => (σ c : EReal)) c * ((∑ d, (g d : EReal) * (v c d : EReal)) - ∑ d, (g d : EReal) * ∑ c', soft r (fun c => (σ c : EReal)) c' * (v c' d : EReal))
      = softGrad r (fun c => (σ c : EReal)) (fun c => ∑ d, (g d : EReal) * (v c d : EReal)) c := by
  obtain ⟨μ, hμ⟩ := rowMax_real r σ
  have hδ : ∀ c, ∑ d, (g d : EReal) * (v c d : EReal) = ((∑ d, g d * v c d : ℝ) : EReal) := fun c => by
    rw [coe_sum]; exact Finset.sum_congr rfl fun d _ => (EReal.coe_mul _ _).symm
  have hp := er_sum_pos r σ μ
  unfold softGrad
  simp only [hδ, div_sum r σ hμ, soft_real r σ hμ, rowExp_real r σ hμ, rowSum_real r σ hμ]
  generalize he : ∑ c, er r σ μ c = L at hp ⊢
  have h1 : Ideal.div 1 ((L : EReal) * (L : EReal)) = ((1 / (L * L) : ℝ) : EReal) := by
    rw [← EReal.coe_mul, Ideal.div_coe (mul_pos hp hp).ne', one_mul]
  rw [h1]
  simp only [← EReal.coe_mul, ← coe_sum, ← EReal.coe_sub, ← EReal.coe_neg, ← EReal.coe_add]
  have hreal : ∑ d, g d * ∑ c', er r σ μ c' / L * v c' d = ∑ c', (∑ d, g d * v c' d) * (1 / (L * L)) * er r σ μ c' * L := by
    simp only [Finset.mul_sum, Finset.sum_mul]
    rw [Finset.sum_comm]
    refine Finset.sum_congr rfl fun c' _ => Finset.sum_congr rfl fun d _ => ?_
    field_simp
  rw [hreal, ← Finset.sum_mul]
  generalize ∑ c', (∑ d, g d * v c' d) * (1 / (L * L)) * er r σ μ c' = X
  by_cases hc : c.val ≤ r.val
  · rw [if_pos hc]
    rw [Ideal.div_coe hp.ne', ← EReal.coe_mul, ← EReal.coe_add, ← EReal.coe_mul]
    refine congrArg Real.toEReal ?_
    field_simp
    try ring
  · rw [if_neg hc]
    have : er r σ μ c = 0 := if_neg hc
    rw [this, zero_div, zero_mul]; rfl

end Cert.Attn
-- ==== Proof.Mask.lean ====
module

public import proofs.«01_k».proof.Proof.Row
public import Idealize.ShloMosaic.PureOps.Ideal
public import Idealize.ShloMosaic.PureOps
public import Idealize.ShloMosaic.Lib.WordCmp
public import Idealize.ShloMosaic.Lib.Pointwise

/-!
The literal the masked entries take, the comparison that masks them, and the sums a row's scores and weight gradients are.
-/

@[expose] public section

noncomputable section

namespace Cert.Attn

open Idealize.ShloMosaic
open scoped BigOperators

theorem bot_bits : (Ideal.ofBits .f32 0xFF800000#32 : EReal) = ⊥ := by
  simp [Ideal.ofBits, Ideal.ieee]

/-- The causal mask of one entry. -/
theorem mask_apply {α : Type} (x r : Fin 8192) (a b : α) :
    Scalar.select (IntOp.cmpi .sle (BitVec.ofNat 32 x.val) (BitVec.ofNat 32 r.val)) a b = if x.val ≤ r.val then a else b := by
  have hx := x.isLt
  have hr := r.isLt
  have h : (IntOp.cmpi .sle (BitVec.ofNat 32 x.val) (BitVec.ofNat 32 r.val) = 1) ↔ x.val ≤ r.val :=
    WordCmp.cmpi_sle_ofNat_eq_one_iff (by omega) (by omega)
  unfold Scalar.select
  by_cases hc : x.val ≤ r.val
  · rw [if_pos hc, if_pos (h.2 hc)]
  · rw [if_neg hc, if_neg (fun e => hc (h.1 e))]

/-- A row's scores against the keys, in one head. -/
def scoreAt (q k : FVec Ideal ⟨3, ![8, 8192, 96]⟩ .bf16) (h : Fin 8) (r x : Fin 8192) : EReal := ∑ d : Fin 96, (q (ix3 h r d) * k (ix3 h x d) : EReal)
/-- The gradients of a row's weights, in one head. -/
def weightGrad (g v : FVec Ideal ⟨3, ![8, 8192, 64]⟩ .bf16) (h : Fin 8) (r x : Fin 8192) : EReal := ∑ d : Fin 64, (g (ix3 h r d) * v (ix3 h x d) : EReal)

end Cert.Attn

end
-- ==== Proof.Soft.lean ====
module

public import proofs.«01_k».proof.Proof.Out
public import proofs.«01_k».proof.Proof.Mask

/-!
With real arguments, and with the forward pass's output and log-sum-exp, one head's weights and score gradients are the
softmax's.
-/

@[expose] public section

noncomputable section

namespace Cert.Attn

open Cert.KernelIdeal Cert.KernelIdeal.Gen
open Idealize.ShloMosaic
open scoped BigOperators

theorem score_real {q k : FVec Ideal S8x8192x96 .bf16} (hq : ∀ i, ∃ x : ℝ, (q i : EReal) = x) (hk : ∀ i, ∃ x : ℝ, (k i : EReal) = x)
    (h : Fin 8) (r : Fin 8192) : ∃ σ : Fin 8192 → ℝ, scoreAt q k h r = fun x => (σ x : EReal) := by
  choose q' hq using hq
  choose k' hk using hk
  refine ⟨fun x => ∑ d : Fin 96, q' (ix3 h r d) * k' (ix3 h x d), funext fun x => ?_⟩
  unfold scoreAt
  rw [coe_sum]
  refine Finset.sum_congr rfl fun d _ => ?_
  rw [EReal.coe_mul, hq, hk]

/-- What the two arrays of the forward pass hold. -/
structure Forward (q k : FVec Ideal S8x8192x96 .bf16) (v o : FVec Ideal S8x8192x64 .bf16) (l : FVec Ideal S8x8192x1 .f32) : Prop where
  o : ∀ (h : Fin 8) (r : Fin 8192) (d : Fin 64), (o (ix3 h r d) : EReal) = ∑ x, (soft r (scoreAt q k h r) x * v (ix3 h x d) : EReal)
  l : ∀ (h : Fin 8) (r : Fin 8192), (l (ix3 h r (0 : Fin 1)) : EReal) = rowMax r (scoreAt q k h r) + Ideal.log (rowSum r (scoreAt q k h r))

section

variable {q k : FVec Ideal S8x8192x96 .bf16} {v o g : FVec Ideal S8x8192x64 .bf16} {l : FVec Ideal S8x8192x1 .f32}

theorem head_s (h : Fin 8) (r x : Fin 8192) : (headOf q k v o g l h.val).s r.val x.val = scoreAt q k h r x :=
  Finset.sum_congr rfl fun d _ =>
    congrArg₂ (fun a b : EReal => a * b) (at3_eq (n0 := 8) (n1 := 8192) (n2 := 96) q h r d) (at3_eq (n0 := 8) (n1 := 8192) (n2 := 96) k h x d)

variable (hq : ∀ i, ∃ x : ℝ, (q i : EReal) = x) (hk : ∀ i, ∃ x : ℝ, (k i : EReal) = x) (hf : Forward q k v o l)

include hq hk hf

theorem head_p (h : Fin 8) (r x : Fin 8192) : (headOf q k v o g l h.val).p r.val x.val = soft r (scoreAt q k h r) x := by
  unfold Head.p
  rw [head_s, show (headOf q k v o g l h.val).l r.val = l (ix3 h r (0 : Fin 1)) from at3_eq (n0 := 8) (n1 := 8192) (n2 := 1) l h r 0, hf.l]
  obtain ⟨σ, hσ⟩ := score_real hq hk h r
  rw [hσ]
  exact weight_lse r σ x

theorem head_ds (hv : ∀ i, ∃ x : ℝ, (v i : EReal) = x) (hg : ∀ i, ∃ x : ℝ, (g i : EReal) = x) (h : Fin 8) (r x : Fin 8192) :
    (headOf q k v o g l h.val).ds r.val x.val = softGrad r (scoreAt q k h r) (weightGrad g v h r) x := by
  unfold Head.ds
  rw [head_p hq hk hf]
  have e1 : ∑ d : Fin 64, (headOf q k v o g l h.val).g r.val d.val * (headOf q k v o g l h.val).v x.val d.val
      = ∑ d : Fin 64, (g (ix3 h r d) * v (ix3 h x d) : EReal) := Finset.sum_congr rfl fun d _ =>
    congrArg₂ (fun a b : EReal => a * b) (at3_eq (n0 := 8) (n1 := 8192) (n2 := 64) g h r d) (at3_eq (n0 := 8) (n1 := 8192) (n2 := 64) v h x d)
  have e2 : ∑ d : Fin 64, (headOf q k v o g l h.val).g r.val d.val * (headOf q k v o g l h.val).o r.val d.val
      = ∑ d : Fin 64, (g (ix3 h r d) * ∑ y, soft r (scoreAt q k h r) y * v (ix3 h y d) : EReal) := Finset.sum_congr rfl fun d _ =>
    congrArg₂ (fun a b : EReal => a * b) (at3_eq (n0 := 8) (n1 := 8192) (n2 := 64) g h r d)
      ((at3_eq (n0 := 8) (n1 := 8192) (n2 := 64) o h r d).trans (hf.o h r d))
  rw [e1, e2]
  obtain ⟨σ, hσ⟩ := score_real hq hk h r
  rw [hσ]
  choose v' hv using hv
  choose g' hg using hg
  unfold weightGrad
  simp only [hv, hg]
  exact grad_row r σ (fun d => g' (ix3 h r d)) (fun x d => v' (ix3 h x d)) x

end

end Cert.Attn

end
-- ==== Proof.Host.lean ====
module

public import proofs.«01_k».proof.Proof.Frame
public import proofs.«01_k».proof.Proof.Mask
public import Idealize.ShloMosaic.Lib.Pointwise
public import Idealize.ShloMosaic.Lib.Tactic.CleanTypes
public import Idealize.ShloMosaic.PureOps.Ideal

/-!
The forward pass's two arrays the call reads, entry by entry in the arguments: the attention's output and the log-sum-exp.
-/

@[expose] public section

set_option maxRecDepth 16384

noncomputable section

namespace Cert.Attn

open Cert.KernelIdeal Cert.KernelIdeal.Gen
open Idealize.ShloMosaic
open Idealize.ShloMosaic.TcCoe
open scoped BigOperators

variable (m : (ℓ : Loc nD τ sig) → Buf (Elt Ideal) ℓ) (c : Dev nD)

theorem o_host (h : Fin 8) (r : Fin 8192) (d : Fin 64) :
    ((atCall m c main_v21 : Vec Ideal S8x8192x64 .bf16) (ix3 h r d) : EReal)
      = ∑ x, soft r (scoreAt (m ((c.tc : Thread nD τ).loc main_arg0)) (m ((c.tc : Thread nD τ).loc main_arg1)) h r) x
          * (m ((c.tc : Thread nD τ).loc main_arg2) : Vec Ideal S8x8192x64 .bf16) (ix3 h x d) := by
  unfold atCall hostOps0
  after_results_simp
  clean_types
  pointwise
  simp only [mask_apply, bot_bits]
  rw [show m ((c.tc : Thread nD τ).loc main_arg0) = m (c, Proc.tc.devRef main_arg0) from rfl,
    show m ((c.tc : Thread nD τ).loc main_arg1) = m (c, Proc.tc.devRef main_arg1) from rfl,
    show m ((c.tc : Thread nD τ).loc main_arg2) = m (c, Proc.tc.devRef main_arg2) from rfl]
  generalize m (c, Proc.tc.devRef main_arg0) = q, m (c, Proc.tc.devRef main_arg1) = k, m (c, Proc.tc.devRef main_arg2) = v
  exact Finset.sum_congr rfl fun x _ => congrArg (fun a : EReal => (a * (v (ix3 h x d) : EReal) : EReal)) (soft_congr r (s := fun x => if x.val ≤ r.val then scoreAt q k h r x else (⊥ : EReal)) (σ := scoreAt q k h r) (fun _ => rfl) x)

theorem add_log (A B : FVec Ideal S8x8192 .f32) (h : Fin 8) (r : Fin 8192) (z : Fin 1) :
    ((addf (broadcastInDim S8x8192x1 ![0, 1] bcast_S8x8192_S8x8192x1_0_1 A)
        (Host.log (broadcastInDim S8x8192x1 ![0, 1] bcast_S8x8192_S8x8192x1_0_1 B)) : FVec Ideal S8x8192x1 .f32) (ix3 h r z) : EReal)
      = (A (ix2 h r) : EReal) + Ideal.log (B (ix2 h r)) := by
  pointwise

theorem l_host (h : Fin 8) (r : Fin 8192) :
    ((atCall m c main_v23 : Vec Ideal S8x8192x1 .f32) (ix3 h r (0 : Fin 1)) : EReal)
      = rowMax r (scoreAt (m ((c.tc : Thread nD τ).loc main_arg0)) (m ((c.tc : Thread nD τ).loc main_arg1)) h r)
        + Ideal.log (rowSum r (scoreAt (m ((c.tc : Thread nD τ).loc main_arg0)) (m ((c.tc : Thread nD τ).loc main_arg1)) h r)) := by
  unfold atCall hostOps0
  after_results_simp
  clean_types
  refine (add_log _ _ h r 0).trans ?_
  rw [show m ((c.tc : Thread nD τ).loc main_arg0) = m (c, Proc.tc.devRef main_arg0) from rfl,
    show m ((c.tc : Thread nD τ).loc main_arg1) = m (c, Proc.tc.devRef main_arg1) from rfl]
  generalize m (c, Proc.tc.devRef main_arg0) = q, m (c, Proc.tc.devRef main_arg1) = k
  refine congrArg₂ (fun a b : EReal => a + Ideal.log b) ?_ ?_
  · pointwise
    simp only [mask_apply, bot_bits]
    exact rowMax_congr r (s := fun x => if x.val ≤ r.val then scoreAt q k h r x else (⊥ : EReal)) (σ := scoreAt q k h r) (fun _ => rfl)
  · pointwise
    simp only [mask_apply, bot_bits]
    exact rowSum_congr r (s := fun x => if x.val ≤ r.val then scoreAt q k h r x else (⊥ : EReal)) (σ := scoreAt q k h r) (fun _ => rfl)

end Cert.Attn

end
-- ==== Proof.Ref.lean ====
module

public import proofs.«01_k».proof.Proof.Mask
public import proofs.«01_k».proof.Proof.Gen.ReferenceIdeal.Run
public import Idealize.ShloMosaic.Lib.Pointwise
public import Idealize.ShloMosaic.Lib.Tactic.CleanTypes

/-!
The reference's three results, entry by entry in the arguments. The reference's terms are cut into the arrays they are made
of (the mask, the masked scores, each row's maximum, the exponentials, the normalisers, the scores' gradients), each read
at an entry from the arrays before it.
-/

@[expose] public section

set_option maxRecDepth 16384

noncomputable section

namespace Cert.AttnRef

open Cert.ReferenceIdeal Cert.ReferenceIdeal.Gen Cert.ReferenceIdeal.Value
open Idealize.ShloMosaic
open Idealize.ShloMosaic.TcCoe
open Cert.Attn (mask_apply bot_bits soft softGrad rowMax rowExp rowSum sc rowExp_congr rowSum_congr scoreAt weightGrad)
open scoped BigOperators

/-- The causal mask. -/
def mask : IVec S8x8192x8192 1 := broadcastInDim S8x8192x8192 ![0, 1, 2] bcast_S1x8192x8192_S8x8192x8192_0_1_2 (cmpi .sle (broadcastInDim S1x8192x8192 ![0, 1, 2] bcast_S1x1x8192_S1x8192x8192_0_1_2 (broadcastInDim S1x1x8192 ![2] bcast_S8192_S1x1x8192_2 (iotaInDim S8192 32 0))) (broadcastInDim S1x8192x8192 ![0, 1, 2] bcast_S1x8192x1_S1x8192x8192_0_1_2 (broadcastInDim S1x8192x1 ![1] bcast_S8192_S1x8192x1_1 (iotaInDim S8192 32 0))))
/-- The masked scores. -/
def scores (q k : FVec Ideal S8x8192x96 .bf16) : FVec Ideal S8x8192x8192 .f32 :=
  select mask (Host.dotGeneral dot_S8x8192x96_S8x8192x96_S8x8192x8192_2_2_1_1_0_0 none (extf .f32 q bitsLt_bf16_f32) (extf .f32 k bitsLt_bf16_f32)) (broadcastInDim S8x8192x8192 ![] bcast_S_S8x8192x8192 (id (constant S_ .f32 0xFF800000#32)))
/-- The rows' maxima, and the same bounded below. -/
def maxes (S : FVec Ideal S8x8192x8192 .f32) : FVec Ideal S8x8192 .f32 :=
  Host.reduce FloatOps.maximumf S (constant S_ .f32 0xFF800000#32) reducesTo_S8x8192x8192_S8x8192_d2 h_S_
def tops (M : FVec Ideal S8x8192 .f32) : FVec Ideal S8x8192 .f32 :=
  maximumf (broadcastInDim S8x8192 ![] bcast_S_S8x8192 (constant S_ .f32 0xFF800000#32)) M
/-- The exponentials below the maxima. -/
def exps (S : FVec Ideal S8x8192x8192 .f32) (T : FVec Ideal S8x8192 .f32) : FVec Ideal S8x8192x8192 .f32 :=
  Host.exp (subf S (broadcastInDim S8x8192x8192 ![0, 1, 2] bcast_S8x8192x1_S8x8192x8192_0_1_2 (broadcastInDim S8x8192x1 ![0, 1] bcast_S8x8192_S8x8192x1_0_1 T)))
/-- The rows' normalisers. -/
def norms (E : FVec Ideal S8x8192x8192 .f32) : FVec Ideal S8x8192 .f32 :=
  Host.reduceAdd E (constant S_ .f32 0x00000000#32) reducesTo_S8x8192x8192_S8x8192_d2 h_S_
/-- The gradients of the weights. -/
def weightGrads (g v : FVec Ideal S8x8192x64 .bf16) : FVec Ideal S8x8192x8192 .f32 :=
  Host.dotGeneral dot_S8x8192x64_S8x8192x64_S8x8192x8192_2_2_1_1_0_0 none (extf .f32 g bitsLt_bf16_f32) (extf .f32 v bitsLt_bf16_f32)
/-- The gradients of the scores. -/
def scoreGrads (W E : FVec Ideal S8x8192x8192 .f32) (L : FVec Ideal S8x8192 .f32) : FVec Ideal S8x8192x8192 .f32 :=
  select mask (mulf (addf (Host.divf W (broadcastInDim S8x8192x8192 ![0, 1, 2] bcast_S8x8192x1_S8x8192x8192_0_1_2 (broadcastInDim S8x8192x1 ![0, 1] bcast_S8x8192_S8x8192x1_0_1 L))) (broadcastInDim S8x8192x8192 ![0, 1] bcast_S8x8192_S8x8192x8192_0_1 (Host.reduceAdd (Host.negf (shapeCast S8x8192x1 (Host.reduceAdd (mulf (mulf W (broadcastInDim S8x8192x8192 ![0, 1, 2] bcast_S8x8192x1_S8x8192x8192_0_1_2 (Host.divf (broadcastInDim S8x8192x1 ![] bcast_S_S8x8192x1 (constant S_ .f32 0x3F800000#32)) (mulf (broadcastInDim S8x8192x1 ![0, 1] bcast_S8x8192_S8x8192x1_0_1 L) (broadcastInDim S8x8192x1 ![0, 1] bcast_S8x8192_S8x8192x1_0_1 L))))) E) (constant S_ .f32 0x00000000#32) reducesTo_S8x8192x8192_S8x8192_d2 h_S_) shapeCasts_S8x8192_S8x8192x1)) (constant S_ .f32 0x00000000#32) reducesTo_S8x8192x1_S8x8192_d2 h_S_))) E) (broadcastInDim S8x8192x8192 ![] bcast_S_S8x8192x8192 (constant S_ .f32 0x00000000#32))
/-- The gradients of the values. -/
def valueGrads (g : FVec Ideal S8x8192x64 .bf16) (E : FVec Ideal S8x8192x8192 .f32) (L : FVec Ideal S8x8192 .f32) : FVec Ideal S8x8192x64 .bf16 :=
  truncf .bf16 (transpose S8x8192x64 [0, 2, 1] (Host.dotGeneral dot_S8x8192x64_S8x8192x8192_S8x64x8192_1_1_2_2_0_0 none (extf .f32 g bitsLt_bf16_f32) (Host.divf E (broadcastInDim S8x8192x8192 ![0, 1, 2] bcast_S8x8192x1_S8x8192x8192_0_1_2 (broadcastInDim S8x8192x1 ![0, 1] bcast_S8x8192_S8x8192x1_0_1 L)))) transposes_S8x64x8192_S8x8192x64_0_2_1) bitsLt_bf16_f32
/-- The gradients of the keys. -/
def keyGrads (D : FVec Ideal S8x8192x8192 .f32) (q : FVec Ideal S8x8192x96 .bf16) : FVec Ideal S8x8192x96 .bf16 :=
  truncf .bf16 (Host.dotGeneral dot_S8x8192x8192_S8x8192x96_S8x8192x96_1_1_2_2_0_0 none D (extf .f32 q bitsLt_bf16_f32)) bitsLt_bf16_f32
/-- The gradients of the queries. -/
def queryGrads (D : FVec Ideal S8x8192x8192 .f32) (k : FVec Ideal S8x8192x96 .bf16) : FVec Ideal S8x8192x96 .bf16 :=
  truncf .bf16 (Host.dotGeneral dot_S8x8192x8192_S8x8192x96_S8x8192x96_2_1_1_2_0_0 none D (extf .f32 k bitsLt_bf16_f32)) bitsLt_bf16_f32

theorem bot_const : id (constant (F := Ideal) S_ FTy.f32 4286578688#32) ix0 = (⊥ : EReal) := bot_bits

theorem mask_at (h : Fin 8) (r x : Fin 8192) : mask (ix3 h r x) = IntOp.cmpi .sle (BitVec.ofNat 32 x.val) (BitVec.ofNat 32 r.val) := by
  unfold mask
  pointwise

theorem scores_at (q k : FVec Ideal S8x8192x96 .bf16) (h : Fin 8) (r x : Fin 8192) :
    (scores q k (ix3 h r x) : EReal) = sc r (scoreAt q k h r) x := by
  unfold scores sc scoreAt
  pointwise
  rw [mask_at, mask_apply, bot_const]

theorem maxes_at (S : FVec Ideal S8x8192x8192 .f32) (h : Fin 8) (r : Fin 8192) :
    (maxes S (ix2 h r) : EReal) = Finset.univ.fold max (⊥ : EReal) (fun x => (S (ix3 h r x) : EReal)) := by
  unfold maxes
  pointwise
  simp only [bot_bits]

theorem tops_at (M : FVec Ideal S8x8192 .f32) (h : Fin 8) (r : Fin 8192) : (tops M (ix2 h r) : EReal) = M (ix2 h r) := by
  unfold tops
  pointwise
  rw [bot_bits]
  exact max_eq_right bot_le

theorem exps_at (S : FVec Ideal S8x8192x8192 .f32) (T : FVec Ideal S8x8192 .f32) (h : Fin 8) (r x : Fin 8192) :
    (exps S T (ix3 h r x) : EReal) = Ideal.exp (S (ix3 h r x) - T (ix2 h r)) := by
  unfold exps
  pointwise

theorem norms_at (E : FVec Ideal S8x8192x8192 .f32) (h : Fin 8) (r : Fin 8192) :
    (norms E (ix2 h r) : EReal) = ∑ x, (E (ix3 h r x) : EReal) := by
  unfold norms
  pointwise

theorem weightGrads_at (g v : FVec Ideal S8x8192x64 .bf16) (h : Fin 8) (r x : Fin 8192) :
    (weightGrads g v (ix3 h r x) : EReal) = weightGrad g v h r x := by
  unfold weightGrads weightGrad
  pointwise

theorem scoreGrads_at (W E : FVec Ideal S8x8192x8192 .f32) (L : FVec Ideal S8x8192 .f32) (h : Fin 8) (r x : Fin 8192) :
    (scoreGrads W E L (ix3 h r x) : EReal) = if x.val ≤ r.val then
      (Ideal.div (W (ix3 h r x)) (L (ix2 h r)) + -∑ y, (W (ix3 h r y) * Ideal.div 1 (L (ix2 h r) * L (ix2 h r)) * E (ix3 h r y) : EReal)) * E (ix3 h r x) else 0 := by
  unfold scoreGrads
  pointwise
  rw [mask_at, mask_apply]
  simp only [Fin.sum_univ_one]

theorem valueGrads_at (g : FVec Ideal S8x8192x64 .bf16) (E : FVec Ideal S8x8192x8192 .f32) (L : FVec Ideal S8x8192 .f32) (h : Fin 8) (x : Fin 8192) (d : Fin 64) :
    (valueGrads g E L (ix3 h x d) : EReal) = ∑ r, (g (ix3 h r d) * Ideal.div (E (ix3 h r x)) (L (ix2 h r)) : EReal) := by
  unfold valueGrads
  pointwise

theorem keyGrads_at (D : FVec Ideal S8x8192x8192 .f32) (q : FVec Ideal S8x8192x96 .bf16) (h : Fin 8) (x : Fin 8192) (d : Fin 96) :
    (keyGrads D q (ix3 h x d) : EReal) = ∑ r, (D (ix3 h r x) * q (ix3 h r d) : EReal) := by
  unfold keyGrads
  pointwise

theorem queryGrads_at (D : FVec Ideal S8x8192x8192 .f32) (k : FVec Ideal S8x8192x96 .bf16) (h : Fin 8) (r : Fin 8192) (d : Fin 96) :
    (queryGrads D k (ix3 h r d) : EReal) = ∑ x, (D (ix3 h r x) * k (ix3 h x d) : EReal) := by
  unfold queryGrads
  pointwise

section

variable (q k : FVec Ideal S8x8192x96 .bf16) (v g : FVec Ideal S8x8192x64 .bf16)

/-- The exponentials and normalisers of the scores. -/
def expsOf : FVec Ideal S8x8192x8192 .f32 := exps (scores q k) (tops (maxes (scores q k)))
def normsOf : FVec Ideal S8x8192 .f32 := norms (expsOf q k)
/-- The gradients of the scores. -/
def gradsOf : FVec Ideal S8x8192x8192 .f32 := scoreGrads (weightGrads g v) (expsOf q k) (normsOf q k)

theorem expsOf_at (h : Fin 8) (r x : Fin 8192) : (expsOf q k (ix3 h r x) : EReal) = rowExp r (scoreAt q k h r) x := by
  unfold expsOf
  rw [exps_at, tops_at, maxes_at]
  exact rowExp_congr r (s := fun x => (scores q k (ix3 h r x) : EReal)) (fun x => scores_at q k h r x) x

theorem normsOf_at (h : Fin 8) (r : Fin 8192) : (normsOf q k (ix2 h r) : EReal) = rowSum r (scoreAt q k h r) := by
  unfold normsOf
  rw [norms_at]
  exact Finset.sum_congr rfl fun x _ => expsOf_at q k h r x

theorem gradsOf_at (h : Fin 8) (r x : Fin 8192) :
    (gradsOf q k v g (ix3 h r x) : EReal) = softGrad r (scoreAt q k h r) (weightGrad g v h r) x := by
  unfold gradsOf softGrad
  rw [scoreGrads_at]
  simp only [expsOf_at, normsOf_at, weightGrads_at]

end

variable (m : (ℓ : Loc nD τ sig) → Buf (Elt Ideal) ℓ) (c : Dev nD)

/-- The arguments. -/
abbrev argQ : FVec Ideal S8x8192x96 .bf16 := m ((c.tc : Thread nD τ).loc main_arg0)
abbrev argK : FVec Ideal S8x8192x96 .bf16 := m ((c.tc : Thread nD τ).loc main_arg1)
abbrev argV : FVec Ideal S8x8192x64 .bf16 := m ((c.tc : Thread nD τ).loc main_arg2)
abbrev argG : FVec Ideal S8x8192x64 .bf16 := m ((c.tc : Thread nD τ).loc main_arg3)

theorem dv_eq : res_main_v61 (F := Ideal) m c = valueGrads (argG m c) (expsOf (argQ m c) (argK m c)) (normsOf (argQ m c) (argK m c)) := rfl
theorem dk_eq : res_main_v60 (F := Ideal) m c = keyGrads (gradsOf (argQ m c) (argK m c) (argV m c) (argG m c)) (argQ m c) := rfl
theorem dq_eq : res_main_v59 (F := Ideal) m c = queryGrads (gradsOf (argQ m c) (argK m c) (argV m c) (argG m c)) (argK m c) := rfl

end Cert.AttnRef

end
-- ==== Proof.Finite.lean ====
module

public import proofs.«01_k».proof.Pre_finite
public import Idealize.ShloMosaic.Lib.Pointwise
public import Idealize.ShloMosaic.Lib.ReduceAll
public import Idealize.ShloMosaic.PureOps.Ideal

/-!
The precondition, read entry by entry: every entry of the four arguments is a real number.
-/

@[expose] public section

noncomputable section

namespace Cert.AttnPre

open Idealize.ShloMosaic
open Cert.Pre_finite

theorem facts : Cert.Pre_finite.Facts where
  bitsLt_bf16_f32 := by decide
  bcast_S_S8x8192x96 := by decide
  reducesTo_S8x8192x96_S_d0_1_2 := by decide
  h_S_ := by decide
  bcast_S_S8x8192x64 := by decide
  reducesTo_S8x8192x64_S_d0_1_2 := by decide

attribute [local instance] facts

theorem top_bits : (Ideal.ofBits .f32 0x7F800000#32 : EReal) = ⊤ := by
  simp [Ideal.ofBits, Ideal.ieee]

theorem real_of (x : EReal) (h : FloatOps.cmpf (F := Ideal) (φ := .f32) .olt (FloatOps.absf x) (Ideal.ofBits .f32 0x7F800000#32) = 1#1) : ∃ y : ℝ, x = y := by
  rw [top_bits] at h
  have hlt : max x (-x) < ⊤ := by
    by_contra hn
    have h0 : Ideal.cmp .olt (max x (-x)) ⊤ = 1#1 := h
    simp [Ideal.cmp, hn] at h0
  refine ⟨x.toReal, (EReal.coe_toReal (lt_of_le_of_lt (le_max_left _ _) hlt).ne ?_).symm⟩
  rintro rfl
  exact absurd (lt_of_le_of_lt (le_max_right _ _) hlt) (by simp)

theorem and_split (x y : IVec S_ 1) (h : andi x y ix0 = 1#1) : x ix0 = 1#1 ∧ y ix0 = 1#1 := by
  have h' : IntOp.andi (x ix0) (y ix0) = 1#1 := h
  generalize x ix0 = a at *
  generalize y ix0 = b at *
  revert a b
  decide

theorem reads (q k : FVec Ideal S8x8192x96 .bf16) (v g : FVec Ideal S8x8192x64 .bf16) (h : fn q k v g = fun _ => 1#1) :
    ((∀ i, ∃ x : ℝ, (q i : EReal) = x) ∧ ∀ i, ∃ x : ℝ, (k i : EReal) = x) ∧ (∀ i, ∃ x : ℝ, (v i : EReal) = x) ∧ ∀ i, ∃ x : ℝ, (g i : EReal) = x := by
  have h0 := congrFun h ix0
  dsimp only [fn, fn_part1] at h0
  obtain ⟨h1, hg⟩ := and_split _ _ h0
  obtain ⟨h2, hv⟩ := and_split _ _ h1
  obtain ⟨hq, hk⟩ := and_split _ _ h2
  refine ⟨⟨fun i => ?_, fun i => ?_⟩, fun i => ?_, fun i => ?_⟩
  · exact real_of _ (Host.reduce_andi_all _ _ _ _ ix0 hq i)
  · exact real_of _ (Host.reduce_andi_all _ _ _ _ ix0 hk i)
  · exact real_of _ (Host.reduce_andi_all _ _ _ _ ix0 hv i)
  · exact real_of _ (Host.reduce_andi_all _ _ _ _ ix0 hg i)

end Cert.AttnPre

end
-- ==== Proof.Value.lean ====
module

public import proofs.«01_k».proof.Defs
public import proofs.«01_k».proof.Proof.Soft
public import proofs.«01_k».proof.Proof.Host
public import proofs.«01_k».proof.Proof.Ref
public import proofs.«01_k».proof.Proof.Finite

/-!
The call's three results are the reference's.
-/

@[expose] public section

set_option maxRecDepth 16384

noncomputable section

namespace Cert.AttnValue

open Idealize.ShloMosaic
open Idealize.ShloMosaic.TcCoe
open Cert.Attn (headOf Head scoreAt weightGrad soft softGrad Forward head_p head_ds at3_eq dqOut dkOut dvOut)
open Cert.AttnRef (valueGrads keyGrads queryGrads expsOf normsOf gradsOf)
open scoped BigOperators

section

open Cert.KernelIdeal

variable {q k : FVec Ideal S8x8192x96 .bf16} {v o g : FVec Ideal S8x8192x64 .bf16} {l : FVec Ideal S8x8192x1 .f32}
variable (hq : ∀ i, ∃ x : ℝ, (q i : EReal) = x) (hk : ∀ i, ∃ x : ℝ, (k i : EReal) = x) (hf : Forward q k v o l)

include hq hk hf

theorem dv_at (h : Fin 8) (x : Fin 8192) (d : Fin 64) :
    (headOf q k v o g l h.val).dvTo 8192 x.val d.val = valueGrads g (expsOf q k) (normsOf q k) (ix3 h x d) := by
  rw [Cert.AttnRef.valueGrads_at]
  unfold Head.dvTo
  rw [Finset.sum_range]
  refine Finset.sum_congr rfl fun r _ => ?_
  rw [head_p hq hk hf, Cert.AttnRef.expsOf_at, Cert.AttnRef.normsOf_at, mul_comm]
  exact congrArg (fun a : EReal => a * soft r (scoreAt q k h r) x) (at3_eq (n0 := 8) (n1 := 8192) (n2 := 64) g h r d)

variable (hv : ∀ i, ∃ x : ℝ, (v i : EReal) = x) (hg : ∀ i, ∃ x : ℝ, (g i : EReal) = x)

include hv hg

theorem dk_at (h : Fin 8) (x : Fin 8192) (d : Fin 96) :
    (headOf q k v o g l h.val).dkTo 8192 x.val d.val = keyGrads (gradsOf q k v g) q (ix3 h x d) := by
  rw [Cert.AttnRef.keyGrads_at]
  unfold Head.dkTo
  rw [Finset.sum_range]
  refine Finset.sum_congr rfl fun r _ => ?_
  rw [head_ds hq hk hf hv hg, Cert.AttnRef.gradsOf_at]
  exact congrArg (fun a : EReal => softGrad r (scoreAt q k h r) (weightGrad g v h r) x * a) (at3_eq (n0 := 8) (n1 := 8192) (n2 := 96) q h r d)

theorem dq_at (h : Fin 8) (r : Fin 8192) (d : Fin 96) :
    (headOf q k v o g l h.val).dqTo 8192 r.val d.val = queryGrads (gradsOf q k v g) k (ix3 h r d) := by
  rw [Cert.AttnRef.queryGrads_at]
  unfold Head.dqTo
  rw [Finset.sum_range]
  refine Finset.sum_congr rfl fun x _ => ?_
  rw [head_ds hq hk hf hv hg, Cert.AttnRef.gradsOf_at]
  exact congrArg (fun a : EReal => softGrad r (scoreAt q k h r) (weightGrad g v h r) x * a) (at3_eq (n0 := 8) (n1 := 8192) (n2 := 96) k h x d)

end

theorem at_ix3 {n0 n1 n2 : ℕ} {f f' : (⟨3, ![n0, n1, n2]⟩ : Shape).Idx → EReal}
    (h : ∀ (a : Fin n0) (b : Fin n1) (c : Fin n2), f (ix3 a b c) = f' (ix3 a b c)) : f = f' := by
  funext i
  have e : i = ix3 ⟨(i 0).val, (i 0).isLt⟩ ⟨(i 1).val, (i 1).isLt⟩ ⟨(i 2).val, (i 2).isLt⟩ := Cert.Attn.ext3 rfl rfl rfl
  rw [e]
  exact h _ _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The kernel's arguments. -/
abbrev kq : FVec Ideal Cert.KernelIdeal.S8x8192x96 .bf16 := m ((c.tc : Thread Cert.KernelIdeal.nD Cert.KernelIdeal.τ).loc Cert.KernelIdeal.main_arg0)
abbrev kk : FVec Ideal Cert.KernelIdeal.S8x8192x96 .bf16 := m ((c.tc : Thread Cert.KernelIdeal.nD Cert.KernelIdeal.τ).loc Cert.KernelIdeal.main_arg1)
abbrev kv : FVec Ideal Cert.KernelIdeal.S8x8192x64 .bf16 := m ((c.tc : Thread Cert.KernelIdeal.nD Cert.KernelIdeal.τ).loc Cert.KernelIdeal.main_arg2)
abbrev kg : FVec Ideal Cert.KernelIdeal.S8x8192x64 .bf16 := m ((c.tc : Thread Cert.KernelIdeal.nD Cert.KernelIdeal.τ).loc Cert.KernelIdeal.main_arg3)
/-- The two arrays of the forward pass. -/
abbrev ko : FVec Ideal Cert.KernelIdeal.S8x8192x64 .bf16 := Cert.Attn.atCall m c Cert.KernelIdeal.main_v21
abbrev kl : FVec Ideal Cert.KernelIdeal.S8x8192x1 .f32 := Cert.Attn.atCall m c Cert.KernelIdeal.main_v23

theorem forward : Forward (kq m c) (kk m c) (kv m c) (ko m c) (kl m c) :=
  ⟨fun h r d => Cert.Attn.o_host m c h r d, fun h r => Cert.Attn.l_host m c h r⟩

/-- What the call reads, at the arguments. -/
theorem head_at (h : ℕ) : Cert.Attn.headAt (Cert.Attn.atCall m) c h = headOf (kq m c) (kk m c) (kv m c) (ko m c) (kg m c) (kl m c) h := by
  unfold Cert.Attn.headAt
  rw [Cert.Attn.atCall_keep m c (r := Cert.KernelIdeal.main_arg0) (by decide), Cert.Attn.atCall_keep m c (r := Cert.KernelIdeal.main_arg1) (by decide),
    Cert.Attn.atCall_keep m c (r := Cert.KernelIdeal.main_arg2) (by decide), Cert.Attn.atCall_keep m c (r := Cert.KernelIdeal.main_arg3) (by decide)]

/-- The two programs' arguments are the same. -/
structure Same : Prop where
  q : m' ((c.tc : Thread Cert.ReferenceIdeal.nD Cert.ReferenceIdeal.τ).loc Cert.ReferenceIdeal.main_arg0) = kq m c
  k : m' ((c.tc : Thread Cert.ReferenceIdeal.nD Cert.ReferenceIdeal.τ).loc Cert.ReferenceIdeal.main_arg1) = kk m c
  v : m' ((c.tc : Thread Cert.ReferenceIdeal.nD Cert.ReferenceIdeal.τ).loc Cert.ReferenceIdeal.main_arg2) = kv m c
  g : m' ((c.tc : Thread Cert.ReferenceIdeal.nD Cert.ReferenceIdeal.τ).loc Cert.ReferenceIdeal.main_arg3) = kg m c

attribute [local instance] Cert.AttnPre.facts

variable {m m' c} (hs : Same m m' c) (hp : Cert.Pre_finite.fn (F := Ideal) (kq m c) (kk m c) (kv m c) (kg m c) = fun _ => 1#1)

include hs hp

theorem dq_value : Cert.Attn.outDq m c = Cert.ReferenceIdeal.Value.res_main_v59 (F := Ideal) m' c := by
  obtain ⟨⟨hq, hk⟩, hv, hg⟩ := Cert.AttnPre.reads _ _ _ _ hp
  rw [Cert.AttnRef.dq_eq, Cert.AttnRef.argQ, Cert.AttnRef.argK, Cert.AttnRef.argV, Cert.AttnRef.argG, hs.q, hs.k, hs.v, hs.g]
  refine (Cert.Attn.dq_final (Cert.Attn.atCall m) c).trans ?_
  refine at_ix3 (n0 := 8) (n1 := 8192) (n2 := 96) fun h r d => ?_
  refine Eq.trans ?_ (dq_at hq hk (forward m c) hv hg h r d)
  exact congrArg (fun H : Head => H.dqTo 8192 r.val d.val) (head_at m c h.val)

theorem dk_value : Cert.Attn.outDk m c = Cert.ReferenceIdeal.Value.res_main_v60 (F := Ideal) m' c := by
  obtain ⟨⟨hq, hk⟩, hv, hg⟩ := Cert.AttnPre.reads _ _ _ _ hp
  rw [Cert.AttnRef.dk_eq, Cert.AttnRef.argQ, Cert.AttnRef.argK, Cert.AttnRef.argV, Cert.AttnRef.argG, hs.q, hs.k, hs.v, hs.g]
  refine (Cert.Attn.dk_final (Cert.Attn.atCall m) c).trans ?_
  refine at_ix3 (n0 := 8) (n1 := 8192) (n2 := 96) fun h x d => ?_
  refine Eq.trans ?_ (dk_at hq hk (forward m c) hv hg h x d)
  exact congrArg (fun H : Head => H.dkTo 8192 x.val d.val) (head_at m c h.val)

theorem dv_value : Cert.Attn.outDv m c = Cert.ReferenceIdeal.Value.res_main_v61 (F := Ideal) m' c := by
  obtain ⟨⟨hq, hk⟩, hv, hg⟩ := Cert.AttnPre.reads _ _ _ _ hp
  rw [Cert.AttnRef.dv_eq, Cert.AttnRef.argQ, Cert.AttnRef.argK, Cert.AttnRef.argG, hs.q, hs.k, hs.g]
  refine (Cert.Attn.dv_final (Cert.Attn.atCall m) c).trans ?_
  refine at_ix3 (n0 := 8) (n1 := 8192) (n2 := 64) fun h x d => ?_
  refine Eq.trans ?_ (dv_at hq hk (forward m c) h x d)
  exact congrArg (fun H : Head => H.dvTo 8192 x.val d.val) (head_at m c h.val)

end Cert.AttnValue

end
-- ==== Proof.UpWeight.lean ====
/- The gradient of the weight of the channel mixer's first products: the kernel adds, over eight blocks of 1024 rows, the products of
   the block's columns, and the result is the sum over all 8192 rows, which is what the reference's single product is. -/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.UpWeight

open Idealize.ShloMosaic Idealize.ShloMosaic.TcCoe Idealize.SL.Sem Idealize.ShloMosaic.Pointwise
open Cert.Kernel2Ideal Cert.Kernel2Ideal.Gen

variable (m : (ℓ : Loc nD τ sig) → Buf (Elt Ideal) ℓ)

/-- The product of two blocks' columns at one place: the sum over the block's rows. -/
def part (x : Vec Ideal S1024x1024 .bf16) (g : Vec Ideal S1024x1408 .bf16) (j : S1024x1408.Idx) : EReal :=
  ∑ k : Fin 1024, x (ix2 k (j 0)) * g (ix2 k (j 1))

/-- One step adds the product of the point's blocks to what the accumulator held. -/
theorem step (acc : Vec Ideal S1024x1408 .f32) (x : Vec Ideal S1024x1024 .bf16) (g : Vec Ideal S1024x1408 .bf16) (j : S1024x1408.Idx) :
    k0_pay2 acc x g j = acc j + part x g j := by
  unfold k0_pay2 part
  clean_types
  pointwise

/-- The block that a run's first point starts from is zero. -/
theorem zero (j : S1024x1408.Idx) : k0_pay1 (F := Ideal) j = 0 := by
  unfold k0_pay1
  clean_types
  pointwise

/-- What the accumulator holds at the last point of a run: the sum of the run's eight products. -/
theorem carried (c : Dev nD) (t : Fin cfg0.N) (ht : t.val % 8 = 8 - 1) (j : S1024x1408.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases h7 : t.val % 8 = 7
      · rw [outsAt0_C m c t h h7]
        frame_out
        simp only [read_unread_whole]
        rw [step]
      · rw [outsAt0_B m c t h h7]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x1024 .bf16) (g : Vec Ideal S8192x5632 .bf16) : Vec Ideal S1024x5632 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The result array after the run is the gradient. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 32 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.UpWeight

namespace Cert.UpWeight.Reference

open Idealize.ShloMosaic Idealize.ShloMosaic.TcCoe Idealize.ShloMosaic.Pointwise
open Cert.Reference2Ideal Cert.Reference2Ideal.Gen

/-- The reference's one product is the gradient. -/
theorem eq_grad (x : Vec Ideal S8192x1024 .bf16) (g : Vec Ideal S8192x5632 .bf16) :
    transpose S1024x5632 [1, 0] (Host.dotGeneral (F := Ideal) dot_S8192x5632_S8192x1024_S5632x1024_0_0_1_1_n_n none (extf .f32 g bitsLt_bf16_f32)
      (extf .f32 x bitsLt_bf16_f32)) transposes_S5632x1024_S1024x5632_1_0 = Cert.UpWeight.grad x g := by
  funext i
  unfold Cert.UpWeight.grad
  clean_types
  pointwise
  exact Finset.sum_congr rfl fun k _ => mul_comm _ _

end Cert.UpWeight.Reference

end
-- ==== Proof.UpInput.lean ====
/- The gradient of the channel mixer's input: the kernel adds, over four blocks of 1408 columns, the products with the weight's rows, and
   at the end the residual's gradient times its factor; the reference takes the whole product at once. -/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.UpInput

open Idealize.ShloMosaic Idealize.ShloMosaic.TcCoe Idealize.SL.Sem Idealize.ShloMosaic.Pointwise
open Cert.Kernel3Ideal Cert.Kernel3Ideal.Gen

variable (m : (ℓ : Loc nD τ sig) → Buf (Elt Ideal) ℓ)

/-- The product of two blocks at one place. -/
def part (x : Vec Ideal S1024x1408 .bf16) (w : Vec Ideal S1024x1408 .bf16) (j : S1024x1024.Idx) : EReal :=
  ∑ k : Fin 1408, x (ix2 (j 0) k) * w (ix2 (j 1) k)

/-- One step adds the product of the point's blocks to what the accumulator held. -/
theorem step (acc : Vec Ideal S1024x1024 .f32) (x : Vec Ideal S1024x1408 .bf16) (w : Vec Ideal S1024x1408 .bf16) (j : S1024x1024.Idx) :
    k0_pay2 acc x w j = acc j + part x w j := by
  unfold k0_pay2 part
  clean_types
  pointwise

/-- The block that a run's first point starts from is zero. -/
theorem zero (j : S1024x1024.Idx) : k0_pay1 (F := Ideal) j = 0 := by
  unfold k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What the accumulator holds at the last point of a run: the sum of the run's products. -/
theorem carried (c : Dev nD) (t : Fin cfg0.N) (ht : t.val % 4 = 4 - 1) (j : S1024x1024.Idx) :
    (outsAt0 m c t.val t.isLt).2 j = ∑ s : Fin 4, part (iblk m c 0 ⟨4 * (t.val / 4) + s.val, Pipeline.run_point_lt_of_flush t ht s⟩)
      (iblk m c 1 ⟨4 * (t.val / 4) + s.val, Pipeline.run_point_lt_of_flush t ht s⟩) j := by
  rw [Pipeline.eq_sum_fin_of_reset_step_apply_of_flush (fun n h => (outsAt0 m c n h).2) 4 (fun _ => (0 : EReal))
    (fun t j => part (iblk m c 0 t) (iblk m c 1 t) j)
    (fun t h j => by
      rw [outsAt0_A m c t h (by omega)]
      frame_out
      rw [step, zero])
    (fun t h j => by
      by_cases h3 : t.val % 4 = 3
      · rw [outsAt0_C m c t h h3]
        frame_out
        simp only [read_unread_whole]
        rw [step]
      · rw [outsAt0_B m c t h h3]
        frame_out
        simp only [read_unread_whole]
        rw [step]) t ht j]
  exact zero_add _

/-- What the last point of a run writes back: what its accumulator holds, and the residual branch. -/
theorem written (c : Dev nD) (t : Fin cfg0.N) (ht : t.val % 4 = 3) :
    (outsAt0 m c t.val t.isLt).1 = k0_pay3 (outsAt0 m c t.val t.isLt).2 (iblk m c 2 t) := by
  rw [outsAt0_C m c t (by omega) ht]
  frame_out

/-- The gradient of the input: the product with the weight's rows, and the residual's gradient times its factor. -/
def total (x : Vec Ideal S8192x5632 .bf16) (w : Vec Ideal S1024x5632 .bf16) (d : Vec Ideal S8192x1024 .f32) : Vec Ideal S8192x1024 .f32 :=
  fun i => (∑ k : Fin 5632, x (ix2 (i 0) k) * w (ix2 (i 1) k)) + alpha * d i

/-- Where a point's blocks lie in their arrays. -/
theorem places : ∀ t : Fin cfg0.N, win0_0.index t = ![t.val / 4, t.val % 4] ∧ win0_1.index t = ![0, t.val % 4]
    ∧ win0_2.index t = ![t.val / 4, 0] ∧ win0_3.index t = ![t.val / 4, 0] :=
  (by decide +kernel : ∀ t : Fin grid0.N, _)

/-- The result array after the run. -/
theorem array (c : Dev nD) : (dats m 0 c).arrAt 3 cfg0.N = total (m ((c.tc : Thread nD τ).loc main_arg2))
    (m ((c.tc : Thread nD τ).loc main_arg0)) (m ((c.tc : Thread nD τ).loc main_arg1)) := by
  refine (dats m 0 c).arrAt_eq_of_covers 3 _ (by decide +kernel) fun t hf y => ?_
  have ht : t.val % 4 = 3 := (flush0_3 t).mp hf
  have hN : t.val < 32 := lt_of_lt_of_eq t.isLt N_0
  blk_simp
  rw [after0_3, written m c t ht, last, carried m c t ht]
  unfold part total
  obtain ⟨-, -, e2, e3⟩ := places t
  refine congrArg₂ (· + ·) ?_ (congrArg (alpha * ·) ?_)
  · refine Fin.sum_mul_add_congr fun s k hl => ?_
    obtain ⟨e0, e1, -⟩ := places ⟨4 * (t.val / 4) + s.val, Pipeline.run_point_lt_of_flush t ht s⟩
    congr 1 <;> blk_ext [iblk, V, e0, e1, e3]
  · blk_ext [iblk, V, e2, e3]

end Cert.UpInput

namespace Cert.UpInput.Reference

open Idealize.ShloMosaic Idealize.ShloMosaic.TcCoe Idealize.ShloMosaic.Pointwise
open Cert.Reference3Ideal Cert.Reference3Ideal.Gen

/-- The reference's product and sum are the gradient. -/
theorem eq_total (x : Vec Ideal S8192x5632 .bf16) (w : Vec Ideal S1024x5632 .bf16) (d : Vec Ideal S8192x1024 .f32) :
    addf (Host.dotGeneral (F := Ideal) dot_S8192x5632_S1024x5632_S8192x1024_1_1_0_0_n_n none (extf .f32 x bitsLt_bf16_f32)
      (extf .f32 w bitsLt_bf16_f32)) (mulf (broadcastInDim S8192x1024 ![] bcast_S_S8192x1024 (constant S_ .f32 0x3FD744FD#32)) d) = Cert.UpInput.total x w d := by
  funext i
  unfold Cert.UpInput.total Cert.UpInput.alpha
  clean_types
  pointwise

end Cert.UpInput.Reference

end
-- ==== Proof.DownWeight.lean ====
/- The gradient of the weight of the channel mixer's last product: the kernel adds, over eight blocks of 1024 rows, the products of
   the block's columns, and the result is the sum over all 8192 rows, which is what the reference's single product is. -/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.DownWeight

open Idealize.ShloMosaic Idealize.ShloMosaic.TcCoe Idealize.SL.Sem Idealize.ShloMosaic.Pointwise
open Cert.Kernel4Ideal Cert.Kernel4Ideal.Gen

variable (m : (ℓ : Loc nD τ sig) → Buf (Elt Ideal) ℓ)

/-- The product of two blocks' columns at one place: the sum over the block's rows. -/
def part (x : Vec Ideal S1024x1408 .bf16) (g : Vec Ideal S1024x1024 .f32) (j : S1408x1024.Idx) : EReal :=
  ∑ k : Fin 1024, x (ix2 k (j 0)) * g (ix2 k (j 1))

/-- One step adds the product of the point's blocks to what the accumulator held. -/
theorem step (acc : Vec Ideal S1408x1024 .f32) (x : Vec Ideal S1024x1408 .bf16) (g : Vec Ideal S1024x1024 .f32) (j : S1408x1024.Idx) :
    k0_pay2 acc x g j = acc j + part x g j := by
  unfold k0_pay2 part
  clean_types
  pointwise

/-- The block that a run's first point starts from is zero. -/
theorem zero (j : S1408x1024.Idx) : k0_pay1 (F := Ideal) j = 0 := by
  unfold k0_pay1
  clean_types
  pointwise

/-- What the accumulator holds at the last point of a run: the sum of the run's eight products. -/
theorem carried (c : Dev nD) (t : Fin cfg0.N) (ht : t.val % 8 = 8 - 1) (j : S1408x1024.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases h7 : t.val % 8 = 7
      · rw [outsAt0_C m c t h h7]
        frame_out
        simp only [read_unread_whole]
        rw [step]
      · rw [outsAt0_B m c t h h7]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x2816 .bf16) (g : Vec Ideal S8192x1024 .f32) : Vec Ideal S2816x1024 .f32 :=
  fun i => ∑ k : Fin 8192, x (ix2 k (i 0)) * g (ix2 k (i 1))

/-- Where a point's blocks lie in their arrays. -/
theorem places : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The result array after the run is the gradient. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 16 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.DownWeight

namespace Cert.DownWeight.Reference

open Idealize.ShloMosaic Idealize.ShloMosaic.TcCoe Idealize.ShloMosaic.Pointwise
open Cert.Reference4Ideal Cert.Reference4Ideal.Gen

/-- The reference's one product is the gradient. -/
theorem eq_grad (x : Vec Ideal S8192x2816 .bf16) (g : Vec Ideal S8192x1024 .f32) :
    transpose S2816x1024 [1, 0] (Host.dotGeneral (F := Ideal) dot_S8192x1024_S8192x2816_S1024x2816_0_0_1_1_n_n none (φ₁ := .f32) g
      (extf .f32 x bitsLt_bf16_f32)) transposes_S1024x2816_S2816x1024_1_0 = Cert.DownWeight.grad x g := by
  funext i
  unfold Cert.DownWeight.grad
  clean_types
  pointwise
  exact Finset.sum_congr rfl fun k _ => mul_comm _ _

end Cert.DownWeight.Reference

end
-- ==== Proof.DownInput.lean ====
/- The gradient that the channel mixer's last product passes back to its gate: block by block the product with the weight's rows. -/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.DownInput

open Idealize.ShloMosaic Idealize.ShloMosaic.TcCoe Idealize.SL.Sem Idealize.ShloMosaic.Pointwise
open Cert.Kernel5Ideal Cert.Kernel5Ideal.Gen

variable (m : (ℓ : Loc nD τ sig) → Buf (Elt Ideal) ℓ)

/-- The accumulator after the one step: the product of the point's blocks, over the zero it starts from. -/
theorem step (x : Vec Ideal S1024x1024 .f32) (w : Vec Ideal S1408x1024 .bf16) (j : S1024x1408.Idx) :
    k0_pay3 (k0_pay2 (k0_pay1 (F := Ideal)) x w) j = ∑ k : Fin 1024, x (ix2 (j 0) k) * w (ix2 (j 1) k) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The product with the weight's rows. -/
def product (x : Vec Ideal S8192x1024 .f32) (w : Vec Ideal S2816x1024 .bf16) : Vec Ideal S8192x2816 .bf16 :=
  fun i => ∑ k : Fin 1024, x (ix2 (i 0) k) * w (ix2 (i 1) k)

/-- Where a point's blocks lie in their arrays. -/
theorem places : ∀ t : Fin cfg0.N, win0_0.index t = ![t.val / 2, 0] ∧ win0_1.index t = ![t.val % 2, 0] ∧ win0_2.index t = ![t.val / 2, t.val % 2] :=
  (by decide +kernel : ∀ t : Fin grid0.N, _)

/-- The result array after the run is the product. -/
theorem array (c : Dev nD) : (dats m 0 c).arrAt 2 cfg0.N = product (m ((c.tc : Thread nD τ).loc main_arg1))
    (m ((c.tc : Thread nD τ).loc main_arg0)) := by
  refine (dats m 0 c).arrAt_eq_of_covers 2 _ (by decide +kernel) fun t hf y => ?_
  have hN : t.val < 16 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.DownInput

namespace Cert.DownInput.Reference

open Idealize.ShloMosaic Idealize.ShloMosaic.TcCoe Idealize.ShloMosaic.Pointwise
open Cert.Reference5Ideal Cert.Reference5Ideal.Gen

/-- The reference's product is the same. -/
theorem eq_product (x : Vec Ideal S8192x1024 .f32) (w : Vec Ideal S2816x1024 .bf16) :
    truncf .bf16 (Host.dotGeneral (F := Ideal) dot_S8192x1024_S2816x1024_S8192x2816_1_1_0_0_n_n none (φ₁ := .f32) x (extf .f32 w bitsLt_bf16_f32)) bitsLt_bf16_f32 = Cert.DownInput.product x w := by
  funext i
  unfold Cert.DownInput.product
  clean_types
  pointwise

end Cert.DownInput.Reference

end
-- ==== Proof.Gate.lean ====
/- The gradient that the channel mixer's gate passes back to its two first products: the kernel joins the two halves by adding each, filled
   out with zeros, and the reference sets them side by side. -/
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.Gate

open Idealize.ShloMosaic Idealize.ShloMosaic.TcCoe Idealize.SL.Sem Idealize.ShloMosaic.Pointwise
open Cert.Kernel6Ideal Cert.Kernel6Ideal.Gen

variable (m : (ℓ : Loc nD τ sig) → Buf (Elt Ideal) ℓ)

/-- The gradient of the product that goes through silu. -/
def dgate (g u d : EReal) : EReal := d * u * Ideal.logistic g + g * (d * u) * (Ideal.logistic g * (1 - Ideal.logistic g))

/-- The gradient of the other product. -/
def dup (g d : EReal) : EReal := g * Ideal.logistic g * d

/-- The column `k` of the left half. -/
def lo (k : Fin 2816) : Fin 5632 := ⟨k.val, by omega⟩

/-- The column `k` of the right half. -/
def hi (k : Fin 2816) : Fin 5632 := ⟨2816 + k.val, by omega⟩

/-- The gradient of both products, side by side, of an array of `n` rows. -/
def grad {n : ℕ} (gu : Fin n → Fin 5632 → EReal) (d : Fin n → Fin 2816 → EReal) (r : Fin n) (k : Fin 5632) : EReal :=
  if h : k.val < 2816 then dgate (gu r (lo ⟨k.val, h⟩)) (gu r (hi ⟨k.val, h⟩)) (d r ⟨k.val, h⟩)
  else dup (gu r (lo ⟨k.val - 2816, by omega⟩)) (d r ⟨k.val - 2816, by omega⟩)

/-- The gradient at a place depends on the place's row alone. -/
theorem grad_congr {n n' : ℕ} {gu : Fin n → Fin 5632 → EReal} {d : Fin n → Fin 2816 → EReal} {gu' : Fin n' → Fin 5632 → EReal}
    {d' : Fin n' → Fin 2816 → EReal} {r : Fin n} {r' : Fin n'} {k k' : Fin 5632} (hg : ∀ k, gu r k = gu' r' k)
    (hd : ∀ k, d r k = d' r' k) (hk : k = k') : grad gu d r k = grad gu' d' r' k' := by
  subst hk
  unfold grad
  simp only [hg, hd]

/-- An index whose column lies in the left half, by its row and column. -/
theorem at_lo {n : ℕ} (f : (⟨2, ![n, 5632]⟩ : Shape).Idx → EReal) (y : (⟨2, ![n, 5632]⟩ : Shape).Idx) (h : (y 1).val < 2816) :
    f y = f (ix2 (y 0) (lo ⟨(y 1).val, h⟩)) :=
  congrArg f (funext fun a => match a with
    | ⟨0, _⟩ => rfl
    | ⟨1, _⟩ => rfl)

/-- What a point leaves in its block: what its body computes. -/
theorem written (x : Vec Ideal S256x5632 .bf16) (d : Vec Ideal S256x2816 .bf16) : out0_2 x d = k0_pay1 x d := by
  unfold out0_2
  frame_out

/-- The body's result is the gradient of its rows. -/
theorem block (x : Vec Ideal S256x5632 .bf16) (d : Vec Ideal S256x2816 .bf16) (y : S256x5632.Idx) :
    k0_pay1 x d y = grad (fun r k => x (ix2 r k)) (fun r k => d (ix2 r k)) (y 0) (y 1) := by
  have hy : (y 1).val < 5632 := (y 1).isLt
  unfold k0_pay1 grad
  by_cases h : (y 1).val < 2816
  · rw [dif_pos h]
    clean_types
    pointwise
    rw [dif_pos h, dif_pos h]
    exact (zero_add _).trans (congrArg (fun g => dgate g (x (ix2 (y 0) (hi ⟨_, h⟩))) (d (ix2 (y 0) ⟨_, h⟩))) (at_lo x y h))
  · rw [dif_neg h]
    unfold dup
    clean_types
    pointwise
    rw [dif_neg h, dif_neg h]
    exact add_zero _

/-- The gradient of the whole arrays. -/
def total (gu : Vec Ideal S8192x5632 .bf16) (d : Vec Ideal S8192x2816 .bf16) : Vec Ideal S8192x5632 .bf16 :=
  fun i => grad (fun r k => gu (ix2 r k)) (fun r k => d (ix2 r k)) (i 0) (i 1)

/-- Where a point's blocks lie in their arrays. -/
theorem places : ∀ t : Fin cfg0.N, win0_0.index t = ![31 - t.val, 0] ∧ win0_1.index t = ![31 - t.val, 0] ∧ win0_2.index t = ![31 - t.val, 0] :=
  (by decide +kernel : ∀ t : Fin grid0.N, _)

/-- The result array after the run is the gradient. -/
theorem array (c : Dev nD) : (dats m 0 c).arrAt 2 cfg0.N = total (m ((c.tc : Thread nD τ).loc main_arg0)) (m ((c.tc : Thread nD τ).loc main_arg1)) := by
  refine (dats m 0 c).arrAt_eq_of_covers 2 _ (by decide +kernel) fun t hf y => ?_
  have hN : t.val < 32 := lt_of_lt_of_eq t.isLt N_0
  obtain ⟨e0, e1, e2⟩ := places t
  blk_simp
  rw [after0_2, written, block]
  unfold total
  refine grad_congr (fun k => ?_) (fun k => ?_) ?_
  · blk_ext [iblk, V, e0, e2]
  · blk_ext [iblk, V, e1, e2]
  · refine Fin.ext ?_
    blk_ext [e2]

end Cert.Gate

namespace Cert.Gate.Reference

open Idealize.ShloMosaic Idealize.ShloMosaic.TcCoe Idealize.ShloMosaic.Pointwise
open Cert.Reference6Ideal Cert.Reference6Ideal.Gen

/-- The left half of the products. -/
abbrev left (gu : Vec Ideal S8192x5632 .bf16) : Vec Ideal S8192x2816 .f32 :=
  extractStridedSlice S8192x2816 ![0, 0] (extf (F := Ideal) .f32 gu bitsLt_bf16_f32) slices_S8192x5632_S8192x2816_0_0

/-- The right half of the products. -/
abbrev right (gu : Vec Ideal S8192x5632 .bf16) : Vec Ideal S8192x2816 .f32 :=
  extractStridedSlice S8192x2816 ![0, 2816] (extf (F := Ideal) .f32 gu bitsLt_bf16_f32) slices_S8192x5632_S8192x2816_0_2816

/-- The incoming gradient at the width that the reference computes in. -/
abbrev wide (d : Vec Ideal S8192x2816 .bf16) : Vec Ideal S8192x2816 .f32 := extf (F := Ideal) .f32 d bitsLt_bf16_f32

/-- One everywhere. -/
abbrev ones : Vec Ideal S8192x2816 .f32 := broadcastInDim S8192x2816 ![] bcast_S_S8192x2816 (constant (F := Ideal) S_ .f32 0x3F800000#32)

/-- The logistic function of the left half, as the reference spells it. -/
abbrev sigmoid (gu : Vec Ideal S8192x5632 .bf16) : Vec Ideal S8192x2816 .f32 :=
  Host.divf (F := Ideal) (φ := .f32) ones (addf (F := Ideal) (φ := .f32) ones (Host.exp (F := Ideal) (φ := .f32) (Host.negf (F := Ideal) (φ := .f32) (left gu))))

/-- The reference's gradient is the same. -/
theorem eq_total (gu : Vec Ideal S8192x5632 .bf16) (d : Vec Ideal S8192x2816 .bf16) :
    truncf (F := Ideal) .bf16 (concatenate S8192x5632 1 [⟨S8192x2816, (addf (mulf (mulf (wide d) (right gu)) (sigmoid gu)) (mulf (mulf (left gu) (mulf (wide d) (right gu))) (mulf (sigmoid gu) (subf ones (sigmoid gu)))))⟩, ⟨S8192x2816, (mulf (mulf (left gu) (sigmoid gu)) (wide d))⟩] concatenates_S8192x2816_S8192x2816_S8192x5632_d1) bitsLt_bf16_f32 = Cert.Gate.total gu d := by
  funext i
  have hi : (i 1).val < 5632 := (i 1).isLt
  unfold Cert.Gate.total Cert.Gate.grad
  by_cases h : (i 1).val < 2816
  · rw [dif_pos h]
    clean_types
    pointwise
    rw [dif_pos h]
    exact congrArg (fun g => Cert.Gate.dgate g (gu (ix2 (i 0) (Cert.Gate.hi ⟨_, h⟩))) (d (ix2 (i 0) ⟨_, h⟩))) (Cert.Gate.at_lo gu i h)
  · rw [dif_neg h]
    unfold Cert.Gate.dup
    clean_types
    pointwise
    rw [dif_neg h]
    rfl

end Cert.Gate.Reference

end
-- ==== Proof.UpOut.lean ====
/- The channel mixer's two first products, side by side: block by block the product with the weight's columns. -/
module

public import proofs.«01_k».proof.Defs
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.UpOut

open Idealize.ShloMosaic Idealize.ShloMosaic.TcCoe Idealize.SL.Sem Idealize.ShloMosaic.Pointwise
open Cert.Kernel7Ideal Cert.Kernel7Ideal.Gen

variable (m : (ℓ : Loc nD τ sig) → Buf (Elt Ideal) ℓ)

/-- The accumulator after the one step: the product of the point's blocks, over the zero it starts from. -/
theorem step (x : Vec Ideal S1024x1024 .bf16) (w : Vec Ideal S1024x1408 .bf16) (j : S1024x1408.Idx) :
    k0_pay3 (k0_pay2 (k0_pay1 (F := Ideal)) x w) j = ∑ k : Fin 1024, x (ix2 (j 0) k) * w (ix2 k (j 1)) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The product with the weight's columns. -/
def product (x : Vec Ideal S8192x1024 .bf16) (w : Vec Ideal S1024x5632 .bf16) : Vec Ideal S8192x5632 .bf16 :=
  fun i => ∑ k : Fin 1024, x (ix2 (i 0) k) * w (ix2 k (i 1))

/-- Where a point's blocks lie in their arrays. -/
theorem places : ∀ t : Fin cfg0.N, win0_0.index t = ![t.val / 4, 0] ∧ win0_1.index t = ![0, t.val % 4] ∧ win0_2.index t = ![t.val / 4, t.val % 4] :=
  (by decide +kernel : ∀ t : Fin grid0.N, _)

/-- The result array after the run is the product. -/
theorem array (c : Dev nD) : (dats m 0 c).arrAt 2 cfg0.N = product (m ((c.tc : Thread nD τ).loc main_arg0))
    (m ((c.tc : Thread nD τ).loc main_arg1)) := by
  refine (dats m 0 c).arrAt_eq_of_covers 2 _ (by decide +kernel) fun t hf y => ?_
  have hN : t.val < 32 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.UpOut

namespace Cert.UpOut.Reference

open Idealize.ShloMosaic Idealize.ShloMosaic.TcCoe Idealize.ShloMosaic.Pointwise
open Cert.Reference7Ideal Cert.Reference7Ideal.Gen

/-- The reference's product is the same. -/
theorem eq_product (x : Vec Ideal S8192x1024 .bf16) (w : Vec Ideal S1024x5632 .bf16) :
    truncf .bf16 (Host.dotGeneral (F := Ideal) dot_S8192x1024_S1024x5632_S8192x5632_1_0_0_1_n_n none (extf .f32 x bitsLt_bf16_f32)
      (extf .f32 w bitsLt_bf16_f32)) bitsLt_bf16_f32 = Cert.UpOut.product x w := by
  funext i
  unfold Cert.UpOut.product
  clean_types
  pointwise

end Cert.UpOut.Reference

end
-- ==== Proof.DownOut.lean ====
/- The channel mixer's last product and the residual branch beside it: the kernel adds the products of two blocks of 1408 columns, and at
   the end the residual branch times its factor; the reference takes the whole product at once. -/
module

public import proofs.«01_k».proof.Defs
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.DownOut

open Idealize.ShloMosaic Idealize.ShloMosaic.TcCoe Idealize.SL.Sem Idealize.ShloMosaic.Pointwise
open Cert.Kernel8Ideal Cert.Kernel8Ideal.Gen

variable (m : (ℓ : Loc nD τ sig) → Buf (Elt Ideal) ℓ)

/-- The product of two blocks at one place. -/
def part (x : Vec Ideal S1024x1408 .bf16) (w : Vec Ideal S1408x1024 .bf16) (j : S1024x1024.Idx) : EReal :=
  ∑ k : Fin 1408, x (ix2 (j 0) k) * w (ix2 k (j 1))

/-- One step adds the product of the point's blocks to what the accumulator held. -/
theorem step (acc : Vec Ideal S1024x1024 .f32) (x : Vec Ideal S1024x1408 .bf16) (w : Vec Ideal S1408x1024 .bf16) (j : S1024x1024.Idx) :
    k0_pay2 acc x w j = acc j + part x w j := by
  unfold k0_pay2 part
  clean_types
  pointwise

/-- The block that a run's first point starts from is zero. -/
theorem zero (j : S1024x1024.Idx) : k0_pay1 (F := Ideal) j = 0 := by
  unfold k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What the accumulator holds at the last point of a run: the sum of the run's products. -/
theorem carried (c : Dev nD) (t : Fin cfg0.N) (ht : t.val % 2 = 2 - 1) (j : S1024x1024.Idx) :
    (outsAt0 m c t.val t.isLt).2 j = ∑ s : Fin 2, part (iblk m c 0 ⟨2 * (t.val / 2) + s.val, Pipeline.run_point_lt_of_flush t ht s⟩)
      (iblk m c 1 ⟨2 * (t.val / 2) + s.val, Pipeline.run_point_lt_of_flush t ht s⟩) j := by
  rw [Pipeline.eq_sum_fin_of_reset_step_apply_of_flush (fun n h => (outsAt0 m c n h).2) 2 (fun _ => (0 : EReal))
    (fun t j => part (iblk m c 0 t) (iblk m c 1 t) j)
    (fun t h j => by
      rw [outsAt0_A m c t h (by omega)]
      frame_out
      rw [step, zero])
    (fun t h j => by
      rw [outsAt0_B m c t h (by omega)]
      frame_out
      simp only [read_unread_whole]
      rw [step]) t ht j]
  exact zero_add _

/-- What the last point of a run writes back: what its accumulator holds, and the residual branch. -/
theorem written (c : Dev nD) (t : Fin cfg0.N) (ht : t.val % 2 = 1) :
    (outsAt0 m c t.val t.isLt).1 = k0_pay3 (outsAt0 m c t.val t.isLt).2 (iblk m c 2 t) := by
  rw [outsAt0_B m c t (by omega) ht]
  frame_out

/-- The product with the weight, and the residual branch times its factor. -/
def total (x : Vec Ideal S8192x2816 .bf16) (w : Vec Ideal S2816x1024 .bf16) (d : Vec Ideal S8192x1024 .f32) : Vec Ideal S8192x1024 .f32 :=
  fun i => (∑ k : Fin 2816, x (ix2 (i 0) k) * w (ix2 k (i 1))) + alpha * d i

/-- Where a point's blocks lie in their arrays. -/
theorem places : ∀ t : Fin cfg0.N, win0_0.index t = ![t.val / 2, t.val % 2] ∧ win0_1.index t = ![t.val % 2, 0]
    ∧ win0_2.index t = ![t.val / 2, 0] ∧ win0_3.index t = ![t.val / 2, 0] :=
  (by decide +kernel : ∀ t : Fin grid0.N, _)

/-- The result array after the run. -/
theorem array (c : Dev nD) : (dats m 0 c).arrAt 3 cfg0.N = total (m ((c.tc : Thread nD τ).loc main_arg0))
    (m ((c.tc : Thread nD τ).loc main_arg1)) (m ((c.tc : Thread nD τ).loc main_arg2)) := by
  refine (dats m 0 c).arrAt_eq_of_covers 3 _ (by decide +kernel) fun t hf y => ?_
  have ht : t.val % 2 = 1 := (flush0_3 t).mp hf
  have hN : t.val < 16 := lt_of_lt_of_eq t.isLt N_0
  blk_simp
  rw [after0_3, written m c t ht, last, carried m c t ht]
  unfold part total
  obtain ⟨-, -, e2, e3⟩ := places t
  refine congrArg₂ (· + ·) ?_ (congrArg (alpha * ·) ?_)
  · refine Fin.sum_mul_add_congr fun s k hl => ?_
    obtain ⟨e0, e1, -⟩ := places ⟨2 * (t.val / 2) + s.val, Pipeline.run_point_lt_of_flush t ht s⟩
    congr 1 <;> blk_ext [iblk, V, e0, e1, e3]
  · blk_ext [iblk, V, e2, e3]

end Cert.DownOut

namespace Cert.DownOut.Reference

open Idealize.ShloMosaic Idealize.ShloMosaic.TcCoe Idealize.ShloMosaic.Pointwise
open Cert.Reference8Ideal Cert.Reference8Ideal.Gen

/-- The reference's product and sum are the same. -/
theorem eq_total (x : Vec Ideal S8192x2816 .bf16) (w : Vec Ideal S2816x1024 .bf16) (d : Vec Ideal S8192x1024 .f32) :
    addf (mulf (broadcastInDim S8192x1024 ![] bcast_S_S8192x1024 (constant S_ .f32 0x3FD744FD#32)) d)
      (Host.dotGeneral (F := Ideal) dot_S8192x2816_S2816x1024_S8192x1024_1_0_0_1_n_n none (extf .f32 x bitsLt_bf16_f32) (extf .f32 w bitsLt_bf16_f32)) = Cert.DownOut.total x w d := by
  funext i
  unfold Cert.DownOut.total Cert.DownOut.alpha
  clean_types
  pointwise
  exact add_comm _ _

end Cert.DownOut.Reference

end
-- ==== Proof.GateOut.lean ====
/- The channel mixer's gate: the first product through silu, times the second, tile of rows by tile of rows. -/
module

public import proofs.«01_k».proof.Defs
public import proofs.«01_k».proof.Proof.Gen.Kernel9Ideal.Value
public import proofs.«01_k».proof.Proof.Gen.Reference9Ideal.Run
public import proofs.«01_k».proof.Proof.Gate
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.GateOut

open Idealize.ShloMosaic Idealize.ShloMosaic.TcCoe Idealize.SL.Sem Idealize.ShloMosaic.Pointwise
open Cert.Kernel9Ideal Cert.Kernel9Ideal.Gen

variable (m : (ℓ : Loc nD τ sig) → Buf (Elt Ideal) ℓ)

/-- The gated value. -/
def gated (g u : EReal) : EReal := g * Ideal.logistic g * u

/-- The gated values of an array of `n` rows. -/
def gate {n : ℕ} (gu : Fin n → Fin 5632 → EReal) (r : Fin n) (k : Fin 2816) : EReal :=
  gated (gu r (Cert.Gate.lo k)) (gu r (Cert.Gate.hi k))

/-- What a point leaves in its block: what its body computes. -/
theorem written (x : Vec Ideal S256x5632 .bf16) : out0_1 x = k0_pay1 x := by
  unfold out0_1
  frame_out

/-- The body's result is its rows' gated values. -/
theorem block (x : Vec Ideal S256x5632 .bf16) (y : S256x2816.Idx) : k0_pay1 x y = gate (fun r k => x (ix2 r k)) (y 0) (y 1) := by
  unfold k0_pay1 gate gated Cert.Gate.lo Cert.Gate.hi
  clean_types
  pointwise

/-- The gated values of the whole array. -/
def total (gu : Vec Ideal S8192x5632 .bf16) : Vec Ideal S8192x2816 .bf16 := fun i => gate (fun r k => gu (ix2 r k)) (i 0) (i 1)

/-- Where a point's blocks lie in their arrays. -/
theorem places : ∀ t : Fin cfg0.N, win0_0.index t = ![t.val, 0] ∧ win0_1.index t = ![t.val, 0] :=
  (by decide +kernel : ∀ t : Fin grid0.N, _)

/-- The result array after the run holds the gated values. -/
theorem array (c : Dev nD) : (dats m 0 c).arrAt 1 cfg0.N = total (m ((c.tc : Thread nD τ).loc main_arg0)) := by
  refine (dats m 0 c).arrAt_eq_of_covers 1 _ (by decide +kernel) fun t hf y => ?_
  have hN : t.val < 32 := lt_of_lt_of_eq t.isLt N_0
  obtain ⟨e0, e1⟩ := places t
  blk_simp
  rw [after0_1, written, block]
  unfold total gate
  refine congrArg₂ gated ?_ ?_ <;> blk_ext [iblk, V, e0, e1, Cert.Gate.lo, Cert.Gate.hi]

end Cert.GateOut

namespace Cert.GateOut.Reference

open Idealize.ShloMosaic Idealize.ShloMosaic.TcCoe Idealize.ShloMosaic.Pointwise
open Cert.Reference9Ideal Cert.Reference9Ideal.Gen

/-- The left half of the products. -/
abbrev left (gu : Vec Ideal S8192x5632 .bf16) : Vec Ideal S8192x2816 .f32 :=
  extractStridedSlice S8192x2816 ![0, 0] (extf (F := Ideal) .f32 gu bitsLt_bf16_f32) slices_S8192x5632_S8192x2816_0_0

/-- The right half of the products. -/
abbrev right (gu : Vec Ideal S8192x5632 .bf16) : Vec Ideal S8192x2816 .f32 :=
  extractStridedSlice S8192x2816 ![0, 2816] (extf (F := Ideal) .f32 gu bitsLt_bf16_f32) slices_S8192x5632_S8192x2816_0_2816

/-- One everywhere. -/
abbrev ones : Vec Ideal S8192x2816 .f32 := broadcastInDim S8192x2816 ![] bcast_S_S8192x2816 (constant (F := Ideal) S_ .f32 0x3F800000#32)

/-- The logistic function of the left half, as the reference spells it. -/
abbrev sigmoid (gu : Vec Ideal S8192x5632 .bf16) : Vec Ideal S8192x2816 .f32 :=
  Host.divf (F := Ideal) (φ := .f32) ones (addf (F := Ideal) (φ := .f32) ones (Host.exp (F := Ideal) (φ := .f32) (Host.negf (F := Ideal) (φ := .f32) (left gu))))

/-- The reference's gated values are the same. -/
theorem eq_total (gu : Vec Ideal S8192x5632 .bf16) :
    truncf (F := Ideal) .bf16 (mulf (mulf (left gu) (sigmoid gu)) (right gu)) bitsLt_bf16_f32 = Cert.GateOut.total gu := by
  funext i
  unfold Cert.GateOut.total Cert.GateOut.gate Cert.GateOut.gated Cert.Gate.lo Cert.Gate.hi
  clean_types
  pointwise
  rfl

end Cert.GateOut.Reference

end
-- ==== Proof.Mixer.lean ====
/- The claims about the channel mixer's eight calls: each form of each call, and each reference, runs to the end with its arguments unchanged,
   and over the extended reals each call's result is its reference's. -/
module

public import proofs.«01_k».proof.Defs
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.UpWeight
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.UpInput
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.DownWeight
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.DownInput
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gate
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.UpOut
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.DownOut
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.GateOut
public import Idealize.ShloMosaic.Lib.Claim
public import Idealize.ShloMosaic.Lib.Quiescent

@[expose] public section

noncomputable section

namespace Cert.Mixer

open Idealize.ShloMosaic Idealize.SL.Sem

/-! ## The gradient of the weight of the two first products -/

/-- The compiled form and the ideal form have the same text. -/
theorem same2 : Cert.Kernel2.defs (F := Bits) = Cert.Kernel2Ideal.defs :=
  congrArg (Pipeline.defs Cert.Kernel2Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame2 : Cert.quiescent_Kernel2 := fun m g _ => by
  rw [same2]
  exact Cert.Kernel2Ideal.Gen.frame (F := Bits) m g

/-- Over the extended reals, the call runs to the end. -/
theorem frame2_ideal : Cert.quiescent_Kernel2Ideal := fun m g _ => Cert.Kernel2Ideal.Gen.frame (F := Ideal) m g

/-- Its reference runs to the end. -/
theorem frame2_reference : Cert.quiescent_Reference2Ideal := fun m g _ =>
  (θ_run (Cert.Reference2Ideal.defs (F := Ideal)) _ _).mono (fun _ h => ⟨fun c => (h c).2, sem_eq_zero_of_no_sems rfl _⟩) (Cert.Reference2Ideal.Value.run (F := Ideal) m g)

/-- Its result is its reference's. -/
theorem value2 : Cert.algebraic_Kernel2Ideal_Reference2Ideal := by
  intro m g m' g' _ hagree
  refine ⟨fun c => Cert.UpWeight.grad (m ((c.tc : Thread Cert.Kernel2Ideal.nD Cert.Kernel2Ideal.τ).loc Cert.Kernel2Ideal.main_arg0))
          (m ((c.tc : Thread Cert.Kernel2Ideal.nD Cert.Kernel2Ideal.τ).loc Cert.Kernel2Ideal.main_arg1)), ?_, ?_⟩
  · exact (θ_run (Cert.Kernel2Ideal.defs (F := Ideal)) _ _).mono (fun _ h c => ⟨(h c).1.trans (Cert.UpWeight.array m c), (h c).2⟩) (Cert.Kernel2Ideal.Value.run_blocks (F := Ideal) m g)
  · refine (θ_run (Cert.Reference2Ideal.defs (F := Ideal)) _ _).mono (fun _ h c => ⟨(h c).1.trans ?_, (h c).2⟩) (Cert.Reference2Ideal.Value.run (F := Ideal) m' g')
    rw [(hagree c).1, (hagree c).2]
    exact Cert.UpWeight.Reference.eq_grad _ _

/-! ## The gradient of the mixer's input -/

/-- The compiled form and the ideal form have the same text. -/
theorem same3 : Cert.Kernel3.defs (F := Bits) = Cert.Kernel3Ideal.defs :=
  congrArg (Pipeline.defs Cert.Kernel3Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame3 : Cert.quiescent_Kernel3 := fun m g _ => by
  rw [same3]
  exact Cert.Kernel3Ideal.Gen.frame (F := Bits) m g

/-- Over the extended reals, the call runs to the end. -/
theorem frame3_ideal : Cert.quiescent_Kernel3Ideal := fun m g _ => Cert.Kernel3Ideal.Gen.frame (F := Ideal) m g

/-- Its reference runs to the end. -/
theorem frame3_reference : Cert.quiescent_Reference3Ideal := fun m g _ =>
  (θ_run (Cert.Reference3Ideal.defs (F := Ideal)) _ _).mono (fun _ h => ⟨fun c => (h c).2, sem_eq_zero_of_no_sems rfl _⟩) (Cert.Reference3Ideal.Value.run (F := Ideal) m g)

/-- Its result is its reference's. -/
theorem value3 : Cert.algebraic_Kernel3Ideal_Reference3Ideal := by
  intro m g m' g' _ hagree
  refine ⟨fun c => Cert.UpInput.total (m ((c.tc : Thread Cert.Kernel3Ideal.nD Cert.Kernel3Ideal.τ).loc Cert.Kernel3Ideal.main_arg2))
          (m ((c.tc : Thread Cert.Kernel3Ideal.nD Cert.Kernel3Ideal.τ).loc Cert.Kernel3Ideal.main_arg0))
          (m ((c.tc : Thread Cert.Kernel3Ideal.nD Cert.Kernel3Ideal.τ).loc Cert.Kernel3Ideal.main_arg1)), ?_, ?_⟩
  · exact (θ_run (Cert.Kernel3Ideal.defs (F := Ideal)) _ _).mono (fun _ h c => ⟨(h c).1.trans (Cert.UpInput.array m c), (h c).2⟩) (Cert.Kernel3Ideal.Value.run_blocks (F := Ideal) m g)
  · refine (θ_run (Cert.Reference3Ideal.defs (F := Ideal)) _ _).mono (fun _ h c => ⟨(h c).1.trans ?_, (h c).2⟩) (Cert.Reference3Ideal.Value.run (F := Ideal) m' g')
    rw [(hagree c).1, (hagree c).2.1, (hagree c).2.2]
    exact Cert.UpInput.Reference.eq_total _ _ _

/-! ## The gradient of the weight of the last product -/

/-- The compiled form and the ideal form have the same text. -/
theorem same4 : Cert.Kernel4.defs (F := Bits) = Cert.Kernel4Ideal.defs :=
  congrArg (Pipeline.defs Cert.Kernel4Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame4 : Cert.quiescent_Kernel4 := fun m g _ => by
  rw [same4]
  exact Cert.Kernel4Ideal.Gen.frame (F := Bits) m g

/-- Over the extended reals, the call runs to the end. -/
theorem frame4_ideal : Cert.quiescent_Kernel4Ideal := fun m g _ => Cert.Kernel4Ideal.Gen.frame (F := Ideal) m g

/-- Its reference runs to the end. -/
theorem frame4_reference : Cert.quiescent_Reference4Ideal := fun m g _ =>
  (θ_run (Cert.Reference4Ideal.defs (F := Ideal)) _ _).mono (fun _ h => ⟨fun c => (h c).2, sem_eq_zero_of_no_sems rfl _⟩) (Cert.Reference4Ideal.Value.run (F := Ideal) m g)

/-- Its result is its reference's. -/
theorem value4 : Cert.algebraic_Kernel4Ideal_Reference4Ideal := by
  intro m g m' g' _ hagree
  refine ⟨fun c => Cert.DownWeight.grad (m ((c.tc : Thread Cert.Kernel4Ideal.nD Cert.Kernel4Ideal.τ).loc Cert.Kernel4Ideal.main_arg0))
          (m ((c.tc : Thread Cert.Kernel4Ideal.nD Cert.Kernel4Ideal.τ).loc Cert.Kernel4Ideal.main_arg1)), ?_, ?_⟩
  · exact (θ_run (Cert.Kernel4Ideal.defs (F := Ideal)) _ _).mono (fun _ h c => ⟨(h c).1.trans (Cert.DownWeight.array m c), (h c).2⟩) (Cert.Kernel4Ideal.Value.run_blocks (F := Ideal) m g)
  · refine (θ_run (Cert.Reference4Ideal.defs (F := Ideal)) _ _).mono (fun _ h c => ⟨(h c).1.trans ?_, (h c).2⟩) (Cert.Reference4Ideal.Value.run (F := Ideal) m' g')
    rw [(hagree c).1, (hagree c).2]
    exact Cert.DownWeight.Reference.eq_grad _ _

/-! ## The gradient that the last product passes back -/

/-- The compiled form and the ideal form have the same text. -/
theorem same5 : Cert.Kernel5.defs (F := Bits) = Cert.Kernel5Ideal.defs :=
  congrArg (Pipeline.defs Cert.Kernel5Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame5 : Cert.quiescent_Kernel5 := fun m g _ => by
  rw [same5]
  exact Cert.Kernel5Ideal.Gen.frame (F := Bits) m g

/-- Over the extended reals, the call runs to the end. -/
theorem frame5_ideal : Cert.quiescent_Kernel5Ideal := fun m g _ => Cert.Kernel5Ideal.Gen.frame (F := Ideal) m g

/-- Its reference runs to the end. -/
theorem frame5_reference : Cert.quiescent_Reference5Ideal := fun m g _ =>
  (θ_run (Cert.Reference5Ideal.defs (F := Ideal)) _ _).mono (fun _ h => ⟨fun c => (h c).2, sem_eq_zero_of_no_sems rfl _⟩) (Cert.Reference5Ideal.Value.run (F := Ideal) m g)

/-- Its result is its reference's. -/
theorem value5 : Cert.algebraic_Kernel5Ideal_Reference5Ideal := by
  intro m g m' g' _ hagree
  refine ⟨fun c => Cert.DownInput.product (m ((c.tc : Thread Cert.Kernel5Ideal.nD Cert.Kernel5Ideal.τ).loc Cert.Kernel5Ideal.main_arg1))
          (m ((c.tc : Thread Cert.Kernel5Ideal.nD Cert.Kernel5Ideal.τ).loc Cert.Kernel5Ideal.main_arg0)), ?_, ?_⟩
  · exact (θ_run (Cert.Kernel5Ideal.defs (F := Ideal)) _ _).mono (fun _ h c => ⟨(h c).1.trans (Cert.DownInput.array m c), (h c).2⟩) (Cert.Kernel5Ideal.Value.run_blocks (F := Ideal) m g)
  · refine (θ_run (Cert.Reference5Ideal.defs (F := Ideal)) _ _).mono (fun _ h c => ⟨(h c).1.trans ?_, (h c).2⟩) (Cert.Reference5Ideal.Value.run (F := Ideal) m' g')
    rw [(hagree c).1, (hagree c).2]
    exact Cert.DownInput.Reference.eq_product _ _

/-! ## The gradient that the gate passes back -/

/-- The compiled form and the ideal form have the same text. -/
theorem same6 : Cert.Kernel6.defs (F := Bits) = Cert.Kernel6Ideal.defs :=
  congrArg (Pipeline.defs Cert.Kernel6Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame6 : Cert.quiescent_Kernel6 := fun m g _ => by
  rw [same6]
  exact Cert.Kernel6Ideal.Gen.frame (F := Bits) m g

/-- Over the extended reals, the call runs to the end. -/
theorem frame6_ideal : Cert.quiescent_Kernel6Ideal := fun m g _ => Cert.Kernel6Ideal.Gen.frame (F := Ideal) m g

/-- Its reference runs to the end. -/
theorem frame6_reference : Cert.quiescent_Reference6Ideal := fun m g _ =>
  (θ_run (Cert.Reference6Ideal.defs (F := Ideal)) _ _).mono (fun _ h => ⟨fun c => (h c).2, sem_eq_zero_of_no_sems rfl _⟩) (Cert.Reference6Ideal.Value.run (F := Ideal) m g)

/-- Its result is its reference's. -/
theorem value6 : Cert.algebraic_Kernel6Ideal_Reference6Ideal := by
  intro m g m' g' _ hagree
  refine ⟨fun c => Cert.Gate.total (m ((c.tc : Thread Cert.Kernel6Ideal.nD Cert.Kernel6Ideal.τ).loc Cert.Kernel6Ideal.main_arg0))
          (m ((c.tc : Thread Cert.Kernel6Ideal.nD Cert.Kernel6Ideal.τ).loc Cert.Kernel6Ideal.main_arg1)), ?_, ?_⟩
  · exact (θ_run (Cert.Kernel6Ideal.defs (F := Ideal)) _ _).mono (fun _ h c => ⟨(h c).1.trans (Cert.Gate.array m c), (h c).2⟩) (Cert.Kernel6Ideal.Value.run_blocks (F := Ideal) m g)
  · refine (θ_run (Cert.Reference6Ideal.defs (F := Ideal)) _ _).mono (fun _ h c => ⟨(h c).1.trans ?_, (h c).2⟩) (Cert.Reference6Ideal.Value.run (F := Ideal) m' g')
    rw [(hagree c).1, (hagree c).2]
    exact Cert.Gate.Reference.eq_total _ _

/-! ## The two first products -/

/-- The compiled form and the ideal form have the same text. -/
theorem same7 : Cert.Kernel7.defs (F := Bits) = Cert.Kernel7Ideal.defs :=
  congrArg (Pipeline.defs Cert.Kernel7Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame7 : Cert.quiescent_Kernel7 := fun m g _ => by
  rw [same7]
  exact Cert.Kernel7Ideal.Gen.frame (F := Bits) m g

/-- Over the extended reals, the call runs to the end. -/
theorem frame7_ideal : Cert.quiescent_Kernel7Ideal := fun m g _ => Cert.Kernel7Ideal.Gen.frame (F := Ideal) m g

/-- Its reference runs to the end. -/
theorem frame7_reference : Cert.quiescent_Reference7Ideal := fun m g _ =>
  (θ_run (Cert.Reference7Ideal.defs (F := Ideal)) _ _).mono (fun _ h => ⟨fun c => (h c).2, sem_eq_zero_of_no_sems rfl _⟩) (Cert.Reference7Ideal.Value.run (F := Ideal) m g)

/-- Its result is its reference's. -/
theorem value7 : Cert.algebraic_Kernel7Ideal_Reference7Ideal := by
  intro m g m' g' _ hagree
  refine ⟨fun c => Cert.UpOut.product (m ((c.tc : Thread Cert.Kernel7Ideal.nD Cert.Kernel7Ideal.τ).loc Cert.Kernel7Ideal.main_arg0))
          (m ((c.tc : Thread Cert.Kernel7Ideal.nD Cert.Kernel7Ideal.τ).loc Cert.Kernel7Ideal.main_arg1)), ?_, ?_⟩
  · exact (θ_run (Cert.Kernel7Ideal.defs (F := Ideal)) _ _).mono (fun _ h c => ⟨(h c).1.trans (Cert.UpOut.array m c), (h c).2⟩) (Cert.Kernel7Ideal.Value.run_blocks (F := Ideal) m g)
  · refine (θ_run (Cert.Reference7Ideal.defs (F := Ideal)) _ _).mono (fun _ h c => ⟨(h c).1.trans ?_, (h c).2⟩) (Cert.Reference7Ideal.Value.run (F := Ideal) m' g')
    rw [(hagree c).1, (hagree c).2]
    exact Cert.UpOut.Reference.eq_product _ _

/-! ## The last product and the residual branch -/

/-- The compiled form and the ideal form have the same text. -/
theorem same8 : Cert.Kernel8.defs (F := Bits) = Cert.Kernel8Ideal.defs :=
  congrArg (Pipeline.defs Cert.Kernel8Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame8 : Cert.quiescent_Kernel8 := fun m g _ => by
  rw [same8]
  exact Cert.Kernel8Ideal.Gen.frame (F := Bits) m g

/-- Over the extended reals, the call runs to the end. -/
theorem frame8_ideal : Cert.quiescent_Kernel8Ideal := fun m g _ => Cert.Kernel8Ideal.Gen.frame (F := Ideal) m g

/-- Its reference runs to the end. -/
theorem frame8_reference : Cert.quiescent_Reference8Ideal := fun m g _ =>
  (θ_run (Cert.Reference8Ideal.defs (F := Ideal)) _ _).mono (fun _ h => ⟨fun c => (h c).2, sem_eq_zero_of_no_sems rfl _⟩) (Cert.Reference8Ideal.Value.run (F := Ideal) m g)

/-- Its result is its reference's. -/
theorem value8 : Cert.algebraic_Kernel8Ideal_Reference8Ideal := by
  intro m g m' g' _ hagree
  refine ⟨fun c => Cert.DownOut.total (m ((c.tc : Thread Cert.Kernel8Ideal.nD Cert.Kernel8Ideal.τ).loc Cert.Kernel8Ideal.main_arg0))
          (m ((c.tc : Thread Cert.Kernel8Ideal.nD Cert.Kernel8Ideal.τ).loc Cert.Kernel8Ideal.main_arg1))
          (m ((c.tc : Thread Cert.Kernel8Ideal.nD Cert.Kernel8Ideal.τ).loc Cert.Kernel8Ideal.main_arg2)), ?_, ?_⟩
  · exact (θ_run (Cert.Kernel8Ideal.defs (F := Ideal)) _ _).mono (fun _ h c => ⟨(h c).1.trans (Cert.DownOut.array m c), (h c).2⟩) (Cert.Kernel8Ideal.Value.run_blocks (F := Ideal) m g)
  · refine (θ_run (Cert.Reference8Ideal.defs (F := Ideal)) _ _).mono (fun _ h c => ⟨(h c).1.trans ?_, (h c).2⟩) (Cert.Reference8Ideal.Value.run (F := Ideal) m' g')
    rw [(hagree c).1, (hagree c).2.1, (hagree c).2.2]
    exact Cert.DownOut.Reference.eq_total _ _ _

/-! ## The gate -/

/-- The compiled form and the ideal form have the same text. -/
theorem same9 : Cert.Kernel9.defs (F := Bits) = Cert.Kernel9Ideal.defs :=
  congrArg (Pipeline.defs Cert.Kernel9Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame9 : Cert.quiescent_Kernel9 := fun m g _ => by
  rw [same9]
  exact Cert.Kernel9Ideal.Gen.frame (F := Bits) m g

/-- Over the extended reals, the call runs to the end. -/
theorem frame9_ideal : Cert.quiescent_Kernel9Ideal := fun m g _ => Cert.Kernel9Ideal.Gen.frame (F := Ideal) m g

/-- Its reference runs to the end. -/
theorem frame9_reference : Cert.quiescent_Reference9Ideal := fun m g _ =>
  (θ_run (Cert.Reference9Ideal.defs (F := Ideal)) _ _).mono (fun _ h => ⟨fun c => (h c).2, sem_eq_zero_of_no_sems rfl _⟩) (Cert.Reference9Ideal.Value.run (F := Ideal) m g)

/-- Its result is its reference's. -/
theorem value9 : Cert.algebraic_Kernel9Ideal_Reference9Ideal := by
  intro m g m' g' _ hagree
  refine ⟨fun c => Cert.GateOut.total (m ((c.tc : Thread Cert.Kernel9Ideal.nD Cert.Kernel9Ideal.τ).loc Cert.Kernel9Ideal.main_arg0)), ?_, ?_⟩
  · exact (θ_run (Cert.Kernel9Ideal.defs (F := Ideal)) _ _).mono (fun _ h c => ⟨(h c).1.trans (Cert.GateOut.array m c), (h c).2⟩) (Cert.Kernel9Ideal.Value.run_blocks (F := Ideal) m g)
  · refine (θ_run (Cert.Reference9Ideal.defs (F := Ideal)) _ _).mono (fun _ h c => ⟨(h c).1.trans ?_, (h c).2⟩) (Cert.Reference9Ideal.Value.run (F := Ideal) m' g')
    rw [hagree c]
    exact Cert.GateOut.Reference.eq_total _

end Cert.Mixer

end
-- ==== Proof.EvenIn.lean ====
/- The projection into the pooling mixer and the state-space scan: block by block the product with the weight's
   columns. -/
module

public import proofs.«01_k».proof.Defs
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenIn

open Idealize.ShloMosaic Idealize.ShloMosaic.TcCoe Idealize.SL.Sem Idealize.ShloMosaic.Pointwise
open Cert.Kernel10Ideal Cert.Kernel10Ideal.Gen

variable (m : (ℓ : Loc nD τ sig) → Buf (Elt Ideal) ℓ)

/-- The accumulator after the one step: the product of the point's blocks, over the zero it starts from. -/
theorem step (x : Vec Ideal S2048x1024 .bf16) (w : Vec Ideal S1024x640 .bf16) (j : S2048x640.Idx) :
    k0_pay2 (k0_pay1 (F := Ideal)) x w j = ∑ k : Fin 1024, x (ix2 (j 0) k) * w (ix2 k (j 1)) := by
  unfold k0_pay2 k0_pay1
  clean_types
  pointwise

/-- What a point writes back. -/
theorem written (c : Dev nD) (t : Fin cfg0.N) :
    outsAt0 m c t = k0_pay2 (k0_pay1 (F := Ideal)) (iblk m c 0 t) (iblk m c 1 t) := by
  unfold outsAt0
  frame_out

/-- The whole product. -/
def product (x : Vec Ideal S8192x1024 .bf16) (w : Vec Ideal S1024x3200 .bf16) : Vec Ideal S8192x3200 .f32 :=
  fun i => ∑ k : Fin 1024, x (ix2 (i 0) k) * w (ix2 k (i 1))

/-- Where a point's blocks lie in their arrays. -/
theorem places : ∀ t : Fin cfg0.N, win0_0.index t = ![t.val / 5, 0] ∧ win0_1.index t = ![0, t.val % 5]
    ∧ win0_2.index t = ![t.val / 5, t.val % 5] :=
  (by decide +kernel : ∀ t : Fin grid0.N, _)

/-- The result array after the run. -/
theorem array (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN : t.val < 20 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.EvenIn

namespace Cert.EvenIn.Reference

open Idealize.ShloMosaic Idealize.ShloMosaic.TcCoe Idealize.ShloMosaic.Pointwise
open Cert.Reference10Ideal Cert.Reference10Ideal.Gen

/-- The reference comes to the same. -/
theorem eq_product (x : Vec Ideal S8192x1024 .bf16) (w : Vec Ideal S1024x3200 .bf16) :
    Host.dotGeneral (F := Ideal) dot_S8192x1024_S1024x3200_S8192x3200_1_0_0_1_n_n none (extf .f32 x bitsLt_bf16_f32) (extf .f32 w bitsLt_bf16_f32) = Cert.EvenIn.product x w := by
  funext i
  unfold Cert.EvenIn.product
  clean_types
  pointwise

end Cert.EvenIn.Reference

end
-- ==== Proof.EvenInWeight.lean ====
/- The gradient of the weight that projects into the pooling mixer and the state-space scan: the kernel adds, over eight blocks of 1024 rows, the products of the
   blocks' columns, and the reference takes the product over all rows at once. -/
module

public import proofs.«01_k».proof.Defs
public import proofs.«01_k».proof.Proof.Gen.Kernel11Ideal.Value
public import proofs.«01_k».proof.Proof.Gen.Reference11Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenInWeight

open Idealize.ShloMosaic Idealize.ShloMosaic.TcCoe Idealize.SL.Sem Idealize.ShloMosaic.Pointwise
open Cert.Kernel11Ideal Cert.Kernel11Ideal.Gen

variable (m : (ℓ : Loc nD τ sig) → Buf (Elt Ideal) ℓ)

/-- The product of two blocks at one place. -/
def part (x : Vec Ideal S1024x1024 .bf16) (g : Vec Ideal S1024x640 .bf16) (j : S1024x640.Idx) : EReal :=
  ∑ k : Fin 1024, x (ix2 k (j 0)) * g (ix2 k (j 1))

/-- One step adds the product of the point's blocks to what the accumulator held. -/
theorem step (acc : Vec Ideal S1024x640 .f32) (x : Vec Ideal S1024x1024 .bf16) (g : Vec Ideal S1024x640 .bf16) (j : S1024x640.Idx) :
    k0_pay2 acc x g j = acc j + part x g j := by
  unfold k0_pay2 part
  clean_types
  pointwise

/-- The block that a run's first point starts from is zero. -/
theorem zero (j : S1024x640.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S1024x640.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x1024 .bf16) (g : Vec Ideal S8192x3200 .bf16) : Vec Ideal S1024x3200 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 40 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.EvenInWeight

namespace Cert.EvenInWeight.Reference

open Idealize.ShloMosaic Idealize.ShloMosaic.TcCoe Idealize.ShloMosaic.Pointwise
open Cert.Reference11Ideal Cert.Reference11Ideal.Gen

/-- The reference comes to the same. -/
theorem eq_grad (x : Vec Ideal S8192x1024 .bf16) (g : Vec Ideal S8192x3200 .bf16) :
    transpose S1024x3200 [1, 0] (Host.dotGeneral (F := Ideal) dot_S8192x3200_S8192x1024_S3200x1024_0_0_1_1_n_n none (extf .f32 g bitsLt_bf16_f32)
      (extf .f32 x bitsLt_bf16_f32)) transposes_S3200x1024_S1024x3200_1_0 = Cert.EvenInWeight.grad x g := by
  funext i
  unfold Cert.EvenInWeight.grad
  clean_types
  pointwise
  exact Finset.sum_congr rfl fun k _ => mul_comm _ _

end Cert.EvenInWeight.Reference

end
-- ==== Proof.EvenInInput.lean ====
/- The gradient of the input of the layers with the pooling mixer and the state-space scan: the kernel adds, over five blocks of
   640 columns, the products with the weight's rows, and the residual's gradient at the end; the reference takes the whole product at once. -/
module

public import proofs.«01_k».proof.Defs
public import proofs.«01_k».proof.Proof.Gen.Kernel12Ideal.Value
public import proofs.«01_k».proof.Proof.Gen.Reference12Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenInInput

open Idealize.ShloMosaic Idealize.ShloMosaic.TcCoe Idealize.SL.Sem Idealize.ShloMosaic.Pointwise
open Cert.Kernel12Ideal Cert.Kernel12Ideal.Gen

variable (m : (ℓ : Loc nD τ sig) → Buf (Elt Ideal) ℓ)

/-- The product of two blocks at one place. -/
def part (x : Vec Ideal S1024x640 .bf16) (w : Vec Ideal S1024x640 .bf16) (j : S1024x1024.Idx) : EReal :=
  ∑ k : Fin 640, x (ix2 (j 0) k) * w (ix2 (j 1) k)

/-- One step adds the product of the point's blocks to what the accumulator held. -/
theorem step (acc : Vec Ideal S1024x1024 .f32) (x : Vec Ideal S1024x640 .bf16) (w : Vec Ideal S1024x640 .bf16) (j : S1024x1024.Idx) :
    k0_pay2 acc x w j = acc j + part x w j := by
  unfold k0_pay2 part
  clean_types
  pointwise

/-- The block that a run's first point starts from is zero. -/
theorem zero (j : S1024x1024.Idx) : k0_pay1 (F := Ideal) j = 0 := by
  unfold k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What the accumulator holds at the last point of a run: the sum of the run's products. -/
theorem carried (c : Dev nD) (t : Fin cfg0.N) (ht : t.val % 5 = 5 - 1) (j : S1024x1024.Idx) :
    (outsAt0 m c t.val t.isLt).2 j = ∑ s : Fin 5, part (iblk m c 0 ⟨5 * (t.val / 5) + s.val, Pipeline.run_point_lt_of_flush t ht s⟩)
      (iblk m c 1 ⟨5 * (t.val / 5) + s.val, Pipeline.run_point_lt_of_flush t ht s⟩) j := by
  rw [Pipeline.eq_sum_fin_of_reset_step_apply_of_flush (fun n h => (outsAt0 m c n h).2) 5 (fun _ => (0 : EReal))
    (fun t j => part (iblk m c 0 t) (iblk m c 1 t) j)
    (fun t h j => by
      rw [outsAt0_A m c t h (by omega)]
      frame_out
      rw [step, zero])
    (fun t h j => by
      by_cases hl : t.val % 5 = 4
      · rw [outsAt0_C m c t h hl]
        frame_out
        simp only [read_unread_whole]
        rw [step]
      · rw [outsAt0_B m c t h hl]
        frame_out
        simp only [read_unread_whole]
        rw [step]) t ht j]
  exact zero_add _

/-- What the last point of a run writes back: what its accumulator holds, and the residual branch. -/
theorem written (c : Dev nD) (t : Fin cfg0.N) (ht : t.val % 5 = 4) :
    (outsAt0 m c t.val t.isLt).1 = k0_pay3 (outsAt0 m c t.val t.isLt).2 (iblk m c 2 t) := by
  rw [outsAt0_C m c t (by omega) ht]
  frame_out

/-- The whole product, and the residual branch times its factor. -/
def total (x : Vec Ideal S8192x3200 .bf16) (w : Vec Ideal S1024x3200 .bf16) (d : Vec Ideal S8192x1024 .f32) : Vec Ideal S8192x1024 .f32 :=
  fun i => (∑ k : Fin 3200, x (ix2 (i 0) k) * w (ix2 (i 1) k)) + alpha * d i

/-- Where a point's blocks lie in their arrays. -/
theorem places : ∀ t : Fin cfg0.N, win0_0.index t = ![t.val / 5, t.val % 5] ∧ win0_1.index t = ![0, t.val % 5]
    ∧ win0_2.index t = ![t.val / 5, 0] ∧ win0_3.index t = ![t.val / 5, 0] :=
  (by decide +kernel : ∀ t : Fin grid0.N, _)

/-- The result array after the run. -/
theorem array (c : Dev nD) : (dats m 0 c).arrAt 3 cfg0.N = total (m ((c.tc : Thread nD τ).loc main_arg2)) (m ((c.tc : Thread nD τ).loc main_arg0)) (m ((c.tc : Thread nD τ).loc main_arg1)) := by
  refine (dats m 0 c).arrAt_eq_of_covers 3 _ (by decide +kernel) fun t hf y => ?_
  have ht : t.val % 5 = 4 := (flush0_3 t).mp hf
  have hN : t.val < 40 := lt_of_lt_of_eq t.isLt N_0
  blk_simp
  rw [after0_3, written m c t ht, last, carried m c t ht]
  unfold part total
  obtain ⟨-, -, e2, e3⟩ := places t
  refine congrArg₂ (· + ·) ?_ (congrArg (alpha * ·) ?_)
  · refine Fin.sum_mul_add_congr fun s k hl => ?_
    obtain ⟨e0, e1, -⟩ := places ⟨5 * (t.val / 5) + s.val, Pipeline.run_point_lt_of_flush t ht s⟩
    congr 1 <;> blk_ext [iblk, V, e0, e1, e3]
  · blk_ext [iblk, V, e2, e3]

end Cert.EvenInInput

namespace Cert.EvenInInput.Reference

open Idealize.ShloMosaic Idealize.ShloMosaic.TcCoe Idealize.ShloMosaic.Pointwise
open Cert.Reference12Ideal Cert.Reference12Ideal.Gen

/-- The reference comes to the same. -/
theorem eq_total (x : Vec Ideal S8192x3200 .bf16) (w : Vec Ideal S1024x3200 .bf16) (d : Vec Ideal S8192x1024 .f32) :
    addf (Host.dotGeneral (F := Ideal) dot_S8192x3200_S1024x3200_S8192x1024_1_1_0_0_n_n none (extf .f32 x bitsLt_bf16_f32) (extf .f32 w bitsLt_bf16_f32))
      (mulf (broadcastInDim S8192x1024 ![] bcast_S_S8192x1024 (constant S_ .f32 0x3FD744FD#32)) d) = Cert.EvenInInput.total x w d := by
  funext i
  unfold Cert.EvenInInput.total Cert.EvenInInput.alpha
  clean_types
  pointwise

end Cert.EvenInInput.Reference

end
-- ==== Proof.OddIn.lean ====
/- The projection into the two attentions: block by block the product with the weight's
   columns. -/
module

public import proofs.«01_k».proof.Defs
public import proofs.«01_k».proof.Proof.Gen.Kernel13Ideal.Value
public import proofs.«01_k».proof.Proof.Gen.Reference13Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddIn

open Idealize.ShloMosaic Idealize.ShloMosaic.TcCoe Idealize.SL.Sem Idealize.ShloMosaic.Pointwise
open Cert.Kernel13Ideal Cert.Kernel13Ideal.Gen

variable (m : (ℓ : Loc nD τ sig) → Buf (Elt Ideal) ℓ)

/-- The accumulator after the one step: the product of the point's blocks, over the zero it starts from. -/
theorem step (x : Vec Ideal S2048x1024 .bf16) (w : Vec Ideal S1024x512 .bf16) (j : S2048x512.Idx) :
    k0_pay2 (k0_pay1 (F := Ideal)) x w j = ∑ k : Fin 1024, x (ix2 (j 0) k) * w (ix2 k (j 1)) := by
  unfold k0_pay2 k0_pay1
  clean_types
  pointwise

/-- What a point writes back. -/
theorem written (c : Dev nD) (t : Fin cfg0.N) :
    outsAt0 m c t = k0_pay2 (k0_pay1 (F := Ideal)) (iblk m c 0 t) (iblk m c 1 t) := by
  unfold outsAt0
  frame_out

/-- The whole product. -/
def product (x : Vec Ideal S8192x1024 .bf16) (w : Vec Ideal S1024x2560 .bf16) : Vec Ideal S8192x2560 .f32 :=
  fun i => ∑ k : Fin 1024, x (ix2 (i 0) k) * w (ix2 k (i 1))

/-- Where a point's blocks lie in their arrays. -/
theorem places : ∀ t : Fin cfg0.N, win0_0.index t = ![t.val / 5, 0] ∧ win0_1.index t = ![0, t.val % 5]
    ∧ win0_2.index t = ![t.val / 5, t.val % 5] :=
  (by decide +kernel : ∀ t : Fin grid0.N, _)

/-- The result array after the run. -/
theorem array (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN : t.val < 20 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.OddIn

namespace Cert.OddIn.Reference

open Idealize.ShloMosaic Idealize.ShloMosaic.TcCoe Idealize.ShloMosaic.Pointwise
open Cert.Reference13Ideal Cert.Reference13Ideal.Gen

/-- The reference comes to the same. -/
theorem eq_product (x : Vec Ideal S8192x1024 .bf16) (w : Vec Ideal S1024x2560 .bf16) :
    Host.dotGeneral (F := Ideal) dot_S8192x1024_S1024x2560_S8192x2560_1_0_0_1_n_n none (extf .f32 x bitsLt_bf16_f32) (extf .f32 w bitsLt_bf16_f32) = Cert.OddIn.product x w := by
  funext i
  unfold Cert.OddIn.product
  clean_types
  pointwise

end Cert.OddIn.Reference

end
-- ==== Proof.OddInWeight.lean ====
/- The gradient of the weight that projects into the two attentions: the kernel adds, over eight blocks of 1024 rows, the products of the
   blocks' columns, and the reference takes the product over all rows at once. -/
module

public import proofs.«01_k».proof.Defs
public import proofs.«01_k».proof.Proof.Gen.Kernel14Ideal.Value
public import proofs.«01_k».proof.Proof.Gen.Reference14Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddInWeight

open Idealize.ShloMosaic Idealize.ShloMosaic.TcCoe Idealize.SL.Sem Idealize.ShloMosaic.Pointwise
open Cert.Kernel14Ideal Cert.Kernel14Ideal.Gen

variable (m : (ℓ : Loc nD τ sig) → Buf (Elt Ideal) ℓ)

/-- The product of two blocks at one place. -/
def part (x : Vec Ideal S1024x1024 .bf16) (g : Vec Ideal S1024x512 .bf16) (j : S1024x512.Idx) : EReal :=
  ∑ k : Fin 1024, x (ix2 k (j 0)) * g (ix2 k (j 1))

/-- One step adds the product of the point's blocks to what the accumulator held. -/
theorem step (acc : Vec Ideal S1024x512 .f32) (x : Vec Ideal S1024x1024 .bf16) (g : Vec Ideal S1024x512 .bf16) (j : S1024x512.Idx) :
    k0_pay2 acc x g j = acc j + part x g j := by
  unfold k0_pay2 part
  clean_types
  pointwise

/-- The block that a run's first point starts from is zero. -/
theorem zero (j : S1024x512.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S1024x512.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x1024 .bf16) (g : Vec Ideal S8192x2560 .bf16) : Vec Ideal S1024x2560 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, t.val / 8]
    ∧ win0_2.index t = ![0, t.val / 8] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 40 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.OddInWeight

namespace Cert.OddInWeight.Reference

open Idealize.ShloMosaic Idealize.ShloMosaic.TcCoe Idealize.ShloMosaic.Pointwise
open Cert.Reference14Ideal Cert.Reference14Ideal.Gen

/-- The reference comes to the same. -/
theorem eq_grad (x : Vec Ideal S8192x1024 .bf16) (g : Vec Ideal S8192x2560 .bf16) :
    transpose S1024x2560 [1, 0] (Host.dotGeneral (F := Ideal) dot_S8192x2560_S8192x1024_S2560x1024_0_0_1_1_n_n none (extf .f32 g bitsLt_bf16_f32)
      (extf .f32 x bitsLt_bf16_f32)) transposes_S2560x1024_S1024x2560_1_0 = Cert.OddInWeight.grad x g := by
  funext i
  unfold Cert.OddInWeight.grad
  clean_types
  pointwise
  exact Finset.sum_congr rfl fun k _ => mul_comm _ _

end Cert.OddInWeight.Reference

end
-- ==== Proof.OddInInput.lean ====
/- The gradient of the input of the layers with the two attentions: the kernel adds, over five blocks of
   512 columns, the products with the weight's rows, and the residual's gradient at the end; the reference takes the whole product at once. -/
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddInInput

open Idealize.ShloMosaic Idealize.ShloMosaic.TcCoe Idealize.SL.Sem Idealize.ShloMosaic.Pointwise
open Cert.Kernel15Ideal Cert.Kernel15Ideal.Gen

variable (m : (ℓ : Loc nD τ sig) → Buf (Elt Ideal) ℓ)

/-- The product of two blocks at one place. -/
def part (x : Vec Ideal S1024x512 .bf16) (w : Vec Ideal S1024x512 .bf16) (j : S1024x1024.Idx) : EReal :=
  ∑ k : Fin 512, x (ix2 (j 0) k) * w (ix2 (j 1) k)

/-- One step adds the product of the point's blocks to what the accumulator held. -/
theorem step (acc : Vec Ideal S1024x1024 .f32) (x : Vec Ideal S1024x512 .bf16) (w : Vec Ideal S1024x512 .bf16) (j : S1024x1024.Idx) :
    k0_pay2 acc x w j = acc j + part x w j := by
  unfold k0_pay2 part
  clean_types
  pointwise

/-- The block that a run's first point starts from is zero. -/
theorem zero (j : S1024x1024.Idx) : k0_pay1 (F := Ideal) j = 0 := by
  unfold k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What the accumulator holds at the last point of a run: the sum of the run's products. -/
theorem carried (c : Dev nD) (t : Fin cfg0.N) (ht : t.val % 5 = 5 - 1) (j : S1024x1024.Idx) :
    (outsAt0 m c t.val t.isLt).2 j = ∑ s : Fin 5, part (iblk m c 0 ⟨5 * (t.val / 5) + s.val, Pipeline.run_point_lt_of_flush t ht s⟩)
      (iblk m c 1 ⟨5 * (t.val / 5) + s.val, Pipeline.run_point_lt_of_flush t ht s⟩) j := by
  rw [Pipeline.eq_sum_fin_of_reset_step_apply_of_flush (fun n h => (outsAt0 m c n h).2) 5 (fun _ => (0 : EReal))
    (fun t j => part (iblk m c 0 t) (iblk m c 1 t) j)
    (fun t h j => by
      rw [outsAt0_A m c t h (by omega)]
      frame_out
      rw [step, zero])
    (fun t h j => by
      by_cases hl : t.val % 5 = 4
      · rw [outsAt0_C m c t h hl]
        frame_out
        simp only [read_unread_whole]
        rw [step]
      · rw [outsAt0_B m c t h hl]
        frame_out
        simp only [read_unread_whole]
        rw [step]) t ht j]
  exact zero_add _

/-- What the last point of a run writes back: what its accumulator holds, and the residual branch. -/
theorem written (c : Dev nD) (t : Fin cfg0.N) (ht : t.val % 5 = 4) :
    (outsAt0 m c t.val t.isLt).1 = k0_pay3 (outsAt0 m c t.val t.isLt).2 (iblk m c 2 t) := by
  rw [outsAt0_C m c t (by omega) ht]
  frame_out

/-- The whole product, and the residual branch times its factor. -/
def total (x : Vec Ideal S8192x2560 .bf16) (w : Vec Ideal S1024x2560 .bf16) (d : Vec Ideal S8192x1024 .f32) : Vec Ideal S8192x1024 .f32 :=
  fun i => (∑ k : Fin 2560, x (ix2 (i 0) k) * w (ix2 (i 1) k)) + alpha * d i

/-- Where a point's blocks lie in their arrays. -/
theorem places : ∀ t : Fin cfg0.N, win0_0.index t = ![t.val / 5, t.val % 5] ∧ win0_1.index t = ![0, t.val % 5]
    ∧ win0_2.index t = ![t.val / 5, 0] ∧ win0_3.index t = ![t.val / 5, 0] :=
  (by decide +kernel : ∀ t : Fin grid0.N, _)

/-- The result array after the run. -/
theorem array (c : Dev nD) : (dats m 0 c).arrAt 3 cfg0.N = total (m ((c.tc : Thread nD τ).loc main_arg2)) (m ((c.tc : Thread nD τ).loc main_arg0)) (m ((c.tc : Thread nD τ).loc main_arg1)) := by
  refine (dats m 0 c).arrAt_eq_of_covers 3 _ (by decide +kernel) fun t hf y => ?_
  have ht : t.val % 5 = 4 := (flush0_3 t).mp hf
  have hN : t.val < 40 := lt_of_lt_of_eq t.isLt N_0
  blk_simp
  rw [after0_3, written m c t ht, last, carried m c t ht]
  unfold part total
  obtain ⟨-, -, e2, e3⟩ := places t
  refine congrArg₂ (· + ·) ?_ (congrArg (alpha * ·) ?_)
  · refine Fin.sum_mul_add_congr fun s k hl => ?_
    obtain ⟨e0, e1, -⟩ := places ⟨5 * (t.val / 5) + s.val, Pipeline.run_point_lt_of_flush t ht s⟩
    congr 1 <;> blk_ext [iblk, V, e0, e1, e3]
  · blk_ext [iblk, V, e2, e3]

end Cert.OddInInput

namespace Cert.OddInInput.Reference

open Idealize.ShloMosaic Idealize.ShloMosaic.TcCoe Idealize.ShloMosaic.Pointwise
open Cert.Reference15Ideal Cert.Reference15Ideal.Gen

/-- The reference comes to the same. -/
theorem eq_total (x : Vec Ideal S8192x2560 .bf16) (w : Vec Ideal S1024x2560 .bf16) (d : Vec Ideal S8192x1024 .f32) :
    addf (Host.dotGeneral (F := Ideal) dot_S8192x2560_S1024x2560_S8192x1024_1_1_0_0_n_n none (extf .f32 x bitsLt_bf16_f32) (extf .f32 w bitsLt_bf16_f32))
      (mulf (broadcastInDim S8192x1024 ![] bcast_S_S8192x1024 (constant S_ .f32 0x3FD744FD#32)) d) = Cert.OddInInput.total x w d := by
  funext i
  unfold Cert.OddInInput.total Cert.OddInInput.alpha
  clean_types
  pointwise

end Cert.OddInInput.Reference

end
-- ==== Proof.EvenOut.lean ====
/- The projection out of the pooling mixer and the state-space scan: the kernel adds, over three blocks of 512 columns, the products of blocks,
   and the residual branch at the end; the reference takes the whole product at once. -/
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenOut

open Idealize.ShloMosaic Idealize.ShloMosaic.TcCoe Idealize.SL.Sem Idealize.ShloMosaic.Pointwise
open Cert.Kernel16Ideal Cert.Kernel16Ideal.Gen

variable (m : (ℓ : Loc nD τ sig) → Buf (Elt Ideal) ℓ)

/-- The product of two blocks at one place. -/
def part (x : Vec Ideal S1024x512 .bf16) (w : Vec Ideal S512x1024 .bf16) (j : S1024x1024.Idx) : EReal :=
  ∑ k : Fin 512, x (ix2 (j 0) k) * w (ix2 k (j 1))

/-- One step adds the product of the point's blocks to what the accumulator held. -/
theorem step (acc : Vec Ideal S1024x1024 .f32) (x : Vec Ideal S1024x512 .bf16) (w : Vec Ideal S512x1024 .bf16) (j : S1024x1024.Idx) :
    k0_pay2 acc x w j = acc j + part x w j := by
  unfold k0_pay2 part
  clean_types
  pointwise

/-- The block that a run's first point starts from is zero. -/
theorem zero (j : S1024x1024.Idx) : k0_pay1 (F := Ideal) j = 0 := by
  unfold k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What the accumulator holds at the last point of a run: the sum of the run's products. -/
theorem carried (c : Dev nD) (t : Fin cfg0.N) (ht : t.val % 3 = 3 - 1) (j : S1024x1024.Idx) :
    (outsAt0 m c t.val t.isLt).2 j = ∑ s : Fin 3, part (iblk m c 0 ⟨3 * (t.val / 3) + s.val, Pipeline.run_point_lt_of_flush t ht s⟩)
      (iblk m c 1 ⟨3 * (t.val / 3) + s.val, Pipeline.run_point_lt_of_flush t ht s⟩) j := by
  rw [Pipeline.eq_sum_fin_of_reset_step_apply_of_flush (fun n h => (outsAt0 m c n h).2) 3 (fun _ => (0 : EReal))
    (fun t j => part (iblk m c 0 t) (iblk m c 1 t) j)
    (fun t h j => by
      rw [outsAt0_A m c t h (by omega)]
      frame_out
      rw [step, zero])
    (fun t h j => by
      by_cases hl : t.val % 3 = 2
      · rw [outsAt0_C m c t h hl]
        frame_out
        simp only [read_unread_whole]
        rw [step]
      · rw [outsAt0_B m c t h hl]
        frame_out
        simp only [read_unread_whole]
        rw [step]) t ht j]
  exact zero_add _

/-- What the last point of a run writes back: what its accumulator holds, and the residual branch. -/
theorem written (c : Dev nD) (t : Fin cfg0.N) (ht : t.val % 3 = 2) :
    (outsAt0 m c t.val t.isLt).1 = k0_pay3 (outsAt0 m c t.val t.isLt).2 (iblk m c 2 t) := by
  rw [outsAt0_C m c t (by omega) ht]
  frame_out

/-- The whole product, and the residual branch times its factor. -/
def total (x : Vec Ideal S8192x1536 .bf16) (w : Vec Ideal S1536x1024 .bf16) (d : Vec Ideal S8192x1024 .f32) : Vec Ideal S8192x1024 .f32 :=
  fun i => (∑ k : Fin 1536, x (ix2 (i 0) k) * w (ix2 k (i 1))) + alpha * d i

/-- Where a point's blocks lie in their arrays. -/
theorem places : ∀ t : Fin cfg0.N, win0_0.index t = ![t.val / 3, t.val % 3] ∧ win0_1.index t = ![t.val % 3, 0]
    ∧ win0_2.index t = ![t.val / 3, 0] ∧ win0_3.index t = ![t.val / 3, 0] :=
  (by decide +kernel : ∀ t : Fin grid0.N, _)

/-- The result array after the run. -/
theorem array (c : Dev nD) : (dats m 0 c).arrAt 3 cfg0.N = total (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val % 3 = 2 := (flush0_3 t).mp hf
  have hN : t.val < 24 := lt_of_lt_of_eq t.isLt N_0
  blk_simp
  rw [after0_3, written m c t ht, last, carried m c t ht]
  unfold part total
  obtain ⟨-, -, e2, e3⟩ := places t
  refine congrArg₂ (· + ·) ?_ (congrArg (alpha * ·) ?_)
  · refine Fin.sum_mul_add_congr fun s k hl => ?_
    obtain ⟨e0, e1, -⟩ := places ⟨3 * (t.val / 3) + s.val, Pipeline.run_point_lt_of_flush t ht s⟩
    congr 1 <;> blk_ext [iblk, V, e0, e1, e3]
  · blk_ext [iblk, V, e2, e3]

end Cert.EvenOut

namespace Cert.EvenOut.Reference

open Idealize.ShloMosaic Idealize.ShloMosaic.TcCoe Idealize.ShloMosaic.Pointwise
open Cert.Reference16Ideal Cert.Reference16Ideal.Gen

/-- The reference comes to the same. -/
theorem eq_total (x : Vec Ideal S8192x1536 .bf16) (w : Vec Ideal S1536x1024 .bf16) (d : Vec Ideal S8192x1024 .f32) :
    addf (mulf (broadcastInDim S8192x1024 ![] bcast_S_S8192x1024 (constant S_ .f32 0x3FD744FD#32)) d)
      (Host.dotGeneral (F := Ideal) dot_S8192x1536_S1536x1024_S8192x1024_1_0_0_1_n_n none (extf .f32 x bitsLt_bf16_f32) (extf .f32 w bitsLt_bf16_f32)) = Cert.EvenOut.total x w d := by
  funext i
  unfold Cert.EvenOut.total Cert.EvenOut.alpha
  clean_types
  pointwise
  exact add_comm _ _

end Cert.EvenOut.Reference

end
-- ==== Proof.EvenOutWeight.lean ====
/- The gradient of the weight that projects out of the pooling mixer and the state-space scan: the kernel adds, over eight blocks of 1024 rows, the products of the
   blocks' columns, and the reference takes the product over all rows at once. -/
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenOutWeight

open Idealize.ShloMosaic Idealize.ShloMosaic.TcCoe Idealize.SL.Sem Idealize.ShloMosaic.Pointwise
open Cert.Kernel17Ideal Cert.Kernel17Ideal.Gen

variable (m : (ℓ : Loc nD τ sig) → Buf (Elt Ideal) ℓ)

/-- The product of two blocks at one place. -/
def part (x : Vec Ideal S1024x512 .bf16) (g : Vec Ideal S1024x1024 .f32) (j : S512x1024.Idx) : EReal :=
  ∑ k : Fin 1024, x (ix2 k (j 0)) * g (ix2 k (j 1))

/-- One step adds the product of the point's blocks to what the accumulator held. -/
theorem step (acc : Vec Ideal S512x1024 .f32) (x : Vec Ideal S1024x512 .bf16) (g : Vec Ideal S1024x1024 .f32) (j : S512x1024.Idx) :
    k0_pay2 acc x g j = acc j + part x g j := by
  unfold k0_pay2 part
  clean_types
  pointwise

/-- The block that a run's first point starts from is zero. -/
theorem zero (j : S512x1024.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S512x1024.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x1536 .bf16) (g : Vec Ideal S8192x1024 .f32) : Vec Ideal S1536x1024 .f32 :=
  fun i => ∑ k : Fin 8192, x (ix2 k (i 0)) * g (ix2 k (i 1))

/-- Where a point's blocks lie in their arrays. -/
theorem places : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 24 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.EvenOutWeight

namespace Cert.EvenOutWeight.Reference

open Idealize.ShloMosaic Idealize.ShloMosaic.TcCoe Idealize.ShloMosaic.Pointwise
open Cert.Reference17Ideal Cert.Reference17Ideal.Gen

/-- The reference comes to the same. -/
theorem eq_grad (x : Vec Ideal S8192x1536 .bf16) (g : Vec Ideal S8192x1024 .f32) :
    transpose S1536x1024 [1, 0] (Host.dotGeneral (F := Ideal) dot_S8192x1024_S8192x1536_S1024x1536_0_0_1_1_n_n none (φ₁ := .f32) g
      (extf .f32 x bitsLt_bf16_f32)) transposes_S1024x1536_S1536x1024_1_0 = Cert.EvenOutWeight.grad x g := by
  funext i
  unfold Cert.EvenOutWeight.grad
  clean_types
  pointwise
  exact Finset.sum_congr rfl fun k _ => mul_comm _ _

end Cert.EvenOutWeight.Reference

end
-- ==== Proof.EvenOutInput.lean ====
/- The gradient passed back to the pooling mixer and the state-space scan: block by block the product with the
   weight's rows. -/
module

public import proofs.«01_k».proof.Defs
public import proofs.«01_k».proof.Proof.Gen.Kernel18Ideal.Value
public import proofs.«01_k».proof.Proof.Gen.Reference18Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.EvenOutInput

open Idealize.ShloMosaic Idealize.ShloMosaic.TcCoe Idealize.SL.Sem Idealize.ShloMosaic.Pointwise
open Cert.Kernel18Ideal Cert.Kernel18Ideal.Gen

variable (m : (ℓ : Loc nD τ sig) → Buf (Elt Ideal) ℓ)

/-- The accumulator after the one step: the product of the point's blocks, over the zero it starts from. -/
theorem step (x : Vec Ideal S2048x1024 .f32) (w : Vec Ideal S512x1024 .bf16) (j : S2048x512.Idx) :
    k0_pay3 (k0_pay2 (k0_pay1 (F := Ideal)) x w) j = ∑ k : Fin 1024, x (ix2 (j 0) k) * w (ix2 (j 1) k) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The whole product. -/
def product (x : Vec Ideal S8192x1024 .f32) (w : Vec Ideal S1536x1024 .bf16) : Vec Ideal S8192x1536 .bf16 :=
  fun i => ∑ k : Fin 1024, x (ix2 (i 0) k) * w (ix2 (i 1) k)

/-- Where a point's blocks lie in their arrays. -/
theorem places : ∀ t : Fin cfg0.N, win0_0.index t = ![t.val / 3, 0] ∧ win0_1.index t = ![t.val % 3, 0]
    ∧ win0_2.index t = ![t.val / 3, t.val % 3] :=
  (by decide +kernel : ∀ t : Fin grid0.N, _)

/-- The result array after the run. -/
theorem array (c : Dev nD) : (dats m 0 c).arrAt 2 cfg0.N = product (m ((c.tc : Thread nD τ).loc main_arg1)) (m ((c.tc : Thread nD τ).loc main_arg0)) := by
  refine (dats m 0 c).arrAt_eq_of_covers 2 _ (by decide +kernel) fun t hf y => ?_
  have hN : t.val < 12 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.EvenOutInput

namespace Cert.EvenOutInput.Reference

open Idealize.ShloMosaic Idealize.ShloMosaic.TcCoe Idealize.ShloMosaic.Pointwise
open Cert.Reference18Ideal Cert.Reference18Ideal.Gen

/-- The reference comes to the same. -/
theorem eq_product (x : Vec Ideal S8192x1024 .f32) (w : Vec Ideal S1536x1024 .bf16) :
    truncf .bf16 (Host.dotGeneral (F := Ideal) dot_S8192x1024_S1536x1024_S8192x1536_1_1_0_0_n_n none (φ₁ := .f32) x (extf .f32 w bitsLt_bf16_f32))
      bitsLt_bf16_f32 = Cert.EvenOutInput.product x w := by
  funext i
  unfold Cert.EvenOutInput.product
  clean_types
  pointwise

end Cert.EvenOutInput.Reference

end
-- ==== Proof.OddOut.lean ====
/- The projection out of the two attentions: block by block the product with the weight's
   columns, and the residual branch. -/
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddOut

open Idealize.ShloMosaic Idealize.ShloMosaic.TcCoe Idealize.SL.Sem Idealize.ShloMosaic.Pointwise
open Cert.Kernel19Ideal Cert.Kernel19Ideal.Gen

variable (m : (ℓ : Loc nD τ sig) → Buf (Elt Ideal) ℓ)

/-- The accumulator after the one step: the product of the point's blocks, over the zero it starts from. -/
theorem step (x : Vec Ideal S1024x1024 .bf16) (w : Vec Ideal S1024x1024 .bf16) (j : S1024x1024.Idx) :
    k0_pay2 (k0_pay1 (F := Ideal)) x w j = ∑ k : Fin 1024, x (ix2 (j 0) k) * w (ix2 k (j 1)) := by
  unfold k0_pay2 k0_pay1
  clean_types
  pointwise

/-- The factor of the residual branch: the fourth root of eight, as the single-precision number that both programs write. -/
def alpha : EReal := FloatOps.ofBits (F := Ideal) .f32 0x3FD744FD#32

/-- The last point adds the residual branch, times its factor. -/
theorem last (acc d : Vec Ideal S1024x1024 .f32) (j : S1024x1024.Idx) : k0_pay3 acc d j = acc j + alpha * d j := by
  unfold k0_pay3 alpha
  clean_types
  pointwise

/-- What a point writes back. -/
theorem written (c : Dev nD) (t : Fin cfg0.N) :
    outsAt0 m c t = k0_pay3 (k0_pay2 (k0_pay1 (F := Ideal)) (iblk m c 0 t) (iblk m c 1 t)) (iblk m c 2 t) := by
  unfold outsAt0
  frame_out

/-- The whole product, and the residual branch times its factor. -/
def total (x : Vec Ideal S8192x1024 .bf16) (w : Vec Ideal S1024x1024 .bf16) (d : Vec Ideal S8192x1024 .f32) : Vec Ideal S8192x1024 .f32 :=
  fun i => (∑ k : Fin 1024, x (ix2 (i 0) k) * w (ix2 k (i 1))) + alpha * d i

/-- Where a point's blocks lie in their arrays. -/
theorem places : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The result array after the run. -/
theorem array (c : Dev nD) : (dats m 0 c).arrAt 3 cfg0.N = total (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have hN : t.val < 8 := lt_of_lt_of_eq t.isLt N_0
  blk_simp
  rw [after0_3, written m c t, last, step]
  unfold total
  obtain ⟨e0, e1, e2, e3⟩ := places t
  refine congrArg₂ (· + ·) ?_ (congrArg (alpha * ·) ?_)
  · refine Finset.sum_congr (M := EReal) rfl fun k _ => ?_
    congr 1 <;> blk_ext [iblk, V, e0, e1, e3]
  · blk_ext [iblk, V, e2, e3]

end Cert.OddOut

namespace Cert.OddOut.Reference

open Idealize.ShloMosaic Idealize.ShloMosaic.TcCoe Idealize.ShloMosaic.Pointwise
open Cert.Reference19Ideal Cert.Reference19Ideal.Gen

/-- The reference comes to the same. -/
theorem eq_total (x : Vec Ideal S8192x1024 .bf16) (w : Vec Ideal S1024x1024 .bf16) (d : Vec Ideal S8192x1024 .f32) :
    addf (mulf (broadcastInDim S8192x1024 ![] bcast_S_S8192x1024 (constant S_ .f32 0x3FD744FD#32)) d)
      (Host.dotGeneral (F := Ideal) dot_S8192x1024_S1024x1024_S8192x1024_1_0_0_1_n_n none (extf .f32 x bitsLt_bf16_f32) (extf .f32 w bitsLt_bf16_f32)) = Cert.OddOut.total x w d := by
  funext i
  unfold Cert.OddOut.total Cert.OddOut.alpha
  clean_types
  pointwise
  exact add_comm _ _

end Cert.OddOut.Reference

end
-- ==== Proof.OddOutWeight.lean ====
/- The gradient of the weight that projects out of the two attentions: the kernel adds, over eight blocks of 1024 rows, the products of the
   blocks' columns, and the reference takes the product over all rows at once. -/
module

public import proofs.«01_k».proof.Defs
public import proofs.«01_k».proof.Proof.Gen.Kernel20Ideal.Value
public import proofs.«01_k».proof.Proof.Gen.Reference20Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddOutWeight

open Idealize.ShloMosaic Idealize.ShloMosaic.TcCoe Idealize.SL.Sem Idealize.ShloMosaic.Pointwise
open Cert.Kernel20Ideal Cert.Kernel20Ideal.Gen

variable (m : (ℓ : Loc nD τ sig) → Buf (Elt Ideal) ℓ)

/-- The product of two blocks at one place. -/
def part (x : Vec Ideal S1024x1024 .bf16) (g : Vec Ideal S1024x1024 .f32) (j : S1024x1024.Idx) : EReal :=
  ∑ k : Fin 1024, x (ix2 k (j 0)) * g (ix2 k (j 1))

/-- One step adds the product of the point's blocks to what the accumulator held. -/
theorem step (acc : Vec Ideal S1024x1024 .f32) (x : Vec Ideal S1024x1024 .bf16) (g : Vec Ideal S1024x1024 .f32) (j : S1024x1024.Idx) :
    k0_pay2 acc x g j = acc j + part x g j := by
  unfold k0_pay2 part
  clean_types
  pointwise

/-- The block that a run's first point starts from is zero. -/
theorem zero (j : S1024x1024.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S1024x1024.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x1024 .bf16) (g : Vec Ideal S8192x1024 .f32) : Vec Ideal S1024x1024 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, 0]
    ∧ win0_2.index t = ![0, 0] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.OddOutWeight

namespace Cert.OddOutWeight.Reference

open Idealize.ShloMosaic Idealize.ShloMosaic.TcCoe Idealize.ShloMosaic.Pointwise
open Cert.Reference20Ideal Cert.Reference20Ideal.Gen

/-- The reference comes to the same. -/
theorem eq_grad (x : Vec Ideal S8192x1024 .bf16) (g : Vec Ideal S8192x1024 .f32) :
    transpose S1024x1024 [1, 0] (Host.dotGeneral (F := Ideal) dot_S8192x1024_S8192x1024_S1024x1024_0_0_1_1_n_n none (φ₁ := .f32) g
      (extf .f32 x bitsLt_bf16_f32)) transposes_S1024x1024_S1024x1024_1_0 = Cert.OddOutWeight.grad x g := by
  funext i
  unfold Cert.OddOutWeight.grad
  clean_types
  pointwise
  exact Finset.sum_congr rfl fun k _ => mul_comm _ _

end Cert.OddOutWeight.Reference

end
-- ==== Proof.OddOutInput.lean ====
/- The gradient passed back to the two attentions: block by block the product with the
   weight's rows. -/
module

public import proofs.«01_k».proof.Defs
public import proofs.«01_k».proof.Proof.Gen.Kernel21Ideal.Value
public import proofs.«01_k».proof.Proof.Gen.Reference21Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.OddOutInput

open Idealize.ShloMosaic Idealize.ShloMosaic.TcCoe Idealize.SL.Sem Idealize.ShloMosaic.Pointwise
open Cert.Kernel21Ideal Cert.Kernel21Ideal.Gen

variable (m : (ℓ : Loc nD τ sig) → Buf (Elt Ideal) ℓ)

/-- The accumulator after the one step: the product of the point's blocks, over the zero it starts from. -/
theorem step (x : Vec Ideal S1024x1024 .f32) (w : Vec Ideal S1024x1024 .bf16) (j : S1024x1024.Idx) :
    k0_pay3 (k0_pay2 (k0_pay1 (F := Ideal)) x w) j = ∑ k : Fin 1024, x (ix2 (j 0) k) * w (ix2 (j 1) k) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The whole product. -/
def product (x : Vec Ideal S8192x1024 .f32) (w : Vec Ideal S1024x1024 .bf16) : Vec Ideal S8192x1024 .bf16 :=
  fun i => ∑ k : Fin 1024, x (ix2 (i 0) k) * w (ix2 (i 1) k)

/-- Where a point's blocks lie in their arrays. -/
theorem places : ∀ t : Fin cfg0.N, win0_0.index t = ![t.val, 0] ∧ win0_1.index t = ![0, 0]
    ∧ win0_2.index t = ![t.val, 0] :=
  (by decide +kernel : ∀ t : Fin grid0.N, _)

/-- The result array after the run. -/
theorem array (c : Dev nD) : (dats m 0 c).arrAt 2 cfg0.N = product (m ((c.tc : Thread nD τ).loc main_arg1)) (m ((c.tc : Thread nD τ).loc main_arg0)) := by
  refine (dats m 0 c).arrAt_eq_of_covers 2 _ (by decide +kernel) fun t hf y => ?_
  have hN : t.val < 8 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.OddOutInput

namespace Cert.OddOutInput.Reference

open Idealize.ShloMosaic Idealize.ShloMosaic.TcCoe Idealize.ShloMosaic.Pointwise
open Cert.Reference21Ideal Cert.Reference21Ideal.Gen

/-- The reference comes to the same. -/
theorem eq_product (x : Vec Ideal S8192x1024 .f32) (w : Vec Ideal S1024x1024 .bf16) :
    truncf .bf16 (Host.dotGeneral (F := Ideal) dot_S8192x1024_S1024x1024_S8192x1024_1_1_0_0_n_n none (φ₁ := .f32) x (extf .f32 w bitsLt_bf16_f32))
      bitsLt_bf16_f32 = Cert.OddOutInput.product x w := by
  funext i
  unfold Cert.OddOutInput.product
  clean_types
  pointwise

end Cert.OddOutInput.Reference

end
-- ==== Proof.Projections.lean ====
/- The claims about the calls of the projections into and out of the mixers: each form of each call, and each reference, runs to the end with its
   arguments unchanged, and over the extended reals each call's result is its reference's. -/
module

public import proofs.«01_k».proof.Defs
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.EvenIn
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.EvenInWeight
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.EvenInInput
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.OddIn
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.OddInWeight
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.OddInInput
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.EvenOut
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.EvenOutWeight
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.EvenOutInput
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.OddOut
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.OddOutWeight
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.OddOutInput
public import Idealize.ShloMosaic.Lib.Claim
public import Idealize.ShloMosaic.Lib.Quiescent

@[expose] public section

noncomputable section

namespace Cert.Projections

open Idealize.ShloMosaic Idealize.SL.Sem

/-! ## The projection into the pooling mixer and the state-space scan -/

/-- The compiled form and the ideal form have the same text. -/
theorem same10 : Cert.Kernel10.defs (F := Bits) = Cert.Kernel10Ideal.defs :=
  congrArg (Pipeline.defs Cert.Kernel10Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame10 : Cert.quiescent_Kernel10 := fun m g _ => by
  rw [same10]
  exact Cert.Kernel10Ideal.Gen.frame (F := Bits) m g

/-- Over the extended reals, the call runs to the end. -/
theorem frame10_ideal : Cert.quiescent_Kernel10Ideal := fun m g _ => Cert.Kernel10Ideal.Gen.frame (F := Ideal) m g

/-- Its reference runs to the end. -/
theorem frame10_reference : Cert.quiescent_Reference10Ideal := fun m g _ =>
  (θ_run (Cert.Reference10Ideal.defs (F := Ideal)) _ _).mono (fun _ h => ⟨fun c => (h c).2, sem_eq_zero_of_no_sems rfl _⟩) (Cert.Reference10Ideal.Value.run (F := Ideal) m g)

/-- Its result is its reference's. -/
theorem value10 : Cert.algebraic_Kernel10Ideal_Reference10Ideal := by
  intro m g m' g' _ hagree
  refine ⟨fun c => Cert.EvenIn.product (m ((c.tc : Thread Cert.Kernel10Ideal.nD Cert.Kernel10Ideal.τ).loc Cert.Kernel10Ideal.main_arg0))
          (m ((c.tc : Thread Cert.Kernel10Ideal.nD Cert.Kernel10Ideal.τ).loc Cert.Kernel10Ideal.main_arg1)), ?_, ?_⟩
  · exact (θ_run (Cert.Kernel10Ideal.defs (F := Ideal)) _ _).mono (fun _ h c => ⟨(h c).1.trans (Cert.EvenIn.array m c), (h c).2⟩) (Cert.Kernel10Ideal.Value.run_blocks (F := Ideal) m g)
  · refine (θ_run (Cert.Reference10Ideal.defs (F := Ideal)) _ _).mono (fun _ h c => ⟨(h c).1.trans ?_, (h c).2⟩) (Cert.Reference10Ideal.Value.run (F := Ideal) m' g')
    rw [(hagree c).1, (hagree c).2]
    exact Cert.EvenIn.Reference.eq_product _ _

/-! ## The gradient of that projection's weight -/

/-- The compiled form and the ideal form have the same text. -/
theorem same11 : Cert.Kernel11.defs (F := Bits) = Cert.Kernel11Ideal.defs :=
  congrArg (Pipeline.defs Cert.Kernel11Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame11 : Cert.quiescent_Kernel11 := fun m g _ => by
  rw [same11]
  exact Cert.Kernel11Ideal.Gen.frame (F := Bits) m g

/-- Over the extended reals, the call runs to the end. -/
theorem frame11_ideal : Cert.quiescent_Kernel11Ideal := fun m g _ => Cert.Kernel11Ideal.Gen.frame (F := Ideal) m g

/-- Its reference runs to the end. -/
theorem frame11_reference : Cert.quiescent_Reference11Ideal := fun m g _ =>
  (θ_run (Cert.Reference11Ideal.defs (F := Ideal)) _ _).mono (fun _ h => ⟨fun c => (h c).2, sem_eq_zero_of_no_sems rfl _⟩) (Cert.Reference11Ideal.Value.run (F := Ideal) m g)

/-- Its result is its reference's. -/
theorem value11 : Cert.algebraic_Kernel11Ideal_Reference11Ideal := by
  intro m g m' g' _ hagree
  refine ⟨fun c => Cert.EvenInWeight.grad (m ((c.tc : Thread Cert.Kernel11Ideal.nD Cert.Kernel11Ideal.τ).loc Cert.Kernel11Ideal.main_arg0))
          (m ((c.tc : Thread Cert.Kernel11Ideal.nD Cert.Kernel11Ideal.τ).loc Cert.Kernel11Ideal.main_arg1)), ?_, ?_⟩
  · exact (θ_run (Cert.Kernel11Ideal.defs (F := Ideal)) _ _).mono (fun _ h c => ⟨(h c).1.trans (Cert.EvenInWeight.array m c), (h c).2⟩) (Cert.Kernel11Ideal.Value.run_blocks (F := Ideal) m g)
  · refine (θ_run (Cert.Reference11Ideal.defs (F := Ideal)) _ _).mono (fun _ h c => ⟨(h c).1.trans ?_, (h c).2⟩) (Cert.Reference11Ideal.Value.run (F := Ideal) m' g')
    rw [(hagree c).1, (hagree c).2]
    exact Cert.EvenInWeight.Reference.eq_grad _ _

/-! ## The gradient of that projection's input -/

/-- The compiled form and the ideal form have the same text. -/
theorem same12 : Cert.Kernel12.defs (F := Bits) = Cert.Kernel12Ideal.defs :=
  congrArg (Pipeline.defs Cert.Kernel12Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame12 : Cert.quiescent_Kernel12 := fun m g _ => by
  rw [same12]
  exact Cert.Kernel12Ideal.Gen.frame (F := Bits) m g

/-- Over the extended reals, the call runs to the end. -/
theorem frame12_ideal : Cert.quiescent_Kernel12Ideal := fun m g _ => Cert.Kernel12Ideal.Gen.frame (F := Ideal) m g

/-- Its reference runs to the end. -/
theorem frame12_reference : Cert.quiescent_Reference12Ideal := fun m g _ =>
  (θ_run (Cert.Reference12Ideal.defs (F := Ideal)) _ _).mono (fun _ h => ⟨fun c => (h c).2, sem_eq_zero_of_no_sems rfl _⟩) (Cert.Reference12Ideal.Value.run (F := Ideal) m g)

/-- Its result is its reference's. -/
theorem value12 : Cert.algebraic_Kernel12Ideal_Reference12Ideal := by
  intro m g m' g' _ hagree
  refine ⟨fun c => Cert.EvenInInput.total (m ((c.tc : Thread Cert.Kernel12Ideal.nD Cert.Kernel12Ideal.τ).loc Cert.Kernel12Ideal.main_arg2))
          (m ((c.tc : Thread Cert.Kernel12Ideal.nD Cert.Kernel12Ideal.τ).loc Cert.Kernel12Ideal.main_arg0))
          (m ((c.tc : Thread Cert.Kernel12Ideal.nD Cert.Kernel12Ideal.τ).loc Cert.Kernel12Ideal.main_arg1)), ?_, ?_⟩
  · exact (θ_run (Cert.Kernel12Ideal.defs (F := Ideal)) _ _).mono (fun _ h c => ⟨(h c).1.trans (Cert.EvenInInput.array m c), (h c).2⟩) (Cert.Kernel12Ideal.Value.run_blocks (F := Ideal) m g)
  · refine (θ_run (Cert.Reference12Ideal.defs (F := Ideal)) _ _).mono (fun _ h c => ⟨(h c).1.trans ?_, (h c).2⟩) (Cert.Reference12Ideal.Value.run (F := Ideal) m' g')
    rw [(hagree c).1, (hagree c).2.1, (hagree c).2.2]
    exact Cert.EvenInInput.Reference.eq_total _ _ _

/-! ## The projection into the two attentions -/

/-- The compiled form and the ideal form have the same text. -/
theorem same13 : Cert.Kernel13.defs (F := Bits) = Cert.Kernel13Ideal.defs :=
  congrArg (Pipeline.defs Cert.Kernel13Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame13 : Cert.quiescent_Kernel13 := fun m g _ => by
  rw [same13]
  exact Cert.Kernel13Ideal.Gen.frame (F := Bits) m g

/-- Over the extended reals, the call runs to the end. -/
theorem frame13_ideal : Cert.quiescent_Kernel13Ideal := fun m g _ => Cert.Kernel13Ideal.Gen.frame (F := Ideal) m g

/-- Its reference runs to the end. -/
theorem frame13_reference : Cert.quiescent_Reference13Ideal := fun m g _ =>
  (θ_run (Cert.Reference13Ideal.defs (F := Ideal)) _ _).mono (fun _ h => ⟨fun c => (h c).2, sem_eq_zero_of_no_sems rfl _⟩) (Cert.Reference13Ideal.Value.run (F := Ideal) m g)

/-- Its result is its reference's. -/
theorem value13 : Cert.algebraic_Kernel13Ideal_Reference13Ideal := by
  intro m g m' g' _ hagree
  refine ⟨fun c => Cert.OddIn.product (m ((c.tc : Thread Cert.Kernel13Ideal.nD Cert.Kernel13Ideal.τ).loc Cert.Kernel13Ideal.main_arg0))
          (m ((c.tc : Thread Cert.Kernel13Ideal.nD Cert.Kernel13Ideal.τ).loc Cert.Kernel13Ideal.main_arg1)), ?_, ?_⟩
  · exact (θ_run (Cert.Kernel13Ideal.defs (F := Ideal)) _ _).mono (fun _ h c => ⟨(h c).1.trans (Cert.OddIn.array m c), (h c).2⟩) (Cert.Kernel13Ideal.Value.run_blocks (F := Ideal) m g)
  · refine (θ_run (Cert.Reference13Ideal.defs (F := Ideal)) _ _).mono (fun _ h c => ⟨(h c).1.trans ?_, (h c).2⟩) (Cert.Reference13Ideal.Value.run (F := Ideal) m' g')
    rw [(hagree c).1, (hagree c).2]
    exact Cert.OddIn.Reference.eq_product _ _

/-! ## The gradient of that projection's weight -/

/-- The compiled form and the ideal form have the same text. -/
theorem same14 : Cert.Kernel14.defs (F := Bits) = Cert.Kernel14Ideal.defs :=
  congrArg (Pipeline.defs Cert.Kernel14Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame14 : Cert.quiescent_Kernel14 := fun m g _ => by
  rw [same14]
  exact Cert.Kernel14Ideal.Gen.frame (F := Bits) m g

/-- Over the extended reals, the call runs to the end. -/
theorem frame14_ideal : Cert.quiescent_Kernel14Ideal := fun m g _ => Cert.Kernel14Ideal.Gen.frame (F := Ideal) m g

/-- Its reference runs to the end. -/
theorem frame14_reference : Cert.quiescent_Reference14Ideal := fun m g _ =>
  (θ_run (Cert.Reference14Ideal.defs (F := Ideal)) _ _).mono (fun _ h => ⟨fun c => (h c).2, sem_eq_zero_of_no_sems rfl _⟩) (Cert.Reference14Ideal.Value.run (F := Ideal) m g)

/-- Its result is its reference's. -/
theorem value14 : Cert.algebraic_Kernel14Ideal_Reference14Ideal := by
  intro m g m' g' _ hagree
  refine ⟨fun c => Cert.OddInWeight.grad (m ((c.tc : Thread Cert.Kernel14Ideal.nD Cert.Kernel14Ideal.τ).loc Cert.Kernel14Ideal.main_arg0))
          (m ((c.tc : Thread Cert.Kernel14Ideal.nD Cert.Kernel14Ideal.τ).loc Cert.Kernel14Ideal.main_arg1)), ?_, ?_⟩
  · exact (θ_run (Cert.Kernel14Ideal.defs (F := Ideal)) _ _).mono (fun _ h c => ⟨(h c).1.trans (Cert.OddInWeight.array m c), (h c).2⟩) (Cert.Kernel14Ideal.Value.run_blocks (F := Ideal) m g)
  · refine (θ_run (Cert.Reference14Ideal.defs (F := Ideal)) _ _).mono (fun _ h c => ⟨(h c).1.trans ?_, (h c).2⟩) (Cert.Reference14Ideal.Value.run (F := Ideal) m' g')
    rw [(hagree c).1, (hagree c).2]
    exact Cert.OddInWeight.Reference.eq_grad _ _

/-! ## The gradient of that projection's input -/

/-- The compiled form and the ideal form have the same text. -/
theorem same15 : Cert.Kernel15.defs (F := Bits) = Cert.Kernel15Ideal.defs :=
  congrArg (Pipeline.defs Cert.Kernel15Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame15 : Cert.quiescent_Kernel15 := fun m g _ => by
  rw [same15]
  exact Cert.Kernel15Ideal.Gen.frame (F := Bits) m g

/-- Over the extended reals, the call runs to the end. -/
theorem frame15_ideal : Cert.quiescent_Kernel15Ideal := fun m g _ => Cert.Kernel15Ideal.Gen.frame (F := Ideal) m g

/-- Its reference runs to the end. -/
theorem frame15_reference : Cert.quiescent_Reference15Ideal := fun m g _ =>
  (θ_run (Cert.Reference15Ideal.defs (F := Ideal)) _ _).mono (fun _ h => ⟨fun c => (h c).2, sem_eq_zero_of_no_sems rfl _⟩) (Cert.Reference15Ideal.Value.run (F := Ideal) m g)

/-- Its result is its reference's. -/
theorem value15 : Cert.algebraic_Kernel15Ideal_Reference15Ideal := by
  intro m g m' g' _ hagree
  refine ⟨fun c => Cert.OddInInput.total (m ((c.tc : Thread Cert.Kernel15Ideal.nD Cert.Kernel15Ideal.τ).loc Cert.Kernel15Ideal.main_arg2))
          (m ((c.tc : Thread Cert.Kernel15Ideal.nD Cert.Kernel15Ideal.τ).loc Cert.Kernel15Ideal.main_arg0))
          (m ((c.tc : Thread Cert.Kernel15Ideal.nD Cert.Kernel15Ideal.τ).loc Cert.Kernel15Ideal.main_arg1)), ?_, ?_⟩
  · exact (θ_run (Cert.Kernel15Ideal.defs (F := Ideal)) _ _).mono (fun _ h c => ⟨(h c).1.trans (Cert.OddInInput.array m c), (h c).2⟩) (Cert.Kernel15Ideal.Value.run_blocks (F := Ideal) m g)
  · refine (θ_run (Cert.Reference15Ideal.defs (F := Ideal)) _ _).mono (fun _ h c => ⟨(h c).1.trans ?_, (h c).2⟩) (Cert.Reference15Ideal.Value.run (F := Ideal) m' g')
    rw [(hagree c).1, (hagree c).2.1, (hagree c).2.2]
    exact Cert.OddInInput.Reference.eq_total _ _ _

/-! ## The projection out of the pooling mixer and the state-space scan -/

/-- The compiled form and the ideal form have the same text. -/
theorem same16 : Cert.Kernel16.defs (F := Bits) = Cert.Kernel16Ideal.defs :=
  congrArg (Pipeline.defs Cert.Kernel16Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame16 : Cert.quiescent_Kernel16 := fun m g _ => by
  rw [same16]
  exact Cert.Kernel16Ideal.Gen.frame (F := Bits) m g

/-- Over the extended reals, the call runs to the end. -/
theorem frame16_ideal : Cert.quiescent_Kernel16Ideal := fun m g _ => Cert.Kernel16Ideal.Gen.frame (F := Ideal) m g

/-- Its reference runs to the end. -/
theorem frame16_reference : Cert.quiescent_Reference16Ideal := fun m g _ =>
  (θ_run (Cert.Reference16Ideal.defs (F := Ideal)) _ _).mono (fun _ h => ⟨fun c => (h c).2, sem_eq_zero_of_no_sems rfl _⟩) (Cert.Reference16Ideal.Value.run (F := Ideal) m g)

/-- Its result is its reference's. -/
theorem value16 : Cert.algebraic_Kernel16Ideal_Reference16Ideal := by
  intro m g m' g' _ hagree
  refine ⟨fun c => Cert.EvenOut.total (m ((c.tc : Thread Cert.Kernel16Ideal.nD Cert.Kernel16Ideal.τ).loc Cert.Kernel16Ideal.main_arg0))
          (m ((c.tc : Thread Cert.Kernel16Ideal.nD Cert.Kernel16Ideal.τ).loc Cert.Kernel16Ideal.main_arg1))
          (m ((c.tc : Thread Cert.Kernel16Ideal.nD Cert.Kernel16Ideal.τ).loc Cert.Kernel16Ideal.main_arg2)), ?_, ?_⟩
  · exact (θ_run (Cert.Kernel16Ideal.defs (F := Ideal)) _ _).mono (fun _ h c => ⟨(h c).1.trans (Cert.EvenOut.array m c), (h c).2⟩) (Cert.Kernel16Ideal.Value.run_blocks (F := Ideal) m g)
  · refine (θ_run (Cert.Reference16Ideal.defs (F := Ideal)) _ _).mono (fun _ h c => ⟨(h c).1.trans ?_, (h c).2⟩) (Cert.Reference16Ideal.Value.run (F := Ideal) m' g')
    rw [(hagree c).1, (hagree c).2.1, (hagree c).2.2]
    exact Cert.EvenOut.Reference.eq_total _ _ _

/-! ## The gradient of that projection's weight -/

/-- The compiled form and the ideal form have the same text. -/
theorem same17 : Cert.Kernel17.defs (F := Bits) = Cert.Kernel17Ideal.defs :=
  congrArg (Pipeline.defs Cert.Kernel17Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame17 : Cert.quiescent_Kernel17 := fun m g _ => by
  rw [same17]
  exact Cert.Kernel17Ideal.Gen.frame (F := Bits) m g

/-- Over the extended reals, the call runs to the end. -/
theorem frame17_ideal : Cert.quiescent_Kernel17Ideal := fun m g _ => Cert.Kernel17Ideal.Gen.frame (F := Ideal) m g

/-- Its reference runs to the end. -/
theorem frame17_reference : Cert.quiescent_Reference17Ideal := fun m g _ =>
  (θ_run (Cert.Reference17Ideal.defs (F := Ideal)) _ _).mono (fun _ h => ⟨fun c => (h c).2, sem_eq_zero_of_no_sems rfl _⟩) (Cert.Reference17Ideal.Value.run (F := Ideal) m g)

/-- Its result is its reference's. -/
theorem value17 : Cert.algebraic_Kernel17Ideal_Reference17Ideal := by
  intro m g m' g' _ hagree
  refine ⟨fun c => Cert.EvenOutWeight.grad (m ((c.tc : Thread Cert.Kernel17Ideal.nD Cert.Kernel17Ideal.τ).loc Cert.Kernel17Ideal.main_arg0))
          (m ((c.tc : Thread Cert.Kernel17Ideal.nD Cert.Kernel17Ideal.τ).loc Cert.Kernel17Ideal.main_arg1)), ?_, ?_⟩
  · exact (θ_run (Cert.Kernel17Ideal.defs (F := Ideal)) _ _).mono (fun _ h c => ⟨(h c).1.trans (Cert.EvenOutWeight.array m c), (h c).2⟩) (Cert.Kernel17Ideal.Value.run_blocks (F := Ideal) m g)
  · refine (θ_run (Cert.Reference17Ideal.defs (F := Ideal)) _ _).mono (fun _ h c => ⟨(h c).1.trans ?_, (h c).2⟩) (Cert.Reference17Ideal.Value.run (F := Ideal) m' g')
    rw [(hagree c).1, (hagree c).2]
    exact Cert.EvenOutWeight.Reference.eq_grad _ _

/-! ## The gradient of that projection's input -/

/-- The compiled form and the ideal form have the same text. -/
theorem same18 : Cert.Kernel18.defs (F := Bits) = Cert.Kernel18Ideal.defs :=
  congrArg (Pipeline.defs Cert.Kernel18Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame18 : Cert.quiescent_Kernel18 := fun m g _ => by
  rw [same18]
  exact Cert.Kernel18Ideal.Gen.frame (F := Bits) m g

/-- Over the extended reals, the call runs to the end. -/
theorem frame18_ideal : Cert.quiescent_Kernel18Ideal := fun m g _ => Cert.Kernel18Ideal.Gen.frame (F := Ideal) m g

/-- Its reference runs to the end. -/
theorem frame18_reference : Cert.quiescent_Reference18Ideal := fun m g _ =>
  (θ_run (Cert.Reference18Ideal.defs (F := Ideal)) _ _).mono (fun _ h => ⟨fun c => (h c).2, sem_eq_zero_of_no_sems rfl _⟩) (Cert.Reference18Ideal.Value.run (F := Ideal) m g)

/-- Its result is its reference's. -/
theorem value18 : Cert.algebraic_Kernel18Ideal_Reference18Ideal := by
  intro m g m' g' _ hagree
  refine ⟨fun c => Cert.EvenOutInput.product (m ((c.tc : Thread Cert.Kernel18Ideal.nD Cert.Kernel18Ideal.τ).loc Cert.Kernel18Ideal.main_arg1))
          (m ((c.tc : Thread Cert.Kernel18Ideal.nD Cert.Kernel18Ideal.τ).loc Cert.Kernel18Ideal.main_arg0)), ?_, ?_⟩
  · exact (θ_run (Cert.Kernel18Ideal.defs (F := Ideal)) _ _).mono (fun _ h c => ⟨(h c).1.trans (Cert.EvenOutInput.array m c), (h c).2⟩) (Cert.Kernel18Ideal.Value.run_blocks (F := Ideal) m g)
  · refine (θ_run (Cert.Reference18Ideal.defs (F := Ideal)) _ _).mono (fun _ h c => ⟨(h c).1.trans ?_, (h c).2⟩) (Cert.Reference18Ideal.Value.run (F := Ideal) m' g')
    rw [(hagree c).1, (hagree c).2]
    exact Cert.EvenOutInput.Reference.eq_product _ _

/-! ## The projection out of the two attentions -/

/-- The compiled form and the ideal form have the same text. -/
theorem same19 : Cert.Kernel19.defs (F := Bits) = Cert.Kernel19Ideal.defs :=
  congrArg (Pipeline.defs Cert.Kernel19Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame19 : Cert.quiescent_Kernel19 := fun m g _ => by
  rw [same19]
  exact Cert.Kernel19Ideal.Gen.frame (F := Bits) m g

/-- Over the extended reals, the call runs to the end. -/
theorem frame19_ideal : Cert.quiescent_Kernel19Ideal := fun m g _ => Cert.Kernel19Ideal.Gen.frame (F := Ideal) m g

/-- Its reference runs to the end. -/
theorem frame19_reference : Cert.quiescent_Reference19Ideal := fun m g _ =>
  (θ_run (Cert.Reference19Ideal.defs (F := Ideal)) _ _).mono (fun _ h => ⟨fun c => (h c).2, sem_eq_zero_of_no_sems rfl _⟩) (Cert.Reference19Ideal.Value.run (F := Ideal) m g)

/-- Its result is its reference's. -/
theorem value19 : Cert.algebraic_Kernel19Ideal_Reference19Ideal := by
  intro m g m' g' _ hagree
  refine ⟨fun c => Cert.OddOut.total (m ((c.tc : Thread Cert.Kernel19Ideal.nD Cert.Kernel19Ideal.τ).loc Cert.Kernel19Ideal.main_arg0))
          (m ((c.tc : Thread Cert.Kernel19Ideal.nD Cert.Kernel19Ideal.τ).loc Cert.Kernel19Ideal.main_arg1))
          (m ((c.tc : Thread Cert.Kernel19Ideal.nD Cert.Kernel19Ideal.τ).loc Cert.Kernel19Ideal.main_arg2)), ?_, ?_⟩
  · exact (θ_run (Cert.Kernel19Ideal.defs (F := Ideal)) _ _).mono (fun _ h c => ⟨(h c).1.trans (Cert.OddOut.array m c), (h c).2⟩) (Cert.Kernel19Ideal.Value.run_blocks (F := Ideal) m g)
  · refine (θ_run (Cert.Reference19Ideal.defs (F := Ideal)) _ _).mono (fun _ h c => ⟨(h c).1.trans ?_, (h c).2⟩) (Cert.Reference19Ideal.Value.run (F := Ideal) m' g')
    rw [(hagree c).1, (hagree c).2.1, (hagree c).2.2]
    exact Cert.OddOut.Reference.eq_total _ _ _

/-! ## The gradient of that projection's weight -/

/-- The compiled form and the ideal form have the same text. -/
theorem same20 : Cert.Kernel20.defs (F := Bits) = Cert.Kernel20Ideal.defs :=
  congrArg (Pipeline.defs Cert.Kernel20Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame20 : Cert.quiescent_Kernel20 := fun m g _ => by
  rw [same20]
  exact Cert.Kernel20Ideal.Gen.frame (F := Bits) m g

/-- Over the extended reals, the call runs to the end. -/
theorem frame20_ideal : Cert.quiescent_Kernel20Ideal := fun m g _ => Cert.Kernel20Ideal.Gen.frame (F := Ideal) m g

/-- Its reference runs to the end. -/
theorem frame20_reference : Cert.quiescent_Reference20Ideal := fun m g _ =>
  (θ_run (Cert.Reference20Ideal.defs (F := Ideal)) _ _).mono (fun _ h => ⟨fun c => (h c).2, sem_eq_zero_of_no_sems rfl _⟩) (Cert.Reference20Ideal.Value.run (F := Ideal) m g)

/-- Its result is its reference's. -/
theorem value20 : Cert.algebraic_Kernel20Ideal_Reference20Ideal := by
  intro m g m' g' _ hagree
  refine ⟨fun c => Cert.OddOutWeight.grad (m ((c.tc : Thread Cert.Kernel20Ideal.nD Cert.Kernel20Ideal.τ).loc Cert.Kernel20Ideal.main_arg0))
          (m ((c.tc : Thread Cert.Kernel20Ideal.nD Cert.Kernel20Ideal.τ).loc Cert.Kernel20Ideal.main_arg1)), ?_, ?_⟩
  · exact (θ_run (Cert.Kernel20Ideal.defs (F := Ideal)) _ _).mono (fun _ h c => ⟨(h c).1.trans (Cert.OddOutWeight.array m c), (h c).2⟩) (Cert.Kernel20Ideal.Value.run_blocks (F := Ideal) m g)
  · refine (θ_run (Cert.Reference20Ideal.defs (F := Ideal)) _ _).mono (fun _ h c => ⟨(h c).1.trans ?_, (h c).2⟩) (Cert.Reference20Ideal.Value.run (F := Ideal) m' g')
    rw [(hagree c).1, (hagree c).2]
    exact Cert.OddOutWeight.Reference.eq_grad _ _

/-! ## The gradient of that projection's input -/

/-- The compiled form and the ideal form have the same text. -/
theorem same21 : Cert.Kernel21.defs (F := Bits) = Cert.Kernel21Ideal.defs :=
  congrArg (Pipeline.defs Cert.Kernel21Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame21 : Cert.quiescent_Kernel21 := fun m g _ => by
  rw [same21]
  exact Cert.Kernel21Ideal.Gen.frame (F := Bits) m g

/-- Over the extended reals, the call runs to the end. -/
theorem frame21_ideal : Cert.quiescent_Kernel21Ideal := fun m g _ => Cert.Kernel21Ideal.Gen.frame (F := Ideal) m g

/-- Its reference runs to the end. -/
theorem frame21_reference : Cert.quiescent_Reference21Ideal := fun m g _ =>
  (θ_run (Cert.Reference21Ideal.defs (F := Ideal)) _ _).mono (fun _ h => ⟨fun c => (h c).2, sem_eq_zero_of_no_sems rfl _⟩) (Cert.Reference21Ideal.Value.run (F := Ideal) m g)

/-- Its result is its reference's. -/
theorem value21 : Cert.algebraic_Kernel21Ideal_Reference21Ideal := by
  intro m g m' g' _ hagree
  refine ⟨fun c => Cert.OddOutInput.product (m ((c.tc : Thread Cert.Kernel21Ideal.nD Cert.Kernel21Ideal.τ).loc Cert.Kernel21Ideal.main_arg1))
          (m ((c.tc : Thread Cert.Kernel21Ideal.nD Cert.Kernel21Ideal.τ).loc Cert.Kernel21Ideal.main_arg0)), ?_, ?_⟩
  · exact (θ_run (Cert.Kernel21Ideal.defs (F := Ideal)) _ _).mono (fun _ h c => ⟨(h c).1.trans (Cert.OddOutInput.array m c), (h c).2⟩) (Cert.Kernel21Ideal.Value.run_blocks (F := Ideal) m g)
  · refine (θ_run (Cert.Reference21Ideal.defs (F := Ideal)) _ _).mono (fun _ h c => ⟨(h c).1.trans ?_, (h c).2⟩) (Cert.Reference21Ideal.Value.run (F := Ideal) m' g')
    rw [(hagree c).1, (hagree c).2]
    exact Cert.OddOutInput.Reference.eq_product _ _

end Cert.Projections

end
-- ==== Proof.Query.lean ====
/- The latent attention's queries, from their normalised low-rank form: block by block the product with the weight's
   columns. -/
module

public import proofs.«01_k».proof.Defs
public import proofs.«01_k».proof.Proof.Gen.Kernel22Ideal.Value
public import proofs.«01_k».proof.Proof.Gen.Reference22Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.Query

open Idealize.ShloMosaic Idealize.ShloMosaic.TcCoe Idealize.SL.Sem Idealize.ShloMosaic.Pointwise
open Cert.Kernel22Ideal Cert.Kernel22Ideal.Gen

variable (m : (ℓ : Loc nD τ sig) → Buf (Elt Ideal) ℓ)

/-- The accumulator after the one step: the product of the point's blocks, over the zero it starts from. -/
theorem step (x : Vec Ideal S1024x512 .bf16) (w : Vec Ideal S512x768 .bf16) (j : S1024x768.Idx) :
    k0_pay2 (k0_pay1 (F := Ideal)) x w j = ∑ k : Fin 512, x (ix2 (j 0) k) * w (ix2 k (j 1)) := by
  unfold k0_pay2 k0_pay1
  clean_types
  pointwise

/-- What a point writes back. -/
theorem written (c : Dev nD) (t : Fin cfg0.N) :
    outsAt0 m c t = k0_pay2 (k0_pay1 (F := Ideal)) (iblk m c 0 t) (iblk m c 1 t) := by
  unfold outsAt0
  frame_out

/-- The whole product. -/
def product (x : Vec Ideal S8192x512 .bf16) (w : Vec Ideal S512x768 .bf16) : Vec Ideal S8192x768 .f32 :=
  fun i => ∑ k : Fin 512, x (ix2 (i 0) k) * w (ix2 k (i 1))

/-- Where a point's blocks lie in their arrays. -/
theorem places : ∀ t : Fin cfg0.N, win0_0.index t = ![t.val, 0] ∧ win0_1.index t = ![0, 0]
    ∧ win0_2.index t = ![t.val, 0] :=
  (by decide +kernel : ∀ t : Fin grid0.N, _)

/-- The result array after the run. -/
theorem array (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN : t.val < 8 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.Query

namespace Cert.Query.Reference

open Idealize.ShloMosaic Idealize.ShloMosaic.TcCoe Idealize.ShloMosaic.Pointwise
open Cert.Reference22Ideal Cert.Reference22Ideal.Gen

/-- The reference comes to the same. -/
theorem eq_product (x : Vec Ideal S8192x512 .bf16) (w : Vec Ideal S512x768 .bf16) :
    Host.dotGeneral (F := Ideal) dot_S8192x512_S512x768_S8192x768_1_0_0_1_n_n none (extf .f32 x bitsLt_bf16_f32) (extf .f32 w bitsLt_bf16_f32) = Cert.Query.product x w := by
  funext i
  unfold Cert.Query.product
  clean_types
  pointwise

end Cert.Query.Reference

end
-- ==== Proof.QueryWeight.lean ====
/- The gradient of the weight of the latent attention's queries: the kernel adds, over eight blocks of 1024 rows, the products of the
   blocks' columns, and the reference takes the product over all rows at once. -/
module

public import proofs.«01_k».proof.Defs
public import proofs.«01_k».proof.Proof.Gen.Kernel23Ideal.Value
public import proofs.«01_k».proof.Proof.Gen.Reference23Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.QueryWeight

open Idealize.ShloMosaic Idealize.ShloMosaic.TcCoe Idealize.SL.Sem Idealize.ShloMosaic.Pointwise
open Cert.Kernel23Ideal Cert.Kernel23Ideal.Gen

variable (m : (ℓ : Loc nD τ sig) → Buf (Elt Ideal) ℓ)

/-- The product of two blocks at one place. -/
def part (x : Vec Ideal S1024x512 .bf16) (g : Vec Ideal S1024x768 .f32) (j : S512x768.Idx) : EReal :=
  ∑ k : Fin 1024, x (ix2 k (j 0)) * g (ix2 k (j 1))

/-- One step adds the product of the point's blocks to what the accumulator held. -/
theorem step (acc : Vec Ideal S512x768 .f32) (x : Vec Ideal S1024x512 .bf16) (g : Vec Ideal S1024x768 .f32) (j : S512x768.Idx) :
    k0_pay2 acc x g j = acc j + part x g j := by
  unfold k0_pay2 part
  clean_types
  pointwise

/-- The block that a run's first point starts from is zero. -/
theorem zero (j : S512x768.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S512x768.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x512 .bf16) (g : Vec Ideal S8192x768 .f32) : Vec Ideal S512x768 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, 0]
    ∧ win0_2.index t = ![0, 0] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.QueryWeight

namespace Cert.QueryWeight.Reference

open Idealize.ShloMosaic Idealize.ShloMosaic.TcCoe Idealize.ShloMosaic.Pointwise
open Cert.Reference23Ideal Cert.Reference23Ideal.Gen

/-- The reference comes to the same. -/
theorem eq_grad (x : Vec Ideal S8192x512 .bf16) (g : Vec Ideal S8192x768 .f32) :
    transpose S512x768 [1, 0] (Host.dotGeneral (F := Ideal) dot_S8192x768_S8192x512_S768x512_0_0_1_1_n_n none (φ₁ := .f32) g
      (extf .f32 x bitsLt_bf16_f32)) transposes_S768x512_S512x768_1_0 = Cert.QueryWeight.grad x g := by
  funext i
  unfold Cert.QueryWeight.grad
  clean_types
  pointwise
  exact Finset.sum_congr rfl fun k _ => mul_comm _ _

end Cert.QueryWeight.Reference

end
-- ==== Proof.QueryInput.lean ====
/- The gradient of the queries' low-rank form: block by block the product with the
   weight's rows. -/
module

public import proofs.«01_k».proof.Defs
public import proofs.«01_k».proof.Proof.Gen.Kernel24Ideal.Value
public import proofs.«01_k».proof.Proof.Gen.Reference24Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.QueryInput

open Idealize.ShloMosaic Idealize.ShloMosaic.TcCoe Idealize.SL.Sem Idealize.ShloMosaic.Pointwise
open Cert.Kernel24Ideal Cert.Kernel24Ideal.Gen

variable (m : (ℓ : Loc nD τ sig) → Buf (Elt Ideal) ℓ)

/-- The accumulator after the one step: the product of the point's blocks, over the zero it starts from. -/
theorem step (x : Vec Ideal S2048x768 .f32) (w : Vec Ideal S512x768 .bf16) (j : S2048x512.Idx) :
    k0_pay3 (k0_pay2 (k0_pay1 (F := Ideal)) x w) j = ∑ k : Fin 768, x (ix2 (j 0) k) * w (ix2 (j 1) k) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The whole product. -/
def product (x : Vec Ideal S8192x768 .f32) (w : Vec Ideal S512x768 .bf16) : Vec Ideal S8192x512 .bf16 :=
  fun i => ∑ k : Fin 768, x (ix2 (i 0) k) * w (ix2 (i 1) k)

/-- Where a point's blocks lie in their arrays. -/
theorem places : ∀ t : Fin cfg0.N, win0_0.index t = ![t.val, 0] ∧ win0_1.index t = ![0, 0]
    ∧ win0_2.index t = ![t.val, 0] :=
  (by decide +kernel : ∀ t : Fin grid0.N, _)

/-- The result array after the run. -/
theorem array (c : Dev nD) : (dats m 0 c).arrAt 2 cfg0.N = product (m ((c.tc : Thread nD τ).loc main_arg1)) (m ((c.tc : Thread nD τ).loc main_arg0)) := by
  refine (dats m 0 c).arrAt_eq_of_covers 2 _ (by decide +kernel) fun t hf y => ?_
  have hN : t.val < 4 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.QueryInput

namespace Cert.QueryInput.Reference

open Idealize.ShloMosaic Idealize.ShloMosaic.TcCoe Idealize.ShloMosaic.Pointwise
open Cert.Reference24Ideal Cert.Reference24Ideal.Gen

/-- The reference comes to the same. -/
theorem eq_product (x : Vec Ideal S8192x768 .f32) (w : Vec Ideal S512x768 .bf16) :
    truncf .bf16 (Host.dotGeneral (F := Ideal) dot_S8192x768_S512x768_S8192x512_1_1_0_0_n_n none (φ₁ := .f32) x (extf .f32 w bitsLt_bf16_f32))
      bitsLt_bf16_f32 = Cert.QueryInput.product x w := by
  funext i
  unfold Cert.QueryInput.product
  clean_types
  pointwise

end Cert.QueryInput.Reference

end
-- ==== Proof.KeyValue.lean ====
/- The latent attention's keys and values, from their normalised low-rank form: block by block the product with the weight's
   columns. -/
module

public import proofs.«01_k».proof.Defs
public import proofs.«01_k».proof.Proof.Gen.Kernel25Ideal.Value
public import proofs.«01_k».proof.Proof.Gen.Reference25Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.KeyValue

open Idealize.ShloMosaic Idealize.ShloMosaic.TcCoe Idealize.SL.Sem Idealize.ShloMosaic.Pointwise
open Cert.Kernel25Ideal Cert.Kernel25Ideal.Gen

variable (m : (ℓ : Loc nD τ sig) → Buf (Elt Ideal) ℓ)

/-- The accumulator after the one step: the product of the point's blocks, over the zero it starts from. -/
theorem step (x : Vec Ideal S1024x256 .bf16) (w : Vec Ideal S256x1024 .bf16) (j : S1024x1024.Idx) :
    k0_pay3 (k0_pay2 (k0_pay1 (F := Ideal)) x w) j = ∑ k : Fin 256, x (ix2 (j 0) k) * w (ix2 k (j 1)) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The whole product. -/
def product (x : Vec Ideal S8192x256 .bf16) (w : Vec Ideal S256x1024 .bf16) : Vec Ideal S8192x1024 .bf16 :=
  fun i => ∑ k : Fin 256, x (ix2 (i 0) k) * w (ix2 k (i 1))

/-- Where a point's blocks lie in their arrays. -/
theorem places : ∀ t : Fin cfg0.N, win0_0.index t = ![t.val, 0] ∧ win0_1.index t = ![0, 0]
    ∧ win0_2.index t = ![t.val, 0] :=
  (by decide +kernel : ∀ t : Fin grid0.N, _)

/-- The result array after the run. -/
theorem array (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hN : t.val < 8 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.KeyValue

namespace Cert.KeyValue.Reference

open Idealize.ShloMosaic Idealize.ShloMosaic.TcCoe Idealize.ShloMosaic.Pointwise
open Cert.Reference25Ideal Cert.Reference25Ideal.Gen

/-- The reference comes to the same. -/
theorem eq_product (x : Vec Ideal S8192x256 .bf16) (w : Vec Ideal S256x1024 .bf16) :
    truncf .bf16 (Host.dotGeneral (F := Ideal) dot_S8192x256_S256x1024_S8192x1024_1_0_0_1_n_n none (extf .f32 x bitsLt_bf16_f32) (extf .f32 w bitsLt_bf16_f32))
      bitsLt_bf16_f32 = Cert.KeyValue.product x w := by
  funext i
  unfold Cert.KeyValue.product
  clean_types
  pointwise

end Cert.KeyValue.Reference

end
-- ==== Proof.KeyValueWeight.lean ====
/- The gradient of the weight of the latent attention's keys and values: the kernel adds, over eight blocks of 1024 rows, the products of the
   blocks' columns, and the reference takes the product over all rows at once. -/
module

public import proofs.«01_k».proof.Defs
public import proofs.«01_k».proof.Proof.Gen.Kernel26Ideal.Value
public import proofs.«01_k».proof.Proof.Gen.Reference26Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.KeyValueWeight

open Idealize.ShloMosaic Idealize.ShloMosaic.TcCoe Idealize.SL.Sem Idealize.ShloMosaic.Pointwise
open Cert.Kernel26Ideal Cert.Kernel26Ideal.Gen

variable (m : (ℓ : Loc nD τ sig) → Buf (Elt Ideal) ℓ)

/-- The product of two blocks at one place. -/
def part (x : Vec Ideal S1024x256 .bf16) (g : Vec Ideal S1024x1024 .bf16) (j : S256x1024.Idx) : EReal :=
  ∑ k : Fin 1024, x (ix2 k (j 0)) * g (ix2 k (j 1))

/-- One step adds the product of the point's blocks to what the accumulator held. -/
theorem step (acc : Vec Ideal S256x1024 .f32) (x : Vec Ideal S1024x256 .bf16) (g : Vec Ideal S1024x1024 .bf16) (j : S256x1024.Idx) :
    k0_pay2 acc x g j = acc j + part x g j := by
  unfold k0_pay2 part
  clean_types
  pointwise

/-- The block that a run's first point starts from is zero. -/
theorem zero (j : S256x1024.Idx) : k0_pay1 (F := Ideal) j = 0 := by
  unfold k0_pay1
  clean_types
  pointwise

/-- What the accumulator holds at the last point of a run: the sum of the run's products. -/
theorem carried (c : Dev nD) (t : Fin cfg0.N) (ht : t.val % 8 = 8 - 1) (j : S256x1024.Idx) :
    (outsAt0 m c t.val t.isLt).2 j = ∑ s : Fin 8, part (iblk m c 0 ⟨8 * (t.val / 8) + s.val, Pipeline.run_point_lt_of_flush t ht s⟩)
      (iblk m c 1 ⟨8 * (t.val / 8) + s.val, Pipeline.run_point_lt_of_flush t ht s⟩) j := by
  rw [Pipeline.eq_sum_fin_of_reset_step_apply_of_flush (fun n h => (outsAt0 m c n h).2) 8 (fun _ => (0 : EReal))
    (fun t j => part (iblk m c 0 t) (iblk m c 1 t) j)
    (fun t h j => by
      rw [outsAt0_A m c t h (by omega)]
      frame_out
      rw [step, zero])
    (fun t h j => by
      by_cases hl : t.val % 8 = 7
      · rw [outsAt0_C m c t h hl]
        frame_out
        simp only [read_unread_whole]
        rw [step]
      · rw [outsAt0_B m c t h hl]
        frame_out
        simp only [read_unread_whole]
        rw [step]) t ht j]
  exact zero_add _

/-- What the last point of a run writes back is what its accumulator holds. -/
theorem written (c : Dev nD) (t : Fin cfg0.N) (ht : t.val % 8 = 7) : (outsAt0 m c t.val t.isLt).1 = (outsAt0 m c t.val t.isLt).2 := by
  rw [outsAt0_C m c t (by omega) ht]
  frame_out

/-- The gradient of the weight: the sum over all rows. -/
def grad (x : Vec Ideal S8192x256 .bf16) (g : Vec Ideal S8192x1024 .bf16) : Vec Ideal S256x1024 .f32 :=
  fun i => ∑ k : Fin 8192, x (ix2 k (i 0)) * g (ix2 k (i 1))

/-- Where a point's blocks lie in their arrays. -/
theorem places : ∀ t : Fin cfg0.N, win0_0.index t = ![t.val % 8, 0] ∧ win0_1.index t = ![t.val % 8, 0]
    ∧ win0_2.index t = ![0, 0] :=
  (by decide +kernel : ∀ t : Fin grid0.N, _)

/-- The result array after the run. -/
theorem array (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  have ht : t.val % 8 = 7 := (flush0_2 t).mp hf
  have hN : t.val < 8 := lt_of_lt_of_eq t.isLt N_0
  blk_simp
  rw [after0_2, written m c t ht, carried m c t ht]
  unfold part grad
  refine Fin.sum_mul_add_congr fun s k hl => ?_
  obtain ⟨e0, e1, -⟩ := places ⟨8 * (t.val / 8) + s.val, Pipeline.run_point_lt_of_flush t ht s⟩
  obtain ⟨-, -, e2⟩ := places t
  congr 1 <;> blk_ext [iblk, V, e0, e1, e2]

end Cert.KeyValueWeight

namespace Cert.KeyValueWeight.Reference

open Idealize.ShloMosaic Idealize.ShloMosaic.TcCoe Idealize.ShloMosaic.Pointwise
open Cert.Reference26Ideal Cert.Reference26Ideal.Gen

/-- The reference comes to the same. -/
theorem eq_grad (x : Vec Ideal S8192x256 .bf16) (g : Vec Ideal S8192x1024 .bf16) :
    transpose S256x1024 [1, 0] (Host.dotGeneral (F := Ideal) dot_S8192x1024_S8192x256_S1024x256_0_0_1_1_n_n none (extf .f32 g bitsLt_bf16_f32)
      (extf .f32 x bitsLt_bf16_f32)) transposes_S1024x256_S256x1024_1_0 = Cert.KeyValueWeight.grad x g := by
  funext i
  unfold Cert.KeyValueWeight.grad
  clean_types
  pointwise
  exact Finset.sum_congr rfl fun k _ => mul_comm _ _

end Cert.KeyValueWeight.Reference

end
-- ==== Proof.KeyValueInput.lean ====
/- The gradient of the keys' and values' low-rank form: block by block the product with the
   weight's rows. -/
module

public import proofs.«01_k».proof.Defs
public import proofs.«01_k».proof.Proof.Gen.Kernel27Ideal.Value
public import proofs.«01_k».proof.Proof.Gen.Reference27Ideal.Run
public import Idealize.ShloMosaic.Lib.Pipeline.ValueKit
public import Idealize.ShloMosaic.Lib.Pointwise
public import Idealize.ShloMosaic.Lib.Pipeline.ReadBack
public import Idealize.ShloMosaic.Lib.Tactic.CleanTypes
public import Idealize.ShloMosaic.PureOps.Ideal.Laws

@[expose] public section

set_option maxRecDepth 16384

noncomputable section

namespace Cert.KeyValueInput

open Idealize.ShloMosaic Idealize.ShloMosaic.TcCoe Idealize.SL.Sem Idealize.ShloMosaic.Pointwise
open Cert.Kernel27Ideal Cert.Kernel27Ideal.Gen

variable (m : (ℓ : Loc nD τ sig) → Buf (Elt Ideal) ℓ)

/-- The accumulator after the one step: the product of the point's blocks, over the zero it starts from. -/
theorem step (x : Vec Ideal S2048x1024 .bf16) (w : Vec Ideal S256x1024 .bf16) (j : S2048x256.Idx) :
    k0_pay3 (k0_pay2 (k0_pay1 (F := Ideal)) x w) j = ∑ k : Fin 1024, x (ix2 (j 0) k) * w (ix2 (j 1) k) := by
  unfold k0_pay3 k0_pay2 k0_pay1
  clean_types
  pointwise

/-- What a point writes back. -/
theorem written (c : Dev nD) (t : Fin cfg0.N) :
    outsAt0 m c t = k0_pay3 (k0_pay2 (k0_pay1 (F := Ideal)) (iblk m c 0 t) (iblk m c 1 t)) := by
  unfold outsAt0
  frame_out

/-- The whole product. -/
def product (x : Vec Ideal S8192x1024 .bf16) (w : Vec Ideal S256x1024 .bf16) : Vec Ideal S8192x256 .bf16 :=
  fun i => ∑ k : Fin 1024, x (ix2 (i 0) k) * w (ix2 (i 1) k)

/-- Where a point's blocks lie in their arrays. -/
theorem places : ∀ t : Fin cfg0.N, win0_0.index t = ![t.val, 0] ∧ win0_1.index t = ![0, 0]
    ∧ win0_2.index t = ![t.val, 0] :=
  (by decide +kernel : ∀ t : Fin grid0.N, _)

/-- The result array after the run. -/
theorem array (c : Dev nD) : (dats m 0 c).arrAt 2 cfg0.N = product (m ((c.tc : Thread nD τ).loc main_arg1)) (m ((c.tc : Thread nD τ).loc main_arg0)) := by
  refine (dats m 0 c).arrAt_eq_of_covers 2 _ (by decide +kernel) fun t hf y => ?_
  have hN : t.val < 4 := lt_of_lt_of_eq t.isLt N_0
  blk_simp
  rw [after0_2, written m c t, step]
  unfold product
  obtain ⟨e0, e1, e2⟩ := places t
  refine Finset.sum_congr (M := EReal) rfl fun k _ => ?_
  congr 1 <;> blk_ext [iblk, V, e0, e1, e2]

end Cert.KeyValueInput

namespace Cert.KeyValueInput.Reference

open Idealize.ShloMosaic Idealize.ShloMosaic.TcCoe Idealize.ShloMosaic.Pointwise
open Cert.Reference27Ideal Cert.Reference27Ideal.Gen

/-- The reference comes to the same. -/
theorem eq_product (x : Vec Ideal S8192x1024 .bf16) (w : Vec Ideal S256x1024 .bf16) :
    truncf .bf16 (Host.dotGeneral (F := Ideal) dot_S8192x1024_S256x1024_S8192x256_1_1_0_0_n_n none (extf .f32 x bitsLt_bf16_f32) (extf .f32 w bitsLt_bf16_f32))
      bitsLt_bf16_f32 = Cert.KeyValueInput.product x w := by
  funext i
  unfold Cert.KeyValueInput.product
  clean_types
  pointwise

end Cert.KeyValueInput.Reference

end
-- ==== Proof.Latent.lean ====
/- The claims about the calls of the products that make the latent attention's queries, keys and values: each form of each call, and each reference, runs to the end with its
   arguments unchanged, and over the extended reals each call's result is its reference's. -/
module

public import proofs.«01_k».proof.Defs
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Query
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.QueryWeight
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.QueryInput
public import proofs.«01_k».proof.Proof.Gen.Kernel25
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.KeyValue
public import proofs.«01_k».proof.Proof.Gen.Kernel26
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.KeyValueWeight
public import proofs.«01_k».proof.Proof.Gen.Kernel27
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.KeyValueInput
public import Idealize.ShloMosaic.Lib.Claim
public import Idealize.ShloMosaic.Lib.Quiescent

@[expose] public section

noncomputable section

namespace Cert.Latent

open Idealize.ShloMosaic Idealize.SL.Sem

/-! ## The latent attention's queries -/

/-- The compiled form and the ideal form have the same text. -/
theorem same22 : Cert.Kernel22.defs (F := Bits) = Cert.Kernel22Ideal.defs :=
  congrArg (Pipeline.defs Cert.Kernel22Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame22 : Cert.quiescent_Kernel22 := fun m g _ => by
  rw [same22]
  exact Cert.Kernel22Ideal.Gen.frame (F := Bits) m g

/-- Over the extended reals, the call runs to the end. -/
theorem frame22_ideal : Cert.quiescent_Kernel22Ideal := fun m g _ => Cert.Kernel22Ideal.Gen.frame (F := Ideal) m g

/-- Its reference runs to the end. -/
theorem frame22_reference : Cert.quiescent_Reference22Ideal := fun m g _ =>
  (θ_run (Cert.Reference22Ideal.defs (F := Ideal)) _ _).mono (fun _ h => ⟨fun c => (h c).2, sem_eq_zero_of_no_sems rfl _⟩) (Cert.Reference22Ideal.Value.run (F := Ideal) m g)

/-- Its result is its reference's. -/
theorem value22 : Cert.algebraic_Kernel22Ideal_Reference22Ideal := by
  intro m g m' g' _ hagree
  refine ⟨fun c => Cert.Query.product (m ((c.tc : Thread Cert.Kernel22Ideal.nD Cert.Kernel22Ideal.τ).loc Cert.Kernel22Ideal.main_arg0))
          (m ((c.tc : Thread Cert.Kernel22Ideal.nD Cert.Kernel22Ideal.τ).loc Cert.Kernel22Ideal.main_arg1)), ?_, ?_⟩
  · exact (θ_run (Cert.Kernel22Ideal.defs (F := Ideal)) _ _).mono (fun _ h c => ⟨(h c).1.trans (Cert.Query.array m c), (h c).2⟩) (Cert.Kernel22Ideal.Value.run_blocks (F := Ideal) m g)
  · refine (θ_run (Cert.Reference22Ideal.defs (F := Ideal)) _ _).mono (fun _ h c => ⟨(h c).1.trans ?_, (h c).2⟩) (Cert.Reference22Ideal.Value.run (F := Ideal) m' g')
    rw [(hagree c).1, (hagree c).2]
    exact Cert.Query.Reference.eq_product _ _

/-! ## The gradient of the queries' weight -/

/-- The compiled form and the ideal form have the same text. -/
theorem same23 : Cert.Kernel23.defs (F := Bits) = Cert.Kernel23Ideal.defs :=
  congrArg (Pipeline.defs Cert.Kernel23Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame23 : Cert.quiescent_Kernel23 := fun m g _ => by
  rw [same23]
  exact Cert.Kernel23Ideal.Gen.frame (F := Bits) m g

/-- Over the extended reals, the call runs to the end. -/
theorem frame23_ideal : Cert.quiescent_Kernel23Ideal := fun m g _ => Cert.Kernel23Ideal.Gen.frame (F := Ideal) m g

/-- Its reference runs to the end. -/
theorem frame23_reference : Cert.quiescent_Reference23Ideal := fun m g _ =>
  (θ_run (Cert.Reference23Ideal.defs (F := Ideal)) _ _).mono (fun _ h => ⟨fun c => (h c).2, sem_eq_zero_of_no_sems rfl _⟩) (Cert.Reference23Ideal.Value.run (F := Ideal) m g)

/-- Its result is its reference's. -/
theorem value23 : Cert.algebraic_Kernel23Ideal_Reference23Ideal := by
  intro m g m' g' _ hagree
  refine ⟨fun c => Cert.QueryWeight.grad (m ((c.tc : Thread Cert.Kernel23Ideal.nD Cert.Kernel23Ideal.τ).loc Cert.Kernel23Ideal.main_arg0))
          (m ((c.tc : Thread Cert.Kernel23Ideal.nD Cert.Kernel23Ideal.τ).loc Cert.Kernel23Ideal.main_arg1)), ?_, ?_⟩
  · exact (θ_run (Cert.Kernel23Ideal.defs (F := Ideal)) _ _).mono (fun _ h c => ⟨(h c).1.trans (Cert.QueryWeight.array m c), (h c).2⟩) (Cert.Kernel23Ideal.Value.run_blocks (F := Ideal) m g)
  · refine (θ_run (Cert.Reference23Ideal.defs (F := Ideal)) _ _).mono (fun _ h c => ⟨(h c).1.trans ?_, (h c).2⟩) (Cert.Reference23Ideal.Value.run (F := Ideal) m' g')
    rw [(hagree c).1, (hagree c).2]
    exact Cert.QueryWeight.Reference.eq_grad _ _

/-! ## The gradient of the queries' low-rank form -/

/-- The compiled form and the ideal form have the same text. -/
theorem same24 : Cert.Kernel24.defs (F := Bits) = Cert.Kernel24Ideal.defs :=
  congrArg (Pipeline.defs Cert.Kernel24Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame24 : Cert.quiescent_Kernel24 := fun m g _ => by
  rw [same24]
  exact Cert.Kernel24Ideal.Gen.frame (F := Bits) m g

/-- Over the extended reals, the call runs to the end. -/
theorem frame24_ideal : Cert.quiescent_Kernel24Ideal := fun m g _ => Cert.Kernel24Ideal.Gen.frame (F := Ideal) m g

/-- Its reference runs to the end. -/
theorem frame24_reference : Cert.quiescent_Reference24Ideal := fun m g _ =>
  (θ_run (Cert.Reference24Ideal.defs (F := Ideal)) _ _).mono (fun _ h => ⟨fun c => (h c).2, sem_eq_zero_of_no_sems rfl _⟩) (Cert.Reference24Ideal.Value.run (F := Ideal) m g)

/-- Its result is its reference's. -/
theorem value24 : Cert.algebraic_Kernel24Ideal_Reference24Ideal := by
  intro m g m' g' _ hagree
  refine ⟨fun c => Cert.QueryInput.product (m ((c.tc : Thread Cert.Kernel24Ideal.nD Cert.Kernel24Ideal.τ).loc Cert.Kernel24Ideal.main_arg1))
          (m ((c.tc : Thread Cert.Kernel24Ideal.nD Cert.Kernel24Ideal.τ).loc Cert.Kernel24Ideal.main_arg0)), ?_, ?_⟩
  · exact (θ_run (Cert.Kernel24Ideal.defs (F := Ideal)) _ _).mono (fun _ h c => ⟨(h c).1.trans (Cert.QueryInput.array m c), (h c).2⟩) (Cert.Kernel24Ideal.Value.run_blocks (F := Ideal) m g)
  · refine (θ_run (Cert.Reference24Ideal.defs (F := Ideal)) _ _).mono (fun _ h c => ⟨(h c).1.trans ?_, (h c).2⟩) (Cert.Reference24Ideal.Value.run (F := Ideal) m' g')
    rw [(hagree c).1, (hagree c).2]
    exact Cert.QueryInput.Reference.eq_product _ _

/-! ## The latent attention's keys and values -/

/-- The compiled form and the ideal form have the same text. -/
theorem same25 : Cert.Kernel25.defs (F := Bits) = Cert.Kernel25Ideal.defs :=
  congrArg (Pipeline.defs Cert.Kernel25Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame25 : Cert.quiescent_Kernel25 := fun m g _ => by
  rw [same25]
  exact Cert.Kernel25Ideal.Gen.frame (F := Bits) m g

/-- Over the extended reals, the call runs to the end. -/
theorem frame25_ideal : Cert.quiescent_Kernel25Ideal := fun m g _ => Cert.Kernel25Ideal.Gen.frame (F := Ideal) m g

/-- Its reference runs to the end. -/
theorem frame25_reference : Cert.quiescent_Reference25Ideal := fun m g _ =>
  (θ_run (Cert.Reference25Ideal.defs (F := Ideal)) _ _).mono (fun _ h => ⟨fun c => (h c).2, sem_eq_zero_of_no_sems rfl _⟩) (Cert.Reference25Ideal.Value.run (F := Ideal) m g)

/-- Its result is its reference's. -/
theorem value25 : Cert.algebraic_Kernel25Ideal_Reference25Ideal := by
  intro m g m' g' _ hagree
  refine ⟨fun c => Cert.KeyValue.product (m ((c.tc : Thread Cert.Kernel25Ideal.nD Cert.Kernel25Ideal.τ).loc Cert.Kernel25Ideal.main_arg0))
          (m ((c.tc : Thread Cert.Kernel25Ideal.nD Cert.Kernel25Ideal.τ).loc Cert.Kernel25Ideal.main_arg1)), ?_, ?_⟩
  · exact (θ_run (Cert.Kernel25Ideal.defs (F := Ideal)) _ _).mono (fun _ h c => ⟨(h c).1.trans (Cert.KeyValue.array m c), (h c).2⟩) (Cert.Kernel25Ideal.Value.run_blocks (F := Ideal) m g)
  · refine (θ_run (Cert.Reference25Ideal.defs (F := Ideal)) _ _).mono (fun _ h c => ⟨(h c).1.trans ?_, (h c).2⟩) (Cert.Reference25Ideal.Value.run (F := Ideal) m' g')
    rw [(hagree c).1, (hagree c).2]
    exact Cert.KeyValue.Reference.eq_product _ _

/-! ## The gradient of the keys' and values' weight -/

/-- The compiled form and the ideal form have the same text. -/
theorem same26 : Cert.Kernel26.defs (F := Bits) = Cert.Kernel26Ideal.defs :=
  congrArg (Pipeline.defs Cert.Kernel26Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame26 : Cert.quiescent_Kernel26 := fun m g _ => by
  rw [same26]
  exact Cert.Kernel26Ideal.Gen.frame (F := Bits) m g

/-- Over the extended reals, the call runs to the end. -/
theorem frame26_ideal : Cert.quiescent_Kernel26Ideal := fun m g _ => Cert.Kernel26Ideal.Gen.frame (F := Ideal) m g

/-- Its reference runs to the end. -/
theorem frame26_reference : Cert.quiescent_Reference26Ideal := fun m g _ =>
  (θ_run (Cert.Reference26Ideal.defs (F := Ideal)) _ _).mono (fun _ h => ⟨fun c => (h c).2, sem_eq_zero_of_no_sems rfl _⟩) (Cert.Reference26Ideal.Value.run (F := Ideal) m g)

/-- Its result is its reference's. -/
theorem value26 : Cert.algebraic_Kernel26Ideal_Reference26Ideal := by
  intro m g m' g' _ hagree
  refine ⟨fun c => Cert.KeyValueWeight.grad (m ((c.tc : Thread Cert.Kernel26Ideal.nD Cert.Kernel26Ideal.τ).loc Cert.Kernel26Ideal.main_arg0))
          (m ((c.tc : Thread Cert.Kernel26Ideal.nD Cert.Kernel26Ideal.τ).loc Cert.Kernel26Ideal.main_arg1)), ?_, ?_⟩
  · exact (θ_run (Cert.Kernel26Ideal.defs (F := Ideal)) _ _).mono (fun _ h c => ⟨(h c).1.trans (Cert.KeyValueWeight.array m c), (h c).2⟩) (Cert.Kernel26Ideal.Value.run_blocks (F := Ideal) m g)
  · refine (θ_run (Cert.Reference26Ideal.defs (F := Ideal)) _ _).mono (fun _ h c => ⟨(h c).1.trans ?_, (h c).2⟩) (Cert.Reference26Ideal.Value.run (F := Ideal) m' g')
    rw [(hagree c).1, (hagree c).2]
    exact Cert.KeyValueWeight.Reference.eq_grad _ _

/-! ## The gradient of the keys' and values' low-rank form -/

/-- The compiled form and the ideal form have the same text. -/
theorem same27 : Cert.Kernel27.defs (F := Bits) = Cert.Kernel27Ideal.defs :=
  congrArg (Pipeline.defs Cert.Kernel27Ideal.pcfgs) (congrArg Defs.onTc (funext fun l => funext fun x => by
    match l, x with
    | 0, (t, s) => rfl
    | ⟨n + 1, h⟩, _ => exact absurd h (Nat.not_lt.2 (Nat.le_add_left _ _))))

/-- As compiled, the call runs to the end. -/
theorem frame27 : Cert.quiescent_Kernel27 := fun m g _ => by
  rw [same27]
  exact Cert.Kernel27Ideal.Gen.frame (F := Bits) m g

/-- Over the extended reals, the call runs to the end. -/
theorem frame27_ideal : Cert.quiescent_Kernel27Ideal := fun m g _ => Cert.Kernel27Ideal.Gen.frame (F := Ideal) m g

/-- Its reference runs to the end. -/
theorem frame27_reference : Cert.quiescent_Reference27Ideal := fun m g _ =>
  (θ_run (Cert.Reference27Ideal.defs (F := Ideal)) _ _).mono (fun _ h => ⟨fun c => (h c).2, sem_eq_zero_of_no_sems rfl _⟩) (Cert.Reference27Ideal.Value.run (F := Ideal) m g)

/-- Its result is its reference's. -/
theorem value27 : Cert.algebraic_Kernel27Ideal_Reference27Ideal := by
  intro m g m' g' _ hagree
  refine ⟨fun c => Cert.KeyValueInput.product (m ((c.tc : Thread Cert.Kernel27Ideal.nD Cert.Kernel27Ideal.τ).loc Cert.Kernel27Ideal.main_arg1))
          (m ((c.tc : Thread Cert.Kernel27Ideal.nD Cert.Kernel27Ideal.τ).loc Cert.Kernel27Ideal.main_arg0)), ?_, ?_⟩
  · exact (θ_run (Cert.Kernel27Ideal.defs (F := Ideal)) _ _).mono (fun _ h c => ⟨(h c).1.trans (Cert.KeyValueInput.array m c), (h c).2⟩) (Cert.Kernel27Ideal.Value.run_blocks (F := Ideal) m g)
  · refine (θ_run (Cert.Reference27Ideal.defs (F := Ideal)) _ _).mono (fun _ h c => ⟨(h c).1.trans ?_, (h c).2⟩) (Cert.Reference27Ideal.Value.run (F := Ideal) m' g')
    rw [(hagree c).1, (hagree c).2]
    exact Cert.KeyValueInput.Reference.eq_product _ _

end Cert.Latent

end
-- ==== Proof.lean ====
/- The proof of this certificate's claims: the kernel's two forms and the reference run to the end with their arguments
   unchanged, naming the mask's constant changes no operation, and over the extended reals the kernel's three results are
   the reference's; and the same of the channel mixer's calls and of the
   projections' calls, each a program of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Frame
public import proofs.«01_k».proof.Proof.Bits.Frame
public import proofs.«01_k».proof.Proof.Value
public import proofs.«01_k».proof.Proof.Mixer
public import proofs.«01_k».proof.Proof.Projections
public import proofs.«01_k».proof.Proof.Latent
public import Idealize.ShloMosaic.Lib.Claim
public import Idealize.ShloMosaic.Lib.Quiescent
public import Idealize.ShloMosaic.PureOps.IdealRules

@[expose] public section

noncomputable section

namespace Cert.Proof

open Idealize.ShloMosaic Idealize.SL.Sem

/-- The kernel as compiled runs to the end. -/
theorem frame_kernel : Cert.quiescent_Kernel := fun m g _ =>
  (θ_run (Cert.Kernel.defs (F := Bits)) _ _).mono (fun _ h => ⟨fun c => (h.1 c).2.2.2, h.2⟩) (Cert.AttnBits.runs_main (F := Bits) m g)

/-- The kernel over the extended reals runs to the end. -/
theorem frame_ideal : Cert.quiescent_KernelIdeal := fun m g _ =>
  (θ_run (Cert.KernelIdeal.defs (F := Ideal)) _ _).mono (fun _ h => ⟨fun c => (h.1 c).2.2.2, h.2⟩) (Cert.Attn.runs_main (F := Ideal) m g)

/-- The reference runs to the end. -/
theorem frame_reference : Cert.quiescent_ReferenceIdeal := fun m g _ =>
  (θ_run (Cert.ReferenceIdeal.defs (F := Ideal)) _ _).mono (fun _ h => ⟨fun c => (h c).2.2.2, sem_eq_zero_of_no_sems rfl _⟩)
    (Cert.ReferenceIdeal.Value.run (F := Ideal) m g)

attribute [local instance] Cert.AttnPre.facts

/-- The three results of the kernel over the extended reals are the reference's. -/
theorem value : Cert.algebraic_KernelIdeal_ReferenceIdeal_pre_finite := by
  intro m g m' g' hpre hagree
  have hs : ∀ c, Cert.AttnValue.Same m m' c := fun c => ⟨(hagree c).1, (hagree c).2.1, (hagree c).2.2.1, (hagree c).2.2.2⟩
  refine ⟨fun c => Cert.Attn.outDq m c, fun c => Cert.Attn.outDk m c, fun c => Cert.Attn.outDv m c, ?_, ?_⟩
  · exact (θ_run (Cert.KernelIdeal.defs (F := Ideal)) _ _).mono (fun _ h => h.1) (Cert.Attn.runs_main (F := Ideal) m g)
  · refine (θ_run (Cert.ReferenceIdeal.defs (F := Ideal)) _ _).mono (fun _ h c => ?_) (Cert.ReferenceIdeal.Value.run (F := Ideal) m' g')
    exact ⟨(h c).1.trans (Cert.AttnValue.dq_value (hs c) (hpre c)).symm, (h c).2.1.trans (Cert.AttnValue.dk_value (hs c) (hpre c)).symm,
      (h c).2.2.1.trans (Cert.AttnValue.dv_value (hs c) (hpre c)).symm, (h c).2.2.2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.AttnPre.facts,
  frame_kernel, frame_ideal, fun m g _ => frame_ideal m g trivial, frame_reference, fun m g _ => frame_reference m g trivial,
  Cert.Mixer.frame2, Cert.Mixer.frame2_ideal, Cert.Mixer.frame2_reference,
  Cert.Mixer.frame3, Cert.Mixer.frame3_ideal, Cert.Mixer.frame3_reference,
  Cert.Mixer.frame4, Cert.Mixer.frame4_ideal, Cert.Mixer.frame4_reference,
  Cert.Mixer.frame5, Cert.Mixer.frame5_ideal, Cert.Mixer.frame5_reference,
  Cert.Mixer.frame6, Cert.Mixer.frame6_ideal, Cert.Mixer.frame6_reference,
  Cert.Mixer.frame7, Cert.Mixer.frame7_ideal, Cert.Mixer.frame7_reference,
  Cert.Mixer.frame8, Cert.Mixer.frame8_ideal, Cert.Mixer.frame8_reference,
  Cert.Mixer.frame9, Cert.Mixer.frame9_ideal, Cert.Mixer.frame9_reference,
  Cert.Projections.frame10, Cert.Projections.frame10_ideal, Cert.Projections.frame10_reference,
  Cert.Projections.frame11, Cert.Projections.frame11_ideal, Cert.Projections.frame11_reference,
  Cert.Projections.frame12, Cert.Projections.frame12_ideal, Cert.Projections.frame12_reference,
  Cert.Projections.frame13, Cert.Projections.frame13_ideal, Cert.Projections.frame13_reference,
  Cert.Projections.frame14, Cert.Projections.frame14_ideal, Cert.Projections.frame14_reference,
  Cert.Projections.frame15, Cert.Projections.frame15_ideal, Cert.Projections.frame15_reference,
  Cert.Projections.frame16, Cert.Projections.frame16_ideal, Cert.Projections.frame16_reference,
  Cert.Projections.frame17, Cert.Projections.frame17_ideal, Cert.Projections.frame17_reference,
  Cert.Projections.frame18, Cert.Projections.frame18_ideal, Cert.Projections.frame18_reference,
  Cert.Projections.frame19, Cert.Projections.frame19_ideal, Cert.Projections.frame19_reference,
  Cert.Projections.frame20, Cert.Projections.frame20_ideal, Cert.Projections.frame20_reference,
  Cert.Projections.frame21, Cert.Projections.frame21_ideal, Cert.Projections.frame21_reference,
  Cert.Latent.frame22, Cert.Latent.frame22_ideal, Cert.Latent.frame22_reference,
  Cert.Latent.frame23, Cert.Latent.frame23_ideal, Cert.Latent.frame23_reference,
  Cert.Latent.frame24, Cert.Latent.frame24_ideal, Cert.Latent.frame24_reference,
  Cert.Latent.frame25, Cert.Latent.frame25_ideal, Cert.Latent.frame25_reference,
  Cert.Latent.frame26, Cert.Latent.frame26_ideal, Cert.Latent.frame26_reference,
  Cert.Latent.frame27, Cert.Latent.frame27_ideal, Cert.Latent.frame27_reference,
  IdealRules.named_const.statement Cert.KernelIdeal.κ "mask" .f32 0xF149F2CA#32 ⊥ rfl, value,
  trivial, Cert.Mixer.value2,
  trivial, Cert.Mixer.value3,
  trivial, Cert.Mixer.value4,
  trivial, Cert.Mixer.value5,
  trivial, Cert.Mixer.value6,
  trivial, Cert.Mixer.value7,
  trivial, Cert.Mixer.value8,
  trivial, Cert.Mixer.value9,
  trivial, Cert.Projections.value10,
  trivial, Cert.Projections.value11,
  trivial, Cert.Projections.value12,
  trivial, Cert.Projections.value13,
  trivial, Cert.Projections.value14,
  trivial, Cert.Projections.value15,
  trivial, Cert.Projections.value16,
  trivial, Cert.Projections.value17,
  trivial, Cert.Projections.value18,
  trivial, Cert.Projections.value19,
  trivial, Cert.Projections.value20,
  trivial, Cert.Projections.value21,
  trivial, Cert.Latent.value22,
  trivial, Cert.Latent.value23,
  trivial, Cert.Latent.value24,
  trivial, Cert.Latent.value25,
  trivial, Cert.Latent.value26,
  trivial, Cert.Latent.value27⟩

end Cert.Proof

end
